-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x3 : Shape := ⟨3, ![4, 1024, 3]⟩
abbrev S4x8192x3 : Shape := ⟨3, ![4, 8192, 3]⟩
abbrev S4x128x8192 : Shape := ⟨3, ![4, 128, 8192]⟩
abbrev S4x3x1024 : Shape := ⟨3, ![4, 3, 1024]⟩
abbrev S12288 : Shape := ⟨1, ![12288]⟩
abbrev S4x3x8192 : Shape := ⟨3, ![4, 3, 8192]⟩
abbrev S98304 : Shape := ⟨1, ![98304]⟩
abbrev S4x8192x128 : Shape := ⟨3, ![4, 8192, 128]⟩
abbrev S32768x128 : Shape := ⟨2, ![32768, 128]⟩
abbrev S393216 : Shape := ⟨1, ![393216]⟩
abbrev S131072x128 : Shape := ⟨2, ![131072, 128]⟩
abbrev S8192 : Shape := ⟨1, ![8192]⟩
abbrev S128 : Shape := ⟨1, ![128]⟩
abbrev S4096 : Shape := ⟨1, ![4096]⟩
abbrev S128x128 : Shape := ⟨2, ![128, 128]⟩
abbrev S_ : Shape := ⟨0, ![]⟩
abbrev S16 : Shape := ⟨1, ![16]⟩
abbrev S4x3x1024x32 : Shape := ⟨4, ![4, 3, 1024, 32]⟩
abbrev S4x1024x32x128 : Shape := ⟨4, ![4, 1024, 32, 128]⟩
abbrev S4x128x1024x32 : Shape := ⟨4, ![4, 128, 1024, 32]⟩

abbrev nBuf : Table → Nat
  | .hbm => 14
  | .local .scVector .vmem => 13
  | _ => 0

abbrev bufTy : (tb : Table) → Fin (nBuf tb) → BufTy
  | .hbm, ⟨0, _⟩ => ⟨S4x1024x3, .f32⟩
  | .hbm, ⟨1, _⟩ => ⟨S4x8192x3, .f32⟩
  | .hbm, ⟨2, _⟩ => ⟨S4x128x8192, .f32⟩
  | .hbm, ⟨3, _⟩ => ⟨S4x3x1024, .f32⟩
  | .hbm, ⟨4, _⟩ => ⟨S12288, .f32⟩
  | .hbm, ⟨5, _⟩ => ⟨S4x3x8192, .f32⟩
  | .hbm, ⟨6, _⟩ => ⟨S98304, .f32⟩
  | .hbm, ⟨7, _⟩ => ⟨S4x8192x128, .f32⟩
  | .hbm, ⟨8, _⟩ => ⟨S32768x128, .f32⟩
  | .hbm, ⟨9, _⟩ => ⟨S393216, .f32⟩
  | .hbm, ⟨10, _⟩ => ⟨S131072x128, .f32⟩
  | .hbm, ⟨11, _⟩ => ⟨S4x3x1024x32, .f32⟩
  | .hbm, ⟨12, _⟩ => ⟨S4x1024x32x128, .f32⟩
  | .hbm, ⟨13, _⟩ => ⟨S4x128x1024x32, .f32⟩
  | .local .scVector .vmem, ⟨0, _⟩ => ⟨S8192, .f32⟩
  | .local .scVector .vmem, ⟨1, _⟩ => ⟨S8192, .f32⟩
  | .local .scVector .vmem, ⟨2, _⟩ => ⟨S8192, .f32⟩
  | .local .scVector .vmem, ⟨3, _⟩ => ⟨S128, .f32⟩
  | .local .scVector .vmem, ⟨4, _⟩ => ⟨S128, .f32⟩
  | .local .scVector .vmem, ⟨5, _⟩ => ⟨S128, .f32⟩
  | .local .scVector .vmem, ⟨6, _⟩ => ⟨S4096, .i32⟩
  | .local .scVector .vmem, ⟨7, _⟩ => ⟨S4096, .i32⟩
  | .local .scVector .vmem, ⟨8, _⟩ => ⟨S4096, .f32⟩
  | .local .scVector .vmem, ⟨9, _⟩ => ⟨S4096, .f32⟩
  | .local .scVector .vmem, ⟨10, _⟩ => ⟨S4096, .f32⟩
  | .local .scVector .vmem, ⟨11, _⟩ => ⟨S128x128, .f32⟩
  | .local .scVector .vmem, ⟨12, _⟩ => ⟨S128x128, .f32⟩
  | _, _ => ⟨S4x1024x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v1_scv : Ref sig .scVector := ⟨.hbm, 4, rfl⟩
abbrev main_v3_scv : Ref sig .scVector := ⟨.hbm, 6, rfl⟩
abbrev main_v5_scv : Ref sig .scVector := ⟨.hbm, 8, rfl⟩
abbrev main_v6_0_scv : Ref sig .scVector := ⟨.hbm, 9, rfl⟩
abbrev main_v6_1_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c3_i32 : BitVec 32 := 3#32
  let v32 : BitVec 32 := Scalar.muli v18 c3_i32
  let c8192_i32_10 : BitVec 32 := 8192#32
  let v33 : BitVec 32 := Scalar.muli v32 c8192_i32_10
  ![v33.toNat]
def k0_off2 (i : grid0.Coords) (c8192_i32_13 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c3_i32_11 : BitVec 32 := 3#32
  let v34 : BitVec 32 := Scalar.muli v18 c3_i32_11
  let c8192_i32_12 : BitVec 32 := 8192#32
  let v35 : BitVec 32 := Scalar.muli v34 c8192_i32_12
  let v36 : BitVec 32 := Scalar.addi v35 c8192_i32_13
  ![v36.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c3_i32_16 : BitVec 32 := 3#32
  let v40 : BitVec 32 := Scalar.muli v18 c3_i32_16
  let c1024_i32 : BitVec 32 := 1024#32
  let v41 : BitVec 32 := Scalar.muli v40 c1024_i32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let v42 : BitVec 32 := Scalar.addi v41 v29
  ![v42.toNat]
def k0_off4 (i : grid0.Coords) (c1024_i32_19 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c3_i32_17 : BitVec 32 := 3#32
  let v43 : BitVec 32 := Scalar.muli v18 c3_i32_17
  let c1024_i32_18 : BitVec 32 := 1024#32
  let v44 : BitVec 32 := Scalar.muli v43 c1024_i32_18
  let v45 : BitVec 32 := Scalar.addi v44 c1024_i32_19
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let v46 : BitVec 32 := Scalar.addi v45 v29
  ![v46.toNat]
def k0_off5 (c0_i32_27 : BitVec 32) : Fin 1 → Nat :=
  let c0_i32_25 : BitVec 32 := 0#32
  let c8_i32_26 : BitVec 32 := 8#32
  let v54 : BitVec 32 := Scalar.muli c0_i32_25 c8_i32_26
  let v55 : BitVec 32 := Scalar.addi v54 c0_i32_27
  let c16_i32 : BitVec 32 := 16#32
  let v56 : BitVec 32 := Scalar.muli v55 c16_i32
  let v57 : Index := Scalar.indexCast v56
  ![v57.toNat]
@[reducible] def k0_t1_loop : Scf.Loop 32 :=
  let c0_i32_76 : BitVec 32 := 0#32
  let c8192_i32_77 : BitVec 32 := 8192#32
  let v182 : BitVec 32 := Scalar.addi c0_i32_76 c8192_i32_77
  let c1_i32_78 : BitVec 32 := 1#32
  ⟨c0_i32_76, v182, c1_i32_78⟩

def k0_chk1 (arg23 : IVec S16 32) : Prop :=
  (∀ a x, ((![arg23] : Fin 1 → IVec S16 32) a x).toNat < S8192.size a) ∧
  (∀ a x, ((![arg23] : Fin 1 → IVec S16 32) a x).toNat < S8192.size a) ∧
  (∀ a x, ((![arg23] : Fin 1 → IVec S16 32) a x).toNat < S8192.size a)
theorem k0_idx1_inb : ∀ (arg23 : IVec S16 32) (k0_hw1 : k0_chk1 arg23), ∀ a x, ((![arg23] : Fin 1 → IVec S16 32) a x).toNat < S8192.size a := fun arg23 k0_hw1 => k0_hw1.1
theorem k0_idx2_inb : ∀ (arg23 : IVec S16 32) (k0_hw1 : k0_chk1 arg23), ∀ a x, ((![arg23] : Fin 1 → IVec S16 32) a x).toNat < S8192.size a := fun arg23 k0_hw1 => k0_hw1.2.1
theorem k0_idx3_inb : ∀ (arg23 : IVec S16 32) (k0_hw1 : k0_chk1 arg23), ∀ a x, ((![arg23] : Fin 1 → IVec S16 32) a x).toNat < S8192.size a := fun arg23 k0_hw1 => k0_hw1.2.2

def k0_chk2 (v277 : IVec S16 32) : Prop :=
  (∀ a x, ((![v277] : Fin 1 → IVec S16 32) a x).toNat < S4096.size a)
theorem k0_idx4_inb : ∀ (v277 : IVec S16 32) (k0_hw2 : k0_chk2 v277), ∀ a x, ((![v277] : Fin 1 → IVec S16 32) a x).toNat < S4096.size a := fun v277 k0_hw2 => k0_hw2

def k0_chk3 (v295 : IVec S16 32) : Prop :=
  (∀ a x, ((![v295] : Fin 1 → IVec S16 32) a x).toNat < S4096.size a)
theorem k0_idx5_inb : ∀ (v295 : IVec S16 32) (k0_hw3 : k0_chk3 v295), ∀ a x, ((![v295] : Fin 1 → IVec S16 32) a x).toNat < S4096.size a := fun v295 k0_hw3 => k0_hw3

def k0_chk4 (v313 : IVec S16 32) : Prop :=
  (∀ a x, ((![v313] : Fin 1 → IVec S16 32) a x).toNat < S4096.size a)
theorem k0_idx6_inb : ∀ (v313 : IVec S16 32) (k0_hw4 : k0_chk4 v313), ∀ a x, ((![v313] : Fin 1 → IVec S16 32) a x).toNat < S4096.size a := fun v313 k0_hw4 => k0_hw4

def k0_chk5 (v331 : IVec S16 32) : Prop :=
  (∀ a x, ((![v331] : Fin 1 → IVec S16 32) a x).toNat < S4096.size a)
theorem k0_idx7_inb : ∀ (v331 : IVec S16 32) (k0_hw5 : k0_chk5 v331), ∀ a x, ((![v331] : Fin 1 → IVec S16 32) a x).toNat < S4096.size a := fun v331 k0_hw5 => k0_hw5

def k0_chk6 (v349 : IVec S16 32) : Prop :=
  (∀ a x, ((![v349] : Fin 1 → IVec S16 32) a x).toNat < S4096.size a)
theorem k0_idx8_inb : ∀ (v349 : IVec S16 32) (k0_hw6 : k0_chk6 v349), ∀ a x, ((![v349] : Fin 1 → IVec S16 32) a x).toNat < S4096.size a := fun v349 k0_hw6 => k0_hw6

def k0_chk7 (v367 : IVec S16 32) : Prop :=
  (∀ a x, ((![v367] : Fin 1 → IVec S16 32) a x).toNat < S4096.size a)
theorem k0_idx9_inb : ∀ (v367 : IVec S16 32) (k0_hw7 : k0_chk7 v367), ∀ a x, ((![v367] : Fin 1 → IVec S16 32) a x).toNat < S4096.size a := fun v367 k0_hw7 => k0_hw7

def k0_chk8 (v385 : IVec S16 32) : Prop :=
  (∀ a x, ((![v385] : Fin 1 → IVec S16 32) a x).toNat < S4096.size a)
theorem k0_idx10_inb : ∀ (v385 : IVec S16 32) (k0_hw8 : k0_chk8 v385), ∀ a x, ((![v385] : Fin 1 → IVec S16 32) a x).toNat < S4096.size a := fun v385 k0_hw8 => k0_hw8

def k0_chk9 (v403 : IVec S16 32) : Prop :=
  (∀ a x, ((![v403] : Fin 1 → IVec S16 32) a x).toNat < S4096.size a)
theorem k0_idx11_inb : ∀ (v403 : IVec S16 32) (k0_hw9 : k0_chk9 v403), ∀ a x, ((![v403] : Fin 1 → IVec S16 32) a x).toNat < S4096.size a := fun v403 k0_hw9 => k0_hw9

def k0_chk10 (v69 : IVec S16 32) : Prop :=
  (∀ a x, ((![v69] : Fin 1 → IVec S16 32) a x).toNat < S4096.size a)
theorem k0_idx12_inb : ∀ (v69 : IVec S16 32) (k0_hw10 : k0_chk10 v69), ∀ a x, ((![v69] : Fin 1 → IVec S16 32) a x).toNat < S4096.size a := fun v69 k0_hw10 => k0_hw10
@[reducible] def k0_t2_loop : Scf.Loop 32 :=
  let c0_i32_82 : BitVec 32 := 0#32
  let c32_i32_83 : BitVec 32 := 32#32
  let v188 : BitVec 32 := Scalar.addi c0_i32_82 c32_i32_83
  let c1_i32_84 : BitVec 32 := 1#32
  ⟨c0_i32_82, v188, c1_i32_84⟩

def k0_chk11 (v260 : IVec S16 32) : Prop :=
  (∀ a x, ((![v260] : Fin 1 → IVec S16 32) a x).toNat < S4096.size a)
theorem k0_idx13_inb : ∀ (v260 : IVec S16 32) (k0_hw11 : k0_chk11 v260), ∀ a x, ((![v260] : Fin 1 → IVec S16 32) a x).toNat < S4096.size a := fun v260 k0_hw11 => k0_hw11

def k0_chk12 (v85 : IVec S16 32) : Prop :=
  (∀ a x, ((![v85] : Fin 1 → IVec S16 32) a x).toNat < S4096.size a)
theorem k0_idx14_inb : ∀ (v85 : IVec S16 32) (k0_hw12 : k0_chk12 v85), ∀ a x, ((![v85] : Fin 1 → IVec S16 32) a x).toNat < S4096.size a := fun v85 k0_hw12 => k0_hw12
@[reducible] def k0_t3_loop : Scf.Loop 32 :=
  let c0_i32_88 : BitVec 32 := 0#32
  let c32_i32_89 : BitVec 32 := 32#32
  let v194 : BitVec 32 := Scalar.addi c0_i32_88 c32_i32_89
  let c1_i32_90 : BitVec 32 := 1#32
  ⟨c0_i32_88, v194, c1_i32_90⟩

def k0_chk13 (v260 : IVec S16 32) : Prop :=
  (∀ a x, ((![v260] : Fin 1 → IVec S16 32) a x).toNat < S4096.size a)
theorem k0_idx15_inb : ∀ (v260 : IVec S16 32) (k0_hw13 : k0_chk13 v260), ∀ a x, ((![v260] : Fin 1 → IVec S16 32) a x).toNat < S4096.size a := fun v260 k0_hw13 => k0_hw13

def k0_chk14 (v101 : IVec S16 32) : Prop :=
  (∀ a x, ((![v101] : Fin 1 → IVec S16 32) a x).toNat < S4096.size a)
theorem k0_idx16_inb : ∀ (v101 : IVec S16 32) (k0_hw14 : k0_chk14 v101), ∀ a x, ((![v101] : Fin 1 → IVec S16 32) a x).toNat < S4096.size a := fun v101 k0_hw14 => k0_hw14
@[reducible] def k0_t4_loop : Scf.Loop 32 :=
  let c0_i32_94 : BitVec 32 := 0#32
  let c32_i32_95 : BitVec 32 := 32#32
  let v200 : BitVec 32 := Scalar.addi c0_i32_94 c32_i32_95
  let c1_i32_96 : BitVec 32 := 1#32
  ⟨c0_i32_94, v200, c1_i32_96⟩

def k0_chk15 (v260 : IVec S16 32) : Prop :=
  (∀ a x, ((![v260] : Fin 1 → IVec S16 32) a x).toNat < S4096.size a)
theorem k0_idx17_inb : ∀ (v260 : IVec S16 32) (k0_hw15 : k0_chk15 v260), ∀ a x, ((![v260] : Fin 1 → IVec S16 32) a x).toNat < S4096.size a := fun v260 k0_hw15 => k0_hw15

def k0_chk16 (v117 : IVec S16 32) : Prop :=
  (∀ a x, ((![v117] : Fin 1 → IVec S16 32) a x).toNat < S4096.size a)
theorem k0_idx18_inb : ∀ (v117 : IVec S16 32) (k0_hw16 : k0_chk16 v117), ∀ a x, ((![v117] : Fin 1 → IVec S16 32) a x).toNat < S4096.size a := fun v117 k0_hw16 => k0_hw16
@[reducible] def k0_t5_loop : Scf.Loop 32 :=
  let c0_i32_100 : BitVec 32 := 0#32
  let c32_i32_101 : BitVec 32 := 32#32
  let v206 : BitVec 32 := Scalar.addi c0_i32_100 c32_i32_101
  let c1_i32_102 : BitVec 32 := 1#32
  ⟨c0_i32_100, v206, c1_i32_102⟩

def k0_chk17 (v260 : IVec S16 32) : Prop :=
  (∀ a x, ((![v260] : Fin 1 → IVec S16 32) a x).toNat < S4096.size a)
theorem k0_idx19_inb : ∀ (v260 : IVec S16 32) (k0_hw17 : k0_chk17 v260), ∀ a x, ((![v260] : Fin 1 → IVec S16 32) a x).toNat < S4096.size a := fun v260 k0_hw17 => k0_hw17

def k0_chk18 (v133 : IVec S16 32) : Prop :=
  (∀ a x, ((![v133] : Fin 1 → IVec S16 32) a x).toNat < S4096.size a)
theorem k0_idx20_inb : ∀ (v133 : IVec S16 32) (k0_hw18 : k0_chk18 v133), ∀ a x, ((![v133] : Fin 1 → IVec S16 32) a x).toNat < S4096.size a := fun v133 k0_hw18 => k0_hw18
@[reducible] def k0_t6_loop : Scf.Loop 32 :=
  let c0_i32_106 : BitVec 32 := 0#32
  let c32_i32_107 : BitVec 32 := 32#32
  let v212 : BitVec 32 := Scalar.addi c0_i32_106 c32_i32_107
  let c1_i32_108 : BitVec 32 := 1#32
  ⟨c0_i32_106, v212, c1_i32_108⟩

def k0_chk19 (v260 : IVec S16 32) : Prop :=
  (∀ a x, ((![v260] : Fin 1 → IVec S16 32) a x).toNat < S4096.size a)
theorem k0_idx21_inb : ∀ (v260 : IVec S16 32) (k0_hw19 : k0_chk19 v260), ∀ a x, ((![v260] : Fin 1 → IVec S16 32) a x).toNat < S4096.size a := fun v260 k0_hw19 => k0_hw19

def k0_chk20 (v149 : IVec S16 32) : Prop :=
  (∀ a x, ((![v149] : Fin 1 → IVec S16 32) a x).toNat < S4096.size a)
theorem k0_idx22_inb : ∀ (v149 : IVec S16 32) (k0_hw20 : k0_chk20 v149), ∀ a x, ((![v149] : Fin 1 → IVec S16 32) a x).toNat < S4096.size a := fun v149 k0_hw20 => k0_hw20
@[reducible] def k0_t7_loop : Scf.Loop 32 :=
  let c0_i32_112 : BitVec 32 := 0#32
  let c32_i32_113 : BitVec 32 := 32#32
  let v218 : BitVec 32 := Scalar.addi c0_i32_112 c32_i32_113
  let c1_i32_114 : BitVec 32 := 1#32
  ⟨c0_i32_112, v218, c1_i32_114⟩

def k0_chk21 (v260 : IVec S16 32) : Prop :=
  (∀ a x, ((![v260] : Fin 1 → IVec S16 32) a x).toNat < S4096.size a)
theorem k0_idx23_inb : ∀ (v260 : IVec S16 32) (k0_hw21 : k0_chk21 v260), ∀ a x, ((![v260] : Fin 1 → IVec S16 32) a x).toNat < S4096.size a := fun v260 k0_hw21 => k0_hw21

def k0_chk22 (v165 : IVec S16 32) : Prop :=
  (∀ a x, ((![v165] : Fin 1 → IVec S16 32) a x).toNat < S4096.size a)
theorem k0_idx24_inb : ∀ (v165 : IVec S16 32) (k0_hw22 : k0_chk22 v165), ∀ a x, ((![v165] : Fin 1 → IVec S16 32) a x).toNat < S4096.size a := fun v165 k0_hw22 => k0_hw22
@[reducible] def k0_t8_loop : Scf.Loop 32 :=
  let c0_i32_118 : BitVec 32 := 0#32
  let c32_i32_119 : BitVec 32 := 32#32
  let v224 : BitVec 32 := Scalar.addi c0_i32_118 c32_i32_119
  let c1_i32_120 : BitVec 32 := 1#32
  ⟨c0_i32_118, v224, c1_i32_120⟩

def k0_chk23 (v260 : IVec S16 32) : Prop :=
  (∀ a x, ((![v260] : Fin 1 → IVec S16 32) a x).toNat < S4096.size a)
theorem k0_idx25_inb : ∀ (v260 : IVec S16 32) (k0_hw23 : k0_chk23 v260), ∀ a x, ((![v260] : Fin 1 → IVec S16 32) a x).toNat < S4096.size a := fun v260 k0_hw23 => k0_hw23

def k0_chk24 (v181 : IVec S16 32) : Prop :=
  (∀ a x, ((![v181] : Fin 1 → IVec S16 32) a x).toNat < S4096.size a)
theorem k0_idx26_inb : ∀ (v181 : IVec S16 32) (k0_hw24 : k0_chk24 v181), ∀ a x, ((![v181] : Fin 1 → IVec S16 32) a x).toNat < S4096.size a := fun v181 k0_hw24 => k0_hw24
@[reducible] def k0_t9_loop : Scf.Loop 32 :=
  let c0_i32_124 : BitVec 32 := 0#32
  let c32_i32_125 : BitVec 32 := 32#32
  let v230 : BitVec 32 := Scalar.addi c0_i32_124 c32_i32_125
  let c1_i32_126 : BitVec 32 := 1#32
  ⟨c0_i32_124, v230, c1_i32_126⟩

def k0_chk25 (v260 : IVec S16 32) : Prop :=
  (∀ a x, ((![v260] : Fin 1 → IVec S16 32) a x).toNat < S4096.size a)
theorem k0_idx27_inb : ∀ (v260 : IVec S16 32) (k0_hw25 : k0_chk25 v260), ∀ a x, ((![v260] : Fin 1 → IVec S16 32) a x).toNat < S4096.size a := fun v260 k0_hw25 => k0_hw25
@[reducible] def k0_t10_loop : Scf.Loop 32 :=
  let c0_i32_131 : BitVec 32 := 0#32
  let c128_i32_132 : BitVec 32 := 128#32
  let v233 : BitVec 32 := Scalar.addi c0_i32_131 c128_i32_132
  let c1_i32_133 : BitVec 32 := 1#32
  ⟨c0_i32_131, v233, c1_i32_133⟩

def k0_chk26 (v259 : IVec S16 32) : Prop :=
  (∀ a x, ((![v259] : Fin 1 → IVec S16 32) a x).toNat < S128.size a) ∧
  (∀ a x, ((![v259] : Fin 1 → IVec S16 32) a x).toNat < S128.size a) ∧
  (∀ a x, ((![v259] : Fin 1 → IVec S16 32) a x).toNat < S128.size a)
theorem k0_idx28_inb : ∀ (v259 : IVec S16 32) (k0_hw26 : k0_chk26 v259), ∀ a x, ((![v259] : Fin 1 → IVec S16 32) a x).toNat < S128.size a := fun v259 k0_hw26 => k0_hw26.1
theorem k0_idx29_inb : ∀ (v259 : IVec S16 32) (k0_hw26 : k0_chk26 v259), ∀ a x, ((![v259] : Fin 1 → IVec S16 32) a x).toNat < S128.size a := fun v259 k0_hw26 => k0_hw26.2.1
theorem k0_idx30_inb : ∀ (v259 : IVec S16 32) (k0_hw26 : k0_chk26 v259), ∀ a x, ((![v259] : Fin 1 → IVec S16 32) a x).toNat < S128.size a := fun v259 k0_hw26 => k0_hw26.2.2
def k0_off6 (k0_t10 : Fin k0_t10_loop.trips) : Fin 1 → Nat :=
  let c0_i32_131 : BitVec 32 := 0#32
  let c1_i32_133 : BitVec 32 := 1#32
  let arg22 : BitVec 32 := Scf.iv c0_i32_131 c1_i32_133 k0_t10
  let c32_i32_161 : BitVec 32 := 32#32
  let v263 : BitVec 32 := Scalar.muli arg22 c32_i32_161
  let c0_i32_162 : BitVec 32 := 0#32
  let v264 : BitVec 32 := Scalar.addi v263 c0_i32_162
  let v265 : Index := Scalar.indexCast v264
  ![v265.toNat]

def k0_chk27 (v266 : IVec S16 32) : Prop :=
  (∀ a x, ((![v266] : Fin 1 → IVec S16 32) a x).toNat < S8192.size a) ∧
  (∀ a x, ((![v266] : Fin 1 → IVec S16 32) a x).toNat < S8192.size a) ∧
  (∀ a x, ((![v266] : Fin 1 → IVec S16 32) a x).toNat < S8192.size a)
theorem k0_idx31_inb : ∀ (v266 : IVec S16 32) (k0_hw27 : k0_chk27 v266), ∀ a x, ((![v266] : Fin 1 → IVec S16 32) a x).toNat < S8192.size a := fun v266 k0_hw27 => k0_hw27.1
theorem k0_idx32_inb : ∀ (v266 : IVec S16 32) (k0_hw27 : k0_chk27 v266), ∀ a x, ((![v266] : Fin 1 → IVec S16 32) a x).toNat < S8192.size a := fun v266 k0_hw27 => k0_hw27.2.1
theorem k0_idx33_inb : ∀ (v266 : IVec S16 32) (k0_hw27 : k0_chk27 v266), ∀ a x, ((![v266] : Fin 1 → IVec S16 32) a x).toNat < S8192.size a := fun v266 k0_hw27 => k0_hw27.2.2
def k0_off7 (k0_t10 : Fin k0_t10_loop.trips) (c0_i32_162 : BitVec 32) : Fin 1 → Nat :=
  let c0_i32_131 : BitVec 32 := 0#32
  let c1_i32_133 : BitVec 32 := 1#32
  let arg22 : BitVec 32 := Scf.iv c0_i32_131 c1_i32_133 k0_t10
  let c32_i32_161 : BitVec 32 := 32#32
  let v263 : BitVec 32 := Scalar.muli arg22 c32_i32_161
  let v264 : BitVec 32 := Scalar.addi v263 c0_i32_162
  let v271 : Index := Scalar.indexCast v264
  ![v271.toNat]

def k0_chk28 (v285 : IVec S16 32) : Prop :=
  (∀ a x, ((![v285] : Fin 1 → IVec S16 32) a x).toNat < S8192.size a) ∧
  (∀ a x, ((![v285] : Fin 1 → IVec S16 32) a x).toNat < S8192.size a) ∧
  (∀ a x, ((![v285] : Fin 1 → IVec S16 32) a x).toNat < S8192.size a)
theorem k0_idx34_inb : ∀ (v285 : IVec S16 32) (k0_hw28 : k0_chk28 v285), ∀ a x, ((![v285] : Fin 1 → IVec S16 32) a x).toNat < S8192.size a := fun v285 k0_hw28 => k0_hw28.1
theorem k0_idx35_inb : ∀ (v285 : IVec S16 32) (k0_hw28 : k0_chk28 v285), ∀ a x, ((![v285] : Fin 1 → IVec S16 32) a x).toNat < S8192.size a := fun v285 k0_hw28 => k0_hw28.2.1
theorem k0_idx36_inb : ∀ (v285 : IVec S16 32) (k0_hw28 : k0_chk28 v285), ∀ a x, ((![v285] : Fin 1 → IVec S16 32) a x).toNat < S8192.size a := fun v285 k0_hw28 => k0_hw28.2.2
def k0_off8 (k0_t10 : Fin k0_t10_loop.trips) : Fin 1 → Nat :=
  let c0_i32_131 : BitVec 32 := 0#32
  let c1_i32_133 : BitVec 32 := 1#32
  let arg22 : BitVec 32 := Scf.iv c0_i32_131 c1_i32_133 k0_t10
  let c32_i32_163 : BitVec 32 := 32#32
  let v282 : BitVec 32 := Scalar.muli arg22 c32_i32_163
  let c16_i32_164 : BitVec 32 := 16#32
  let v283 : BitVec 32 := Scalar.addi v282 c16_i32_164
  let v290 : Index := Scalar.indexCast v283
  ![v290.toNat]
def k0_off9 (i : grid0.Coords) (c0_i32_136 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c3_i32_135 : BitVec 32 := 3#32
  let v235 : BitVec 32 := Scalar.muli v18 c3_i32_135
  let v236 : BitVec 32 := Scalar.addi v235 c0_i32_136
  let c1024_i32_137 : BitVec 32 := 1024#32
  let v237 : BitVec 32 := Scalar.muli v236 c1024_i32_137
  let c32_i32_138 : BitVec 32 := 32#32
  let v238 : BitVec 32 := Scalar.muli v237 c32_i32_138
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let c32_i32_139 : BitVec 32 := 32#32
  let v239 : BitVec 32 := Scalar.muli v29 c32_i32_139
  let v240 : BitVec 32 := Scalar.addi v238 v239
  ![v240.toNat]
@[reducible] def k0_t11_loop : Scf.Loop 32 :=
  let c0_i32_157 : BitVec 32 := 0#32
  let c16_i32_158 : BitVec 32 := 16#32
  let v257 : BitVec 32 := Scalar.addi c0_i32_157 c16_i32_158
  let c1_i32_159 : BitVec 32 := 1#32
  ⟨c0_i32_157, v257, c1_i32_159⟩
def k0_off10 (k0_t11 : Fin k0_t11_loop.trips) : Fin 1 → Nat :=
  let c0_i32_157 : BitVec 32 := 0#32
  let c1_i32_159 : BitVec 32 := 1#32
  let arg22 : BitVec 32 := Scf.iv c0_i32_157 c1_i32_159 k0_t11
  let c2_i32_161 : BitVec 32 := 2#32
  let v259 : BitVec 32 := Scalar.muli arg22 c2_i32_161
  let c128_i32_164 : BitVec 32 := 128#32
  let v262 : BitVec 32 := Scalar.muli v259 c128_i32_164
  ![v262.toNat]
def k0_off11 (i : grid0.Coords) (k0_t11 : Fin k0_t11_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v31 : BitVec 32 := Scalar.muli v1 c4096_i32
  let c0_i32_157 : BitVec 32 := 0#32
  let c1_i32_159 : BitVec 32 := 1#32
  let arg22 : BitVec 32 := Scf.iv c0_i32_157 c1_i32_159 k0_t11
  let c2_i32_161 : BitVec 32 := 2#32
  let v259 : BitVec 32 := Scalar.muli arg22 c2_i32_161
  let c128_i32_167 : BitVec 32 := 128#32
  let v265 : BitVec 32 := Scalar.muli v259 c128_i32_167
  let v266 : BitVec 32 := Scalar.addi v31 v265
  let c0_i32_179_r9 : BitVec 32 := 0#32
  ![v266.toNat, 0]
def k0_cond1 (k0_t11 : Fin k0_t11_loop.trips) : BitVec 1 :=
  let c0_i32_157 : BitVec 32 := 0#32
  let c1_i32_159 : BitVec 32 := 1#32
  let arg22 : BitVec 32 := Scf.iv c0_i32_157 c1_i32_159 k0_t11
  let c2_i32_161 : BitVec 32 := 2#32
  let v259 : BitVec 32 := Scalar.muli arg22 c2_i32_161
  let c2_i32_168 : BitVec 32 := 2#32
  let v267 : BitVec 32 := Scalar.addi v259 c2_i32_168
  let c32_i32_169 : BitVec 32 := 32#32
  let v268 : BitVec 1 := Scalar.cmpi .slt v267 c32_i32_169
  let v269 : BitVec 32 := Scalar.extui v268
  let c0_i32_170 : BitVec 32 := 0#32
  let v270 : BitVec 1 := Scalar.cmpi .ne v269 c0_i32_170
  v270

def k0_off12 (k0_t11 : Fin k0_t11_loop.trips) : Fin 1 → Nat :=
  let c0_i32_157 : BitVec 32 := 0#32
  let c1_i32_159 : BitVec 32 := 1#32
  let arg22 : BitVec 32 := Scf.iv c0_i32_157 c1_i32_159 k0_t11
  let c2_i32_161 : BitVec 32 := 2#32
  let v259 : BitVec 32 := Scalar.muli arg22 c2_i32_161
  let c2_i32_179 : BitVec 32 := 2#32
  let v280 : BitVec 32 := Scalar.addi v259 c2_i32_179
  let c128_i32_180 : BitVec 32 := 128#32
  let v281 : BitVec 32 := Scalar.muli v280 c128_i32_180
  ![v281.toNat]
def k0_off13 (k0_t11 : Fin k0_t11_loop.trips) : Fin 1 → Nat :=
  let c0_i32_157 : BitVec 32 := 0#32
  let c1_i32_159 : BitVec 32 := 1#32
  let arg22 : BitVec 32 := Scf.iv c0_i32_157 c1_i32_159 k0_t11
  let c2_i32_162 : BitVec 32 := 2#32
  let v260 : BitVec 32 := Scalar.muli arg22 c2_i32_162
  let c1_i32_163 : BitVec 32 := 1#32
  let v261 : BitVec 32 := Scalar.addi v260 c1_i32_163
  let c128_i32_171 : BitVec 32 := 128#32
  let v271 : BitVec 32 := Scalar.muli v261 c128_i32_171
  ![v271.toNat]
def k0_off14 (i : grid0.Coords) (k0_t11 : Fin k0_t11_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v31 : BitVec 32 := Scalar.muli v1 c4096_i32
  let c0_i32_157 : BitVec 32 := 0#32
  let c1_i32_159 : BitVec 32 := 1#32
  let arg22 : BitVec 32 := Scf.iv c0_i32_157 c1_i32_159 k0_t11
  let c2_i32_162 : BitVec 32 := 2#32
  let v260 : BitVec 32 := Scalar.muli arg22 c2_i32_162
  let c1_i32_163 : BitVec 32 := 1#32
  let v261 : BitVec 32 := Scalar.addi v260 c1_i32_163
  let c128_i32_174 : BitVec 32 := 128#32
  let v274 : BitVec 32 := Scalar.muli v261 c128_i32_174
  let v275 : BitVec 32 := Scalar.addi v31 v274
  let c0_i32_179_r10 : BitVec 32 := 0#32
  ![v275.toNat, 0]
def k0_cond2 (k0_t11 : Fin k0_t11_loop.trips) : BitVec 1 :=
  let c0_i32_157 : BitVec 32 := 0#32
  let c1_i32_159 : BitVec 32 := 1#32
  let arg22 : BitVec 32 := Scf.iv c0_i32_157 c1_i32_159 k0_t11
  let c2_i32_162 : BitVec 32 := 2#32
  let v260 : BitVec 32 := Scalar.muli arg22 c2_i32_162
  let c1_i32_163 : BitVec 32 := 1#32
  let v261 : BitVec 32 := Scalar.addi v260 c1_i32_163
  let c2_i32_175 : BitVec 32 := 2#32
  let v276 : BitVec 32 := Scalar.addi v261 c2_i32_175
  let c32_i32_176 : BitVec 32 := 32#32
  let v277 : BitVec 1 := Scalar.cmpi .slt v276 c32_i32_176
  let v278 : BitVec 32 := Scalar.extui v277
  let c0_i32_177 : BitVec 32 := 0#32
  let v279 : BitVec 1 := Scalar.cmpi .ne v278 c0_i32_177
  v279

def k0_off15 (k0_t11 : Fin k0_t11_loop.trips) : Fin 1 → Nat :=
  let c0_i32_157 : BitVec 32 := 0#32
  let c1_i32_159 : BitVec 32 := 1#32
  let arg22 : BitVec 32 := Scf.iv c0_i32_157 c1_i32_159 k0_t11
  let c2_i32_162 : BitVec 32 := 2#32
  let v260 : BitVec 32 := Scalar.muli arg22 c2_i32_162
  let c1_i32_163 : BitVec 32 := 1#32
  let v261 : BitVec 32 := Scalar.addi v260 c1_i32_163
  let c2_i32_179 : BitVec 32 := 2#32
  let v280 : BitVec 32 := Scalar.addi v261 c2_i32_179
  let c128_i32_180 : BitVec 32 := 128#32
  let v281 : BitVec 32 := Scalar.muli v280 c128_i32_180
  ![v281.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x1024x3 : Shape := ⟨3, ![4, 1024, 3]⟩
abbrev S4x8192x3 : Shape := ⟨3, ![4, 8192, 3]⟩
abbrev S4x128x8192 : Shape := ⟨3, ![4, 128, 8192]⟩
abbrev S4x1024x1x3 : Shape := ⟨4, ![4, 1024, 1, 3]⟩
abbrev S4x1x8192x3 : Shape := ⟨4, ![4, 1, 8192, 3]⟩
abbrev S4x1024x8192x3 : Shape := ⟨4, ![4, 1024, 8192, 3]⟩
abbrev S_ : Shape := ⟨0, ![]⟩
abbrev S4x1024x8192 : Shape := ⟨3, ![4, 1024, 8192]⟩
abbrev S8192 : Shape := ⟨1, ![8192]⟩
abbrev S1x1x8192 : Shape := ⟨3, ![1, 1, 8192]⟩
abbrev S4x1024x32 : Shape := ⟨3, ![4, 1024, 32]⟩
abbrev S4x1024x1 : Shape := ⟨3, ![4, 1024, 1]⟩
abbrev S4x3x8192 : Shape := ⟨3, ![4, 3, 8192]⟩
abbrev S4x1024x32x1 : Shape := ⟨4, ![4, 1024, 32, 1]⟩
abbrev S4x3x1024x32 : Shape := ⟨4, ![4, 3, 1024, 32]⟩
abbrev S4x3x1024 : Shape := ⟨3, ![4, 3, 1024]⟩
abbrev S4x3x1024x1 : Shape := ⟨4, ![4, 3, 1024, 1]⟩
abbrev S4x128x1024x32 : Shape := ⟨4, ![4, 128, 1024, 32]⟩

abbrev nBuf : Space → Nat
  | .hbm => 57
  | .vmem => 0
  | .smem => 0
  | _ => 0

abbrev bufTy : (tb : Table) → Fin (tcTables nBuf tb) → BufTy
  | .hbm, ⟨0, _⟩ => ⟨S4x1024x3, .f32⟩
  | .hbm, ⟨1, _⟩ => ⟨S4x8192x3, .f32⟩
  | .hbm, ⟨2, _⟩ => ⟨S4x128x8192, .f32⟩
  | .hbm, ⟨3, _⟩ => ⟨S4x1024x1x3, .f32⟩
  | .hbm, ⟨4, _⟩ => ⟨S4x1x8192x3, .f32⟩
  | .hbm, ⟨5, _⟩ => ⟨S4x1024x8192x3, .f32⟩
  | .hbm, ⟨6, _⟩ => ⟨S4x1024x8192x3, .f32⟩
  | .hbm, ⟨7, _⟩ => ⟨S4x1024x8192x3, .f32⟩
  | .hbm, ⟨8, _⟩ => ⟨S4x1024x8192x3, .f32⟩
  | .hbm, ⟨9, _⟩ => ⟨S_, .f32⟩
  | .hbm, ⟨10, _⟩ => ⟨S4x1024x8192, .f32⟩
  | .hbm, ⟨11, _⟩ => ⟨S_, .f32⟩
  | .hbm, ⟨12, _⟩ => ⟨S4x1024x8192, .f32⟩
  | .hbm, ⟨13, _⟩ => ⟨S4x1024x8192, .i1⟩
  | .hbm, ⟨14, _⟩ => ⟨S8192, .i32⟩
  | .hbm, ⟨15, _⟩ => ⟨S1x1x8192, .i32⟩
  | .hbm, ⟨16, _⟩ => ⟨S_, .i32⟩
  | .hbm, ⟨17, _⟩ => ⟨S4x1024x8192, .i32⟩
  | .hbm, ⟨18, _⟩ => ⟨S4x1024x8192, .i32⟩
  | .hbm, ⟨19, _⟩ => ⟨S4x1024x8192, .i32⟩
  | .hbm, ⟨20, _⟩ => ⟨S4x1024x8192, .i32⟩
  | .hbm, ⟨21, _⟩ => ⟨S4x1024x32, .i32⟩
  | .hbm, ⟨22, _⟩ => ⟨S4x1024x1, .i32⟩
  | .hbm, ⟨23, _⟩ => ⟨S_, .i32⟩
  | .hbm, ⟨24, _⟩ => ⟨S4x1024x1, .i32⟩
  | .hbm, ⟨25, _⟩ => ⟨S4x1024x1, .i1⟩
  | .hbm, ⟨26, _⟩ => ⟨S_, .i32⟩
  | .hbm, ⟨27, _⟩ => ⟨S4x1024x1, .i32⟩
  | .hbm, ⟨28, _⟩ => ⟨S4x1024x1, .i32⟩
  | .hbm, ⟨29, _⟩ => ⟨S_, .i32⟩
  | .hbm, ⟨30, _⟩ => ⟨S4x1024x32, .i32⟩
  | .hbm, ⟨31, _⟩ => ⟨S4x1024x32, .i1⟩
  | .hbm, ⟨32, _⟩ => ⟨S4x1024x32, .i32⟩
  | .hbm, ⟨33, _⟩ => ⟨S4x1024x32, .i32⟩
  | .hbm, ⟨34, _⟩ => ⟨S4x3x8192, .f32⟩
  | .hbm, ⟨35, _⟩ => ⟨S_, .i32⟩
  | .hbm, ⟨36, _⟩ => ⟨S4x1024x32, .i32⟩
  | .hbm, ⟨37, _⟩ => ⟨S4x1024x32, .i1⟩
  | .hbm, ⟨38, _⟩ => ⟨S_, .i32⟩
  | .hbm, ⟨39, _⟩ => ⟨S4x1024x32, .i32⟩
  | .hbm, ⟨40, _⟩ => ⟨S4x1024x32, .i32⟩
  | .hbm, ⟨41, _⟩ => ⟨S4x1024x32, .i32⟩
  | .hbm, ⟨42, _⟩ => ⟨S4x1024x32x1, .i32⟩
  | .hbm, ⟨43, _⟩ => ⟨S4x3x1024x32, .f32⟩
  | .hbm, ⟨44, _⟩ => ⟨S4x3x1024, .f32⟩
  | .hbm, ⟨45, _⟩ => ⟨S4x3x1024x1, .f32⟩
  | .hbm, ⟨46, _⟩ => ⟨S4x3x1024x32, .f32⟩
  | .hbm, ⟨47, _⟩ => ⟨S4x3x1024x32, .f32⟩
  | .hbm, ⟨48, _⟩ => ⟨S_, .i32⟩
  | .hbm, ⟨49, _⟩ => ⟨S4x1024x32, .i32⟩
  | .hbm, ⟨50, _⟩ => ⟨S4x1024x32, .i1⟩
  | .hbm, ⟨51, _⟩ => ⟨S_, .i32⟩
  | .hbm, ⟨52, _⟩ => ⟨S4x1024x32, .i32⟩
  | .hbm, ⟨53, _⟩ => ⟨S4x1024x32, .i32⟩
  | .hbm, ⟨54, _⟩ => ⟨S4x1024x32, .i32⟩
  | .hbm, ⟨55, _⟩ => ⟨S4x1024x32x1, .i32⟩
  | .hbm, ⟨56, _⟩ => ⟨S4x128x1024x32, .f32⟩
  | _, _ => ⟨S4x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_call2_v0 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_call3_v0 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== Proof.Select.lean ====
/-
  What a ball query selects, and how the masked scatters build the selection.

  A query's samples are the first 32 support points near it, in the order of the points; a slot past the last one takes
  the first, and a query with no point near it takes point 0 (`pick`). A table of 4096 words holds the samples of 128
  queries, 32 consecutive words each. The points are walked in order, 16 queries per group and 8 groups per point; each
  step appends the point to the lists of the group's queries it is near to and whose lists are not full. `Sel` says what
  the table holds after `G` groups of point `n`; `scatter_step` is one step of the walk, for every group; `fill_step`
  is one step of the fill that follows it.
-/
module

public import Mathlib.Data.Nat.Count
public import Idealize.ShloMosaic.PureOps

@[expose] public section

noncomputable section

namespace Cert.BallQuery

open Idealize.ShloMosaic
open scoped Classical

/-- The shape of one list of `n`. -/
abbrev L1 (n : Nat) : Shape := ⟨1, ![n]⟩

/-- The `k`-th index of a list of `n`. -/
def ix {n : Nat} (k : Nat) (h : k < n) : (L1 n).Idx := fun a => ⟨k, by obtain rfl : a = 0 := Fin.eq_zero a; exact h⟩

theorem ix_val {n : Nat} (k : Nat) (h : k < n) : (ix k h 0).val = k := rfl

theorem eq_ix {n : Nat} (j : (L1 n).Idx) : j = ix (j 0).val (j 0).isLt := by
  funext a; obtain rfl : a = 0 := Fin.eq_zero a; rfl

theorem ext1 {n : Nat} {i j : (L1 n).Idx} (h : (i 0).val = (j 0).val) : i = j := by
  funext a; obtain rfl : a = 0 := Fin.eq_zero a; exact Fin.ext h

/-! ## The selection -/

/-- The point that is number `k` among those `P` holds of (0 if there is none). -/
def nth (P : Nat → Prop) (k : Nat) : Nat := if h : ∃ n, P n ∧ Nat.count P n = k then h.choose else 0

/-- A point `P` holds of is the one numbered by how many are before it. -/
theorem nth_count {P : Nat → Prop} {n : Nat} (h : P n) : nth P (Nat.count P n) = n := by
  have hex : ∃ m, P m ∧ Nat.count P m = Nat.count P n := ⟨n, h, rfl⟩
  rw [nth, dif_pos hex]
  exact Nat.count_injective hex.choose_spec.1 h hex.choose_spec.2

/-- Below the count of `P` every number is some point's. -/
theorem exists_of_lt_count {P : Nat → Prop} {k : Nat} : ∀ {N : Nat}, k < Nat.count P N → ∃ n, n < N ∧ P n ∧ Nat.count P n = k
  | 0, h => by simp at h
  | N + 1, h => by
    rw [Nat.count_succ] at h
    by_cases hk : k < Nat.count P N
    · obtain ⟨n, hn, h1, h2⟩ := exists_of_lt_count hk
      exact ⟨n, by omega, h1, h2⟩
    · by_cases hp : P N
      · rw [if_pos hp] at h
        exact ⟨N, by omega, hp, by omega⟩
      · rw [if_neg hp] at h; omega

theorem nth_lt_of_lt_count {P : Nat → Prop} {k N : Nat} (h : k < Nat.count P N) : nth P k < N := by
  obtain ⟨n, hn, h1, h2⟩ := exists_of_lt_count h
  rw [← h2, nth_count h1]; exact hn

/-- How many points are near before point `n`, cut at 32. -/
def cut (P : Nat → Prop) (n : Nat) : Nat := min 32 (Nat.count P n)

/-- Sample `k` of a query whose near points, among 8192, are those `P` holds of. -/
def pick (P : Nat → Prop) (k : Nat) : Nat :=
  if k < Nat.count P 8192 then nth P k else if 0 < Nat.count P 8192 then nth P 0 else 0

theorem cut_le (P : Nat → Prop) (n : Nat) : cut P n ≤ 32 := by unfold cut; omega

theorem cut_zero (P : Nat → Prop) : cut P 0 = 0 := by simp [cut]

/-- A point near a query whose list is not full is the next entry of the list. -/
theorem nth_cut {P : Nat → Prop} {n : Nat} (h : P n) (hc : cut P n < 32) : nth P (cut P n) = n := by
  have : cut P n = Nat.count P n := by unfold cut at *; omega
  rw [this, nth_count h]

theorem cut_succ_of {P : Nat → Prop} {n : Nat} (h : P n) (hc : cut P n < 32) : cut P (n + 1) = cut P n + 1 := by
  unfold cut at *; rw [Nat.count_succ, if_pos h]; omega

theorem cut_succ_of_not {P : Nat → Prop} {n : Nat} (h : ¬ (P n ∧ cut P n < 32)) : cut P (n + 1) = cut P n := by
  unfold cut at *; rw [Nat.count_succ]
  by_cases hp : P n
  · rw [if_pos hp]; have : ¬ min 32 (Nat.count P n) < 32 := fun hh => h ⟨hp, hh⟩
    omega
  · rw [if_neg hp]; omega

/-- A sample is one of the 8192 points. -/
theorem pick_lt (P : Nat → Prop) (k : Nat) : pick P k < 8192 := by
  have key : ∀ j, j < Nat.count P 8192 → nth P j < 8192 := fun j hj => nth_lt_of_lt_count hj
  unfold pick
  split
  · exact key _ ‹_›
  · split
    · exact key _ ‹_›
    · omega

/-! ## The table -/

variable {F : FTy → Type} [FloatOps F]

/-- A vector of a sixteen lanes. -/
abbrev V16 (w : Nat) : Type := IVec (L1 16) w

/-- The state of the walk after `G` groups have seen point `n`: query `q` has seen `n + 1` points if its group is one
    of those, `n` otherwise. -/
def seen (n G q : Nat) : Nat := if q / 16 < G then n + 1 else n

/-- The table holds, for each query, the near points it has seen, in order, as far as they fit. -/
def Sel (near : Nat → Nat → Prop) (n G : Nat) (f : (L1 4096).Idx → BitVec 32) : Prop :=
  ∀ j : (L1 4096).Idx, (j 0).val % 32 < cut (near ((j 0).val / 32)) (seen n G ((j 0).val / 32)) →
    (f j).toNat = nth (near ((j 0).val / 32)) ((j 0).val % 32)

/-- The group's count vector holds the lengths of its queries' lists after `n` points. -/
def Cnt (near : Nat → Nat → Prop) (n g : Nat) (c : V16 32) : Prop :=
  ∀ x : (L1 16).Idx, (c x).toNat = cut (near (16 * g + (x 0).val)) n

/-- The group's base vector holds the first words of its queries' lists. -/
def Base (g : Nat) (v : V16 32) : Prop := ∀ x : (L1 16).Idx, (v x).toNat = (16 * g + (x 0).val) * 32

/-- The state after all groups of point `n` is the state before the first of point `n + 1`. -/
theorem Sel.next {near : Nat → Nat → Prop} {n : Nat} {f : (L1 4096).Idx → BitVec 32} (h : Sel near n 8 f) :
    Sel near (n + 1) 0 f := by
  intro j hj
  refine h j ?_
  have h4 : (j 0).val < 4096 := (j 0).isLt
  have : (j 0).val / 32 / 16 < 8 := by omega
  rw [seen, if_pos this]
  rw [seen, if_neg (by omega)] at hj
  exact hj

/-- Before the first point, the lists are empty. -/
theorem Sel.init (near : Nat → Nat → Prop) (f : (L1 4096).Idx → BitVec 32) : Sel near 0 0 f := by
  intro j hj
  rw [seen, if_neg (by omega), cut_zero] at hj
  omega

theorem Cnt.init (near : Nat → Nat → Prop) (g : Nat) : Cnt near 0 g (broadcast (L1 16) 0#32) := by
  intro x; rw [cut_zero]; rfl

/-! ## The masked scatter, at distinct places -/

section Store

variable {e : EltTy} {N : Nat}

/-- A scatter over part of the lanes, at a word no set lane names: the old word. -/
theorem fold_miss (idxs : Fin 1 → IVec (L1 16) 32) (h : ∀ a x, (idxs a x).toNat < (L1 N).size a) (v : Vec F (L1 16) e)
    (mask : V16 1) (j : (L1 N).Idx) :
    ∀ (l : List (Fin 16)) (f : Vec F (L1 N) e),
      (∀ k ∈ l, mask (ix k.val k.isLt) = 1#1 → (idxs 0 (ix k.val k.isLt)).toNat ≠ (j 0).val) →
      (l.foldl (fun (g : Vec F (L1 N) e) (k : Fin 16) =>
          let x : (L1 16).Idx := Shape.ofLane (d := ![16]) k
          if mask x = 1 then
            let i := idxAt (s := L1 N) idxs h x
            let y := if false then Elt.idxAdd e (g i) (v x) else v x
            fun j => if (∀ a, (j a).val = (i a).val) then y else g j
          else g) f) j = f j
  | [], f, _ => rfl
  | k :: l, f, hk => by
    rw [List.foldl_cons, fold_miss idxs h v mask j l _ fun k' hk' => hk k' (List.mem_cons_of_mem _ hk')]
    have hx : (Shape.ofLane (d := ![16]) k : (L1 16).Idx) = ix k.val k.isLt := ext1 rfl
    have := hk k List.mem_cons_self
    simp only [hx]
    split
    · rename_i hm
      show (if ∀ a, (j a).val = (idxAt (s := L1 N) idxs h (ix k.val k.isLt) a).val then _ else f j) = f j
      rw [if_neg]
      intro hh
      exact this hm (hh 0).symm
    · rfl

/-- A scatter at a word exactly one set lane names: that lane's value. -/
theorem fold_hit (idxs : Fin 1 → IVec (L1 16) 32) (h : ∀ a x, (idxs a x).toNat < (L1 N).size a) (v : Vec F (L1 16) e)
    (mask : V16 1) (j : (L1 N).Idx) (x : Fin 16) (hx : mask (ix x.val x.isLt) = 1#1)
    (hj : (idxs 0 (ix x.val x.isLt)).toNat = (j 0).val)
    (hu : ∀ k : Fin 16, mask (ix k.val k.isLt) = 1#1 → (idxs 0 (ix k.val k.isLt)).toNat = (j 0).val → k = x) :
    ∀ (l : List (Fin 16)) (f : Vec F (L1 N) e), x ∈ l →
      (l.foldl (fun (g : Vec F (L1 N) e) (k : Fin 16) =>
          let x : (L1 16).Idx := Shape.ofLane (d := ![16]) k
          if mask x = 1 then
            let i := idxAt (s := L1 N) idxs h x
            let y := if false then Elt.idxAdd e (g i) (v x) else v x
            fun j => if (∀ a, (j a).val = (i a).val) then y else g j
          else g) f) j = v (ix x.val x.isLt)
  | k :: l, f, hk => by
    rw [List.foldl_cons]
    by_cases hxl : x ∈ l
    · exact fold_hit idxs h v mask j x hx hj hu l _ hxl
    · obtain rfl : x = k := by
        rcases List.mem_cons.mp hk with h' | h'
        · exact h'
        · exact absurd h' hxl
      rw [fold_miss idxs h v mask j l]
      · have he : (Shape.ofLane (d := ![16]) x : (L1 16).Idx) = ix x.val x.isLt := ext1 rfl
        simp only [he]
        have hx' : mask (ix x.val x.isLt) = 1 := hx
        rw [if_pos hx']
        show (if ∀ a, (j a).val = (idxAt (s := L1 N) idxs h (ix x.val x.isLt) a).val then v (ix x.val x.isLt) else f j) = _
        rw [if_pos]
        · intro a
          obtain rfl : a = 0 := Fin.eq_zero a
          exact hj.symm
      · intro k' hk' hm hj'
        exact hxl (hu k' hm hj' ▸ hk')

/-- The masked scatter at a word no set lane names leaves the word. -/
theorem storeIdx_miss (f : Vec F (L1 N) e) (idx : IVec (L1 16) 32) (v : Vec F (L1 16) e) (mask : V16 1)
    (h : ∀ a x, ((![idx] : Fin 1 → IVec (L1 16) 32) a x).toNat < (L1 N).size a) (j : (L1 N).Idx)
    (hk : ∀ x : (L1 16).Idx, mask x = 1#1 → (idx x).toNat ≠ (j 0).val) :
    storeIdx (s := L1 N) (d := ![16]) f ![idx] v mask false h j = f j :=
  fold_miss ![idx] h v mask j (List.finRange 16) f fun k _ hm => hk _ hm

/-- The masked scatter at a word exactly one set lane names stores that lane's value. -/
theorem storeIdx_hit (f : Vec F (L1 N) e) (idx : IVec (L1 16) 32) (v : Vec F (L1 16) e) (mask : V16 1)
    (h : ∀ a x, ((![idx] : Fin 1 → IVec (L1 16) 32) a x).toNat < (L1 N).size a) (j : (L1 N).Idx) (x : (L1 16).Idx)
    (hx : mask x = 1#1) (hj : (idx x).toNat = (j 0).val)
    (hu : ∀ y : (L1 16).Idx, mask y = 1#1 → (idx y).toNat = (j 0).val → (y 0).val = (x 0).val) :
    storeIdx (s := L1 N) (d := ![16]) f ![idx] v mask false h j = v x := by
  obtain ⟨k, rfl⟩ : ∃ k : Fin 16, x = ix k.val k.isLt := ⟨x 0, eq_ix x⟩
  exact fold_hit (F := F) ![idx] h v mask j k hx hj (fun k hm hk => Fin.ext (hu _ hm hk)) (List.finRange 16) f (List.mem_finRange _)

end Store

/-! ## Words -/

theorem andi1 (a b : BitVec 1) : IntOp.andi a b = 1#1 ↔ a = 1#1 ∧ b = 1#1 := by
  revert a b; decide

theorem slt_iff {a b : BitVec 32} (ha : a.toNat < 2 ^ 31) (hb : b.toNat < 2 ^ 31) :
    IntOp.cmpi .slt a b = 1#1 ↔ a.toNat < b.toNat := by
  have h : a.slt b = decide (a.toNat < b.toNat) := by
    rw [BitVec.slt, BitVec.toInt_eq_toNat_of_lt (by omega), BitVec.toInt_eq_toNat_of_lt (by omega)]
    simp
  show BitVec.ofBool (a.slt b) = 1#1 ↔ _
  rw [h]
  by_cases hh : a.toNat < b.toNat <;> simp [hh]

theorem sle_iff {a b : BitVec 32} (ha : a.toNat < 2 ^ 31) (hb : b.toNat < 2 ^ 31) :
    IntOp.cmpi .sle a b = 1#1 ↔ a.toNat ≤ b.toNat := by
  have h : a.sle b = decide (a.toNat ≤ b.toNat) := by
    rw [BitVec.sle, BitVec.toInt_eq_toNat_of_lt (by omega), BitVec.toInt_eq_toNat_of_lt (by omega)]
    simp
  show BitVec.ofBool (a.sle b) = 1#1 ↔ _
  rw [h]
  by_cases hh : a.toNat ≤ b.toNat <;> simp [hh]

theorem sgt_iff {a b : BitVec 32} (ha : a.toNat < 2 ^ 31) (hb : b.toNat < 2 ^ 31) :
    IntOp.cmpi .sgt a b = 1#1 ↔ b.toNat < a.toNat := by
  have := slt_iff hb ha
  exact this

theorem minsi_toNat {a b : BitVec 32} (ha : a.toNat < 2 ^ 31) (hb : b.toNat < 2 ^ 31) :
    (IntOp.minsi a b).toNat = min a.toNat b.toNat := by
  have h : a.slt b = decide (a.toNat < b.toNat) := by
    rw [BitVec.slt, BitVec.toInt_eq_toNat_of_lt (by omega), BitVec.toInt_eq_toNat_of_lt (by omega)]
    simp
  unfold IntOp.minsi
  rw [h]
  by_cases hh : a.toNat < b.toNat
  · simp [hh]; omega
  · simp [hh]; omega

theorem addi_toNat {a b : BitVec 32} (h : a.toNat + b.toNat < 2 ^ 32) : (IntOp.addi a b).toNat = a.toNat + b.toNat := by
  unfold IntOp.addi; rw [BitVec.toNat_add]; omega

/-! ## One step of the walk -/

/-- The lanes that store: near the point, and their lists not full. -/
def stepMask (m : V16 1) (c : V16 32) : V16 1 := andi m (cmpi .slt c (broadcast (L1 16) 32#32))

/-- Where they store. -/
def stepSlot (v c : V16 32) : V16 32 := addi v (minsi c (broadcast (L1 16) 31#32))

/-- The counts after. -/
def stepCnt (m : V16 1) (c : V16 32) : V16 32 :=
  addi c (select (stepMask m c) (broadcast (L1 16) 1#32) (broadcast (L1 16) 0#32))

section Step

variable {near : Nat → Nat → Prop} {n g : Nat} {m : V16 1} {c v : V16 32}

theorem stepMask_iff (hc : Cnt near n g c) (hm : ∀ x, m x = 1#1 ↔ near (16 * g + (x 0).val) n) (x : (L1 16).Idx) :
    stepMask m c x = 1#1 ↔ near (16 * g + (x 0).val) n ∧ cut (near (16 * g + (x 0).val)) n < 32 := by
  show IntOp.andi (m x) (IntOp.cmpi .slt (c x) 32#32) = 1#1 ↔ _
  have hl := cut_le (near (16 * g + (x 0).val)) n
  have := hc x
  rw [andi1, hm, slt_iff (by omega) (by decide), hc x]
  rfl

/-- The counts go on. -/
theorem cnt_step (hc : Cnt near n g c) (hm : ∀ x, m x = 1#1 ↔ near (16 * g + (x 0).val) n) :
    Cnt near (n + 1) g (stepCnt m c) := by
  intro x
  have hl := cut_le (near (16 * g + (x 0).val)) n
  have hx := hc x
  show (IntOp.addi (c x) (if stepMask m c x = 1#1 then 1#32 else 0#32)).toNat = _
  by_cases h : near (16 * g + (x 0).val) n ∧ cut (near (16 * g + (x 0).val)) n < 32
  · rw [if_pos ((stepMask_iff hc hm x).mpr h), addi_toNat (by simp; omega), cut_succ_of h.1 h.2, hx]; rfl
  · rw [if_neg (fun hh => h ((stepMask_iff hc hm x).mp hh)), addi_toNat (by simp; omega), cut_succ_of_not h, hx]; rfl

theorem stepSlot_toNat (hg : g < 8) (hv : Base g v) (hc : Cnt near n g c) (x : (L1 16).Idx) :
    (stepSlot v c x).toNat = (16 * g + (x 0).val) * 32 + min (cut (near (16 * g + (x 0).val)) n) 31 := by
  have hl := cut_le (near (16 * g + (x 0).val)) n
  have hx := hc x
  have hvx := hv x
  have h16 : (x 0).val < 16 := (x 0).isLt
  have hmin : (IntOp.minsi (c x) 31#32).toNat = min (cut (near (16 * g + (x 0).val)) n) 31 := by
    rw [minsi_toNat (by omega) (by decide), hx]; rfl
  show (IntOp.addi (v x) (IntOp.minsi (c x) 31#32)).toNat = _
  rw [addi_toNat (by omega), hmin, hvx]

/-- Every lane's place is a word of the table. -/
theorem stepSlot_lt (hg : g < 8) (hv : Base g v) (hc : Cnt near n g c) :
    ∀ a x, ((![stepSlot v c] : Fin 1 → V16 32) a x).toNat < (L1 4096).size a := by
  intro a x
  obtain rfl : a = 0 := Fin.eq_zero a
  have h16 : (x 0).val < 16 := (x 0).isLt
  have := stepSlot_toNat hg hv hc x
  show (stepSlot v c x).toNat < 4096
  omega

/-- One group's masked scatter of point `n`: the group's queries have seen the point. -/
theorem scatter_step (hg : g < 8) (hv : Base g v) (hc : Cnt near n g c)
    (hm : ∀ x, m x = 1#1 ↔ near (16 * g + (x 0).val) n) {f : Vec F (L1 4096) .i32} (hf : Sel near n g f)
    {nv : Vec F (L1 16) .i32} (hn : ∀ x, BitVec.toNat (nv x) = n)
    (h : ∀ a x, ((![stepSlot v c] : Fin 1 → V16 32) a x).toNat < (L1 4096).size a) :
    Sel near n (g + 1) (storeIdx (F := F) (s := L1 4096) (d := ![16]) f ![stepSlot v c] nv (stepMask m c) false h) := by
  intro j hj
  have h4 : (j 0).val < 4096 := (j 0).isLt
  by_cases hq : (j 0).val / 32 / 16 = g
  · -- the query is one of the group's: lane `x`
    let x : (L1 16).Idx := ix ((j 0).val / 32 % 16) (by omega)
    have hxv : (x 0).val = (j 0).val / 32 % 16 := rfl
    have hqx : (j 0).val / 32 = 16 * g + (x 0).val := by omega
    have hsl := stepSlot_toNat hg hv hc x
    rw [seen, if_pos (by omega)] at hj
    by_cases hp : near (16 * g + (x 0).val) n ∧ cut (near (16 * g + (x 0).val)) n < 32
    · by_cases hs : (j 0).val % 32 = cut (near (16 * g + (x 0).val)) n
      · rw [storeIdx_hit f (stepSlot v c) nv _ h j x ((stepMask_iff hc hm x).mpr hp) (by omega)]
        · rw [hn, hs, hqx, nth_cut hp.1 hp.2]
        · intro y _ hy
          have hsy := stepSlot_toNat hg hv hc y
          have h16 : (y 0).val < 16 := (y 0).isLt
          omega
      · rw [storeIdx_miss f (stepSlot v c) nv _ h j]
        · refine hf j ?_
          rw [seen, if_neg (by omega)]
          rw [hqx, cut_succ_of hp.1 hp.2] at hj
          rw [hqx]; omega
        · intro y hy hye
          have hsy := stepSlot_toNat hg hv hc y
          have h16 : (y 0).val < 16 := (y 0).isLt
          have hyx : (y 0).val = (x 0).val := by omega
          rw [hyx] at hsy
          omega
    · rw [storeIdx_miss f (stepSlot v c) nv _ h j]
      · refine hf j ?_
        rw [seen, if_neg (by omega)]
        rw [hqx, cut_succ_of_not hp] at hj
        rw [hqx]; exact hj
      · intro y hy hye
        have hsy := stepSlot_toNat hg hv hc y
        have h16 : (y 0).val < 16 := (y 0).isLt
        have hyx : (y 0).val = (x 0).val := by omega
        have := (stepMask_iff hc hm y).mp hy
        rw [hyx] at this
        exact hp this
  · -- the query is of another group
    rw [storeIdx_miss f (stepSlot v c) nv _ h j]
    · refine hf j ?_
      have : seen n g ((j 0).val / 32) = seen n (g + 1) ((j 0).val / 32) := by
        unfold seen
        by_cases h1 : (j 0).val / 32 / 16 < g
        · rw [if_pos h1, if_pos (by omega)]
        · rw [if_neg h1, if_neg (by omega)]
      rw [this]; exact hj
    · intro y _ hye
      have hsy := stepSlot_toNat hg hv hc y
      have h16 : (y 0).val < 16 := (y 0).isLt
      omega

end Step

/-! ## The fill -/

/-- How many slots of query `q`'s list the fill has settled after `J` steps of group `g`. -/
def settled (g J q : Nat) : Nat := if q / 16 < g then 32 else if q / 16 = g then J else 0

/-- The table holds the samples on the settled slots and on the slots of the near points. -/
def Fill (near : Nat → Nat → Prop) (g J : Nat) (f : (L1 4096).Idx → BitVec 32) : Prop :=
  ∀ j : (L1 4096).Idx, ((j 0).val % 32 < settled g J ((j 0).val / 32) ∨ (j 0).val % 32 < cut (near ((j 0).val / 32)) 8192) →
    (f j).toNat = pick (near ((j 0).val / 32)) ((j 0).val % 32)

/-- The walk's last state starts the fill. -/
theorem Fill.init {near : Nat → Nat → Prop} {f : (L1 4096).Idx → BitVec 32} (h : Sel near 8192 0 f) : Fill near 0 0 f := by
  intro j hj
  have hc : (j 0).val % 32 < cut (near ((j 0).val / 32)) 8192 := by
    rcases hj with hj | hj
    · unfold settled at hj; split at hj <;> [omega; (split at hj <;> omega)]
    · exact hj
  rw [h j (by rw [seen, if_neg (by omega)]; exact hc), pick, if_pos]
  unfold cut at hc; omega

/-- A filled group is the next group's start. -/
theorem Fill.next {near : Nat → Nat → Prop} {g : Nat} {f : (L1 4096).Idx → BitVec 32} (h : Fill near g 32 f) : Fill near (g + 1) 0 f := by
  intro j hj
  refine h j ?_
  have : settled (g + 1) 0 ((j 0).val / 32) = settled g 32 ((j 0).val / 32) := by
    unfold settled
    by_cases h1 : (j 0).val / 32 / 16 < g
    · rw [if_pos h1, if_pos (by omega)]
    · rw [if_neg h1]
      by_cases h2 : (j 0).val / 32 / 16 = g
      · rw [if_pos h2, if_pos (by omega)]
      · rw [if_neg h2, if_neg (by omega), if_neg_or_zero]
  rw [← this]; exact hj
where
  if_neg_or_zero {p : Prop} [Decidable p] : (if p then 0 else 0) = 0 := by split <;> rfl

/-- After the eight groups, every word is a sample. -/
theorem Fill.done {near : Nat → Nat → Prop} {f : (L1 4096).Idx → BitVec 32} (h : Fill near 8 0 f) (j : (L1 4096).Idx) :
    (f j).toNat = pick (near ((j 0).val / 32)) ((j 0).val % 32) := by
  have h4 : (j 0).val < 4096 := (j 0).isLt
  refine h j (.inl ?_)
  rw [settled, if_pos (by omega)]; omega

/-- The group's first samples, from the first words of its lists. -/
def firsts (c w : V16 32) : V16 32 :=
  select (cmpi .sgt c (broadcast (L1 16) 0#32)) w (broadcast (L1 16) 0#32)

/-- The lanes the fill's step `J` stores. -/
def fillMask (c : V16 32) (J : BitVec 32) : V16 1 := cmpi .sle c (broadcast (L1 16) J)

/-- Where it stores them. -/
def fillSlot (v : V16 32) (J : BitVec 32) : V16 32 := addi v (broadcast (L1 16) J)

section FillStep

variable {near : Nat → Nat → Prop} {g : Nat} {c v : V16 32}

/-- Every lane's base is a word of the table. -/
theorem base_lt (hg : g < 8) (hv : Base g v) : ∀ a x, ((![v] : Fin 1 → V16 32) a x).toNat < (L1 4096).size a := by
  intro a x
  obtain rfl : a = 0 := Fin.eq_zero a
  have h16 : (x 0).val < 16 := (x 0).isLt
  have := hv x
  show (v x).toNat < 4096
  omega

/-- The first samples: what a slot past the near points takes. -/
theorem firsts_toNat (hg : g < 8) (hv : Base g v) (hc : Cnt near 8192 g c) {f : Vec F (L1 4096) .i32} (hf : Fill near g 0 f)
    (h : ∀ a x, ((![v] : Fin 1 → V16 32) a x).toNat < (L1 4096).size a) (x : (L1 16).Idx) :
    (firsts c (loadIdx (F := F) (e := .i32) (s := L1 4096) f ![v] h) x).toNat
      = if 0 < Nat.count (near (16 * g + (x 0).val)) 8192 then nth (near (16 * g + (x 0).val)) 0 else 0 := by
  have hl := cut_le (near (16 * g + (x 0).val)) 8192
  have hx := hc x
  have hvx := hv x
  have h16 : (x 0).val < 16 := (x 0).isLt
  have hsg := sgt_iff (a := c x) (b := 0#32) (by omega) (by decide)
  have hcut : cut (near (16 * g + (x 0).val)) 8192 = min 32 (Nat.count (near (16 * g + (x 0).val)) 8192) := rfl
  show (if IntOp.cmpi .sgt (c x) 0#32 = 1#1 then f (idxAt (s := L1 4096) ![v] h x) else 0#32 : BitVec 32).toNat = _
  by_cases hp : 0 < Nat.count (near (16 * g + (x 0).val)) 8192
  · rw [if_pos (hsg.mpr (by show 0 < _; omega)), if_pos hp]
    have hi : ((idxAt (s := L1 4096) ![v] h x) 0).val = (16 * g + (x 0).val) * 32 := hvx
    have hm : ((idxAt (s := L1 4096) ![v] h x) 0).val % 32 = 0 := by omega
    have hd : ((idxAt (s := L1 4096) ![v] h x) 0).val / 32 = 16 * g + (x 0).val := by omega
    have := hf (idxAt (s := L1 4096) ![v] h x) (.inr (by rw [hm, hd]; omega))
    rw [this, hm, hd, pick, if_pos hp]
  · rw [if_neg (fun hh => hp (by have : 0 < _ := hsg.mp hh; omega)), if_neg hp]; rfl

/-- The words `w` are the first samples of group `g`'s queries. -/
def Firsts (near : Nat → Nat → Prop) (g : Nat) (w : V16 32) : Prop :=
  ∀ x : (L1 16).Idx, (w x).toNat = if 0 < Nat.count (near (16 * g + (x 0).val)) 8192 then nth (near (16 * g + (x 0).val)) 0 else 0

theorem fillSlot_toNat (hg : g < 8) (hv : Base g v) {J : Nat} (hJ : J < 32) (x : (L1 16).Idx) :
    (fillSlot v (BitVec.ofNat 32 J) x).toNat = (16 * g + (x 0).val) * 32 + J := by
  have hvx := hv x
  have h16 : (x 0).val < 16 := (x 0).isLt
  have hJn : (BitVec.ofNat 32 J).toNat = J := by rw [BitVec.toNat_ofNat]; omega
  show (IntOp.addi (v x) (BitVec.ofNat 32 J)).toNat = _
  rw [addi_toNat (by omega), hJn, hvx]

theorem fillSlot_lt (hg : g < 8) (hv : Base g v) {J : Nat} (hJ : J < 32) :
    ∀ a x, ((![fillSlot v (BitVec.ofNat 32 J)] : Fin 1 → V16 32) a x).toNat < (L1 4096).size a := by
  intro a x
  obtain rfl : a = 0 := Fin.eq_zero a
  have h16 : (x 0).val < 16 := (x 0).isLt
  have := fillSlot_toNat hg hv hJ x
  show (fillSlot v (BitVec.ofNat 32 J) x).toNat < 4096
  omega

/-- One step of the fill: one more slot of each of the group's lists is settled. -/
theorem fill_step (hg : g < 8) (hv : Base g v) (hc : Cnt near 8192 g c) {J : Nat} (hJ : J < 32) {f : Vec F (L1 4096) .i32}
    (hf : Fill near g J f) {w : Vec F (L1 16) .i32}
    (hw : ∀ x : (L1 16).Idx, BitVec.toNat (w x)
      = if 0 < Nat.count (near (16 * g + (x 0).val)) 8192 then nth (near (16 * g + (x 0).val)) 0 else 0)
    (h : ∀ a x, ((![fillSlot v (BitVec.ofNat 32 J)] : Fin 1 → V16 32) a x).toNat < (L1 4096).size a) :
    Fill near g (J + 1)
      (storeIdx (F := F) (s := L1 4096) (d := ![16]) f ![fillSlot v (BitVec.ofNat 32 J)] w (fillMask c (BitVec.ofNat 32 J)) false h) := by
  have hJn : (BitVec.ofNat 32 J).toNat = J := by rw [BitVec.toNat_ofNat]; omega
  have hmk : ∀ x, fillMask c (BitVec.ofNat 32 J) x = 1#1 ↔ cut (near (16 * g + (x 0).val)) 8192 ≤ J := by
    intro x
    have hl := cut_le (near (16 * g + (x 0).val)) 8192
    have hx := hc x
    show IntOp.cmpi .sle (c x) (BitVec.ofNat 32 J) = 1#1 ↔ _
    rw [sle_iff (by omega) (by omega), hJn, hx]
  intro j hj
  have h4 : (j 0).val < 4096 := (j 0).isLt
  by_cases hq : (j 0).val / 32 / 16 = g ∧ (j 0).val % 32 = J
  · obtain ⟨hq, hs⟩ := hq
    let x : (L1 16).Idx := ix ((j 0).val / 32 % 16) (by omega)
    have hxv : (x 0).val = (j 0).val / 32 % 16 := rfl
    have hqx : (j 0).val / 32 = 16 * g + (x 0).val := by omega
    have hsl := fillSlot_toNat hg hv hJ x
    by_cases hp : cut (near (16 * g + (x 0).val)) 8192 ≤ J
    · rw [storeIdx_hit f _ w _ h j x ((hmk x).mpr hp) (by omega)]
      · rw [hw, hqx, hs, pick, if_neg (c := J < _)]
        unfold cut at hp; omega
      · intro y _ hy
        have hsy := fillSlot_toNat hg hv hJ y
        have h16 : (y 0).val < 16 := (y 0).isLt
        omega
    · rw [storeIdx_miss f _ w _ h j]
      · exact hf j (.inr (by rw [hqx, hs]; omega))
      · intro y hy hye
        have hsy := fillSlot_toNat hg hv hJ y
        have h16 : (y 0).val < 16 := (y 0).isLt
        have hyx : (y 0).val = (x 0).val := by omega
        have := (hmk y).mp hy
        rw [hyx] at this
        exact hp this
  · rw [storeIdx_miss f _ w _ h j]
    · refine hf j ?_
      rcases hj with hj | hj
      · left
        unfold settled at hj ⊢
        split at hj
        · rename_i h1; rw [if_pos h1]; exact hj
        · rename_i h1
          rw [if_neg h1]
          split at hj
          · rename_i h2
            rw [if_pos h2]
            have : (j 0).val % 32 ≠ J := fun hh => hq ⟨h2, hh⟩
            omega
          · omega
      · exact .inr hj
    · intro y _ hye
      have hsy := fillSlot_toNat hg hv hJ y
      have h16 : (y 0).val < 16 := (y 0).isLt
      exact hq (by omega)

end FillStep

end Cert.BallQuery

end
-- ==== Proof.Spec.lean ====
/-
  The ball query as the tiles compute it, as plain functions of the flat arrays they read.

  The flat arrays hold the coordinates planar: coordinate `a` of point `n` of batch `b` is word `(3 b + a) 8192 + n` of
  the support array and word `(3 b + a) 1024 + q` of the query array. The features are rows of 128, one per support
  point. `near` says when a support point is near a query, `sel` is the point sample `k` of query `q` takes, `outXyz`
  and `outRows` are the two arrays the tiles write.
-/
module

public import proofs.«01_k».proof.Proof.Select

@[expose] public section

noncomputable section

namespace Cert.BallQuery

open Idealize.ShloMosaic

variable {F : FTy → Type}

/-- Word `n` of a list (wrapped round past its end, where nothing reads). -/
def rd {N : Nat} [NeZero N] {α : Type} (f : (L1 N).Idx → α) (n : Nat) : α := f (ix (n % N) (Nat.mod_lt _ (Nat.pos_of_ne_zero (NeZero.ne N))))

theorem rd_of_lt {N : Nat} [NeZero N] {α : Type} (f : (L1 N).Idx → α) {n : Nat} (h : n < N) : rd f n = f (ix n h) := by
  unfold rd; congr 1; exact ext1 (Nat.mod_eq_of_lt h)

/-- The index `(r, c)` of a table. -/
def ix2 {N M : Nat} (r c : Nat) (hr : r < N) (hc : c < M) : (⟨2, ![N, M]⟩ : Shape).Idx
  | 0 => ⟨r, hr⟩
  | 1 => ⟨c, hc⟩

variable [FloatOps F]

/-- The squared distance of two points, as the tiles add it up. -/
def dist2 (sx sy sz qx qy qz : F .f32) : F .f32 :=
  FloatOps.addf (FloatOps.addf (FloatOps.mulf (FloatOps.subf sx qx) (FloatOps.subf sx qx))
      (FloatOps.mulf (FloatOps.subf sy qy) (FloatOps.subf sy qy)))
    (FloatOps.mulf (FloatOps.subf sz qz) (FloatOps.subf sz qz))

/-- The squared radius. -/
def radius2 : F .f32 := Scalar.ofBits .f32 0x3C23D70A#32

/-- Whether the squared distance is under the squared radius. -/
def within (sx sy sz qx qy qz : F .f32) : Prop := FloatOps.cmpf .olt (dist2 sx sy sz qx qy qz) radius2 = 1#1

/-- Support point `n` of batch `b` is near query `q` of it. -/
def near (QT : (L1 12288).Idx → F .f32) (ST : (L1 98304).Idx → F .f32) (b q n : Nat) : Prop :=
  within (rd ST ((b * 3 + 0) * 8192 + n)) (rd ST ((b * 3 + 1) * 8192 + n)) (rd ST ((b * 3 + 2) * 8192 + n))
    (rd QT ((b * 3 + 0) * 1024 + q)) (rd QT ((b * 3 + 1) * 1024 + q)) (rd QT ((b * 3 + 2) * 1024 + q))

/-- The support point sample `k` of query `q` of batch `b` takes. -/
def sel (QT : (L1 12288).Idx → F .f32) (ST : (L1 98304).Idx → F .f32) (b q k : Nat) : Nat := pick (near QT ST b q) k

theorem sel_lt (QT : (L1 12288).Idx → F .f32) (ST : (L1 98304).Idx → F .f32) (b q k : Nat) : sel QT ST b q k < 8192 :=
  pick_lt _ _

/-- What coordinate `a` of sample `k` of query `q` of batch `b` is, relative to the query. -/
def offXyz (QT : (L1 12288).Idx → F .f32) (ST : (L1 98304).Idx → F .f32) (b a q k : Nat) : F .f32 :=
  FloatOps.subf (rd ST ((b * 3 + a) * 8192 + sel QT ST b q k)) (rd QT ((b * 3 + a) * 1024 + q))

/-- The array of relative coordinates: planar, 32 consecutive words per query. -/
def outXyz (QT : (L1 12288).Idx → F .f32) (ST : (L1 98304).Idx → F .f32) : (L1 393216).Idx → F .f32 := fun j =>
  offXyz QT ST ((j 0).val / 98304) ((j 0).val / 32768 % 3) ((j 0).val / 32 % 1024) ((j 0).val % 32)

/-- The row of the feature table that row `r` of the gathered rows is. -/
def rowOf (QT : (L1 12288).Idx → F .f32) (ST : (L1 98304).Idx → F .f32) (r : Nat) : Nat :=
  r / 32768 * 8192 + sel QT ST (r / 32768) (r / 32 % 1024) (r % 32)

theorem rowOf_lt (QT : (L1 12288).Idx → F .f32) (ST : (L1 98304).Idx → F .f32) {r : Nat} (h : r < 131072) :
    rowOf QT ST r < 32768 := by
  have := sel_lt QT ST (r / 32768) (r / 32 % 1024) (r % 32)
  unfold rowOf; omega

/-- The array of gathered feature rows: 32 consecutive rows per query. -/
def outRows (QT : (L1 12288).Idx → F .f32) (ST : (L1 98304).Idx → F .f32) (FF : (⟨2, ![32768, 128]⟩ : Shape).Idx → F .f32) :
    (⟨2, ![131072, 128]⟩ : Shape).Idx → F .f32 := fun j =>
  FF (ix2 (rowOf QT ST (j 0).val) (j 1).val (rowOf_lt QT ST (j 0).isLt) (j 1).isLt)

end Cert.BallQuery

end
-- ==== Proof.Setup.lean ====
/-
  The launch as the proofs see it: the program's labels and machine configuration, the resource algebra, one tile's
  thread and its buffers.
-/
module

public import proofs.«01_k».proof.Proof.Spec
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's cells and buffers are placed as the launch theorem asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- The resources of the run. -/
abbrev MM (F : FTy → Type) : Type _ := MT nD τ sig (HIx 1) (Elt F) ℕ UU ℕ

abbrev EH : Emb UH (MM F) := embL

/-! ## One tile: its thread, the arrays and buffers it names -/

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The flat query coordinates. -/
abbrev qtM : Memref sig .scVector .hbm S12288 .f32 := Memref.whole main_v1_scv
/-- The flat support coordinates. -/
abbrev stM : Memref sig .scVector .hbm S98304 .f32 := Memref.whole main_v3_scv
/-- The feature rows. -/
abbrev ffM : Memref sig .scVector .hbm S32768x128 .f32 := Memref.whole main_v5_scv
/-- The relative coordinates the tiles write. -/
abbrev oxM : Memref sig .scVector .hbm S393216 .f32 := Memref.whole main_v6_0_scv
/-- The gathered rows the tiles write. -/
abbrev orM : Memref sig .scVector .hbm S131072x128 .f32 := Memref.whole main_v6_1_scv
/-- The tile's support coordinates. -/
abbrev sxM : Memref sig .scVector .vmem S8192 .f32 := Memref.whole cc0_scratch0
abbrev syM : Memref sig .scVector .vmem S8192 .f32 := Memref.whole cc0_scratch1
abbrev szM : Memref sig .scVector .vmem S8192 .f32 := Memref.whole cc0_scratch2
/-- The tile's query coordinates. -/
abbrev qxM : Memref sig .scVector .vmem S128 .f32 := Memref.whole cc0_scratch3
abbrev qyM : Memref sig .scVector .vmem S128 .f32 := Memref.whole cc0_scratch4
abbrev qzM : Memref sig .scVector .vmem S128 .f32 := Memref.whole cc0_scratch5
/-- The tile's table of selected points. -/
abbrev tabM : Memref sig .scVector .vmem S4096 .i32 := Memref.whole cc0_scratch6
/-- The tile's table of feature rows. -/
abbrev rowM : Memref sig .scVector .vmem S4096 .i32 := Memref.whole cc0_scratch7
/-- The tile's relative coordinates. -/
abbrev oaM : Memref sig .scVector .vmem S4096 .f32 := Memref.whole cc0_scratch8
abbrev obM : Memref sig .scVector .vmem S4096 .f32 := Memref.whole cc0_scratch9
abbrev ocM : Memref sig .scVector .vmem S4096 .f32 := Memref.whole cc0_scratch10
/-- The two stages of the row gather. -/
abbrev g0M : Memref sig .scVector .vmem S128x128 .f32 := Memref.whole cc0_scratch11
abbrev g1M : Memref sig .scVector .vmem S128x128 .f32 := Memref.whole cc0_scratch12

section Steps

variable [FloatOps F] (d : Dev nD) (L : grid0.Coords) {α : Type} {Q : α → sProp (MM F)}

/-- A wp of the tile's thread. -/
abbrev tileWp {α : Type} (p : Prog (TpuEff nD τ sig (Elt F) Λ₀ (VT d L).2) α) (Q : α → sProp (MM F)) : sProp (MM F) :=
  wp frame (wpE (defs₀ (F := F)) 𝒱₀ (VT d L) none) Set.univ p Q

/-- An indexed load of one of the tile's own buffers, held whole: the program goes on at the words named. -/
theorem load_step {s t : Shape} {e : EltTy} (base : Memref sig .scVector .vmem s e) {idxs : Fin s.rank → IVec t 32}
    {h : ∀ a x, (idxs a x).toNat < s.size a} {hl : base.view.Loads} {k : Vec F t e → Prog (TpuEff nD τ sig (Elt F) Λ₀ (VT d L).2) α}
    (f : Buf (Elt F) (base.view.loc (VT d L))) :
    (base.view.loc (VT d L) ↦{fullShare} f : sProp (MM F))
      ⊢ iprop(((base.view.loc (VT d L) ↦{fullShare} f)
          -∗ tileWp d L (k (loadIdx ((base.access (.whole s)).read (Elt F) f) idxs h)) Q)
        -∗ tileWp d L (SparseCore.vectorLoadIdx base idxs h hl >>= k) Q) :=
  SparseCore.wp_vectorLoadIdx 𝒱₀ (VT d L) none Set.univ (base := base) (S := Finset.univ) (q := fullShare) (Finset.subset_univ _)

/-- A masked scatter into the table of selected points. -/
theorem store_step {idx : IVec S16 32} {v : Vec F S16 .i32} {mask : IVec S16 1}
    {h : ∀ a x, ((![idx] : Fin 1 → IVec S16 32) a x).toNat < S4096.size a} {hs : (tabM.access (.whole S4096)).Stores Finset.univ}
    {k : PUnit → Prog (TpuEff nD τ sig (Elt F) Λ₀ (VT d L).2) α} (f : Buf (Elt F) (tabM.view.loc (VT d L))) :
    (tabM.view.loc (VT d L) ↦{fullShare} f : sProp (MM F))
      ⊢ iprop(((tabM.view.loc (VT d L) ↦{fullShare} storeIdx (e := .i32) ((tabM.access (.whole S4096)).read (Elt F) f) ![idx] v mask false h) -∗ tileWp d L (k ⟨⟩) Q)
        -∗ tileWp d L (SparseCore.vectorStoreIdx tabM ![idx] v mask false h hs >>= k) Q) := by
  have e := SparseCore.wp_vectorStoreIdx (defs := defs₀ (F := F)) (Q := Q) 𝒱₀ (VT d L) none Set.univ (base := tabM) (idxs := ![idx]) (v := v) (mask := mask) (add := false)
    (h := h) (hs := hs) (k := k) (f := f)
  have hset : (tabM.access (.whole S4096)).set = Finset.univ := Memref.set_access_whole _
  rw [hset] at e
  have hw : (tabM.access (.whole S4096)).write (Elt F) f (storeIdx (e := .i32) ((tabM.access (.whole S4096)).read (Elt F) f) ![idx] v mask false h) Finset.univ
      = storeIdx (e := .i32) ((tabM.access (.whole S4096)).read (Elt F) f) ![idx] v mask false h := Memref.write_access_whole_univ (Elt F) cc0_scratch6 f _
  rw [hw] at e
  exact e

/-- The end of a program. -/
theorem ret_step {a : α} : Q a ⊢ tileWp d L (.ret a) Q := by
  unfold tileWp
  rw [wp_ret]
  iintro H
  imodintro
  iexact H

end Steps

end Cert.Tile

end
-- ==== Proof.Blocks.lean ====
/-
  What one tile reads: its three planes of support coordinates and its 128 queries, as words of the flat arrays, and
  the numbers its offsets come to.
-/
module

public import proofs.«01_k».proof.Proof.Setup

@[expose] public section

noncomputable section

namespace Cert.Tile

open Cert.KernelIdeal Cert.KernelIdeal.Gen Cert.BallQuery
open Idealize.ShloMosaic

variable {F : FTy → Type}

/-- The tile's number. -/
def wid (L : grid0.Coords) : Nat := (L 1).val * 2 + (L 0).val
/-- The tile's batch. -/
def bN (L : grid0.Coords) : Nat := wid L / 8
/-- The tile's first query. -/
def qN (L : grid0.Coords) : Nat := wid L % 8 * 128

theorem wid_lt (L : grid0.Coords) : wid L < 32 := by
  have h0 : (L 0).val < 2 := (L 0).isLt
  have h1 : (L 1).val < 16 := (L 1).isLt
  unfold wid; omega

theorem bN_lt (L : grid0.Coords) : bN L < 4 := by have := wid_lt L; unfold bN; omega

theorem qN_lt (L : grid0.Coords) : qN L + 128 ≤ 1024 := by have := wid_lt L; unfold qN; omega

theorem off1_eq : ∀ L : grid0.Coords, k0_off1 L = ![(bN L * 3 + 0) * 8192] := by decide +kernel
theorem off2_eq : ∀ (L : grid0.Coords) (r : Fin 2), k0_off2 L (BitVec.ofNat 32 (8192 + 8192 * r.val)) = ![(bN L * 3 + (r.val + 1)) * 8192] := by decide +kernel
theorem off3_eq : ∀ L : grid0.Coords, k0_off3 L = ![(bN L * 3 + 0) * 1024 + qN L] := by decide +kernel
theorem off4_eq : ∀ (L : grid0.Coords) (r : Fin 2), k0_off4 L (BitVec.ofNat 32 (1024 + 1024 * r.val)) = ![(bN L * 3 + (r.val + 1)) * 1024 + qN L] := by decide +kernel
theorem off9_eq : ∀ (L : grid0.Coords) (r : Fin 3), k0_off9 L (BitVec.ofNat 32 r.val) = ![(bN L * 3 + r.val) * 32768 + wid L % 8 * 4096] := by decide +kernel

/-- Plane `a` of the support coordinates of batch `b`. -/
def supp (ST : S98304.Idx → F .f32) (b a : Nat) : S8192.Idx → F .f32 := fun j => rd (N := 98304) ST ((b * 3 + a) * 8192 + (j 0).val)

/-- Plane `a` of 128 queries of batch `b` from `q` on. -/
def quer (QT : S12288.Idx → F .f32) (b q a : Nat) : S128.Idx → F .f32 := fun j => rd (N := 12288) QT ((b * 3 + a) * 1024 + q + (j 0).val)

/-- Sixteen of the tile's queries, group `g`. -/
def lanes (f : S128.Idx → F .f32) (g : Nat) : Vec F S16 .f32 := fun x => rd (N := 128) f (16 * g + (x 0).val)

/-- A window of the support array, read. -/
theorem supp_read (ST : S98304.Idx → F .f32) {b a : Nat} {off : Fin 1 → Nat} (hoff : off = ![(b * 3 + a) * 8192]) {hin : ∀ i, off i + S8192.size i ≤ S98304.size i}
    {hst} : (stM.slice (Rect.unit (s := S98304) off S8192.size hin) hst).view.read (Elt F) ST = supp ST b a := by
  subst hoff
  funext j
  have h : (b * 3 + a) * 8192 + 8192 ≤ 98304 := hin 0
  have hj : (j 0).val < 8192 := (j 0).isLt
  unfold supp
  rw [rd_of_lt ST (by omega)]
  show ST _ = ST _
  congr 1
  refine ext1 ?_
  show (b * 3 + a) * 8192 + 1 * (j 0).val = (b * 3 + a) * 8192 + (j 0).val
  omega

/-- A window of the query array, read. -/
theorem quer_read (QT : S12288.Idx → F .f32) {b q a : Nat} {off : Fin 1 → Nat} (hoff : off = ![(b * 3 + a) * 1024 + q]) {hin : ∀ i, off i + S128.size i ≤ S12288.size i}
    {hst} : (qtM.slice (Rect.unit (s := S12288) off S128.size hin) hst).view.read (Elt F) QT = quer QT b q a := by
  subst hoff
  funext j
  have h : (b * 3 + a) * 1024 + q + 128 ≤ 12288 := hin 0
  have hj : (j 0).val < 128 := (j 0).isLt
  unfold quer
  rw [rd_of_lt QT (by omega)]
  show QT _ = QT _
  congr 1
  refine ext1 ?_
  show (b * 3 + a) * 1024 + q + 1 * (j 0).val = (b * 3 + a) * 1024 + q + (j 0).val
  omega

/-- The near points of the tile's queries. -/
def tileNear [FloatOps F] (QT : S12288.Idx → F .f32) (ST : S98304.Idx → F .f32) (L : grid0.Coords) (q n : Nat) : Prop :=
  BallQuery.near QT ST (bN L) (qN L + q) n

end Cert.Tile

end
-- ==== Proof.Copies.lean ====
/-
  The tile's copies as steps of its program: a copy started is something pending on its semaphore, and the wait gives
  back what the copy held, its target written.
-/
module

public import proofs.«01_k».proof.Proof.Setup
public import Idealize.ShloMosaic.Lib.Transfers

@[expose] public section

noncomputable section

namespace Cert.Tile

open Cert.KernelIdeal Cert.KernelIdeal.Gen Cert.BallQuery
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (L : grid0.Coords)

/-- What the tile owes and has waited for, with the evidence its waits need. -/
def owed (O : CellTallies nD τ sig (HIx 1)) (W : Waits sig (HIx 1)) : sProp (MM F) :=
  iprop(Transfers.MayWaits (VT d L) (default : HIx 1) O ∗ ∃ W', ⌜∀ p ∈ W', p ∈ W ∨ p.2 = none⌝ ∗ owes (VT d L) O W')

/-- A semaphore of the tile at zero. -/
abbrev idle (sem : DmaSem sig) : sProp (MM F) := semVal (VT d L, SemLoc.dma sem) 0

/-- A copy under way on `sem` that gives `B` back. -/
def Pending (sem : DmaSem sig) (N : ℕ) (B : sProp (MM F)) : sProp (MM F) :=
  iprop(∃ D R : sProp (MM F), ⌜iprop(D ∗ R) ⊢ B⌝ ∗ Transfers.Flight (countersEmb : UEmb Counters (MM F)) (VT d L) (.dma sem) (default : HIx 1) N D ∗ R)

variable {d L} in
/-- A copy under way gives back whatever what it gives back gives. -/
theorem Pending.mono_entails {sem : DmaSem sig} {N : ℕ} {B B' : sProp (MM F)} (h : B ⊢ B') : Pending d L sem N B ⊢ Pending d L sem N B' := by
  unfold Pending
  iintro ⟨%D, %R, %hB, Hf, HR⟩
  iexists D, R
  isplitr
  · ipureintro; exact hB.trans h
  isplitl [Hf]; · iexact Hf
  iexact HR

/-- The wait for a copy under way. -/
theorem wait_step {sp sp' : Space} {s s' : Shape} {e e' : EltTy} {sem : DmaSem sig} {srcw : Memref sig .scVector sp' s' e'} {dstw : Memref sig .scVector sp s e}
    {hsrc : srcw.view.WordExact} {hdst : dstw.view.WordExact} {α : Type} {Q : α → sProp (MM F)} {k : PUnit → Prog (TpuEff nD τ sig (Elt F) Λ₀ (VT d L).2) α}
    {N : ℕ} (hN : dstw.view.dmaCredit = N) {B : sProp (MM F)} {O : CellTallies nD τ sig (HIx 1)} {W : Waits sig (HIx 1)} :
    iprop(Pending d L sem N B ∗ owed d L O W)
      ⊢ iprop((B -∗ idle d L sem -∗ owed d L O W -∗ tileWp d L (k ⟨⟩) Q)
        -∗ tileWp d L (.op (.waitDma2 sem srcw dstw hsrc hdst) k) Q) := by
  unfold Pending owed
  iintro ⟨⟨%D, %R, %hB, Hf, HR⟩, #Hmw, %W', %hW', HO⟩ Hk
  iapply (Transfers.wp_waitLocalO countersEmb 𝒱₀ (VT d L) none (default : HIx 1) hN) $$ [Hf HO]
  · isplitl [Hf]; · iexact Hf
    isplitl [HO]; · iexact HO
    iapply (Transfers.MayWaits.elim (SemLoc.dma sem)) $$ Hmw
  iintro ⟨HD, Hs, HO⟩
  iapply Hk $$ [HD HR] [Hs] [HO]
  · iapply hB
    isplitl [HD]; · iexact HD
    iexact HR
  · iexact Hs
  · isplitr; · iexact Hmw
    iexists _
    isplitr
    swap; · iexact HO
    ipureintro
    intro p hp
    rcases Finset.mem_insert.mp hp with hp | hp
    · exact .inr (hp ▸ rfl)
    · exact hW' p hp

/-- A copy of a window of a shared array, read at a share, into a buffer of the tile. -/
theorem fetch_step {s : Shape} {e : EltTy} {sem : DmaSem sig} {src : Memref sig .scVector .hbm s e}
    {dst : Memref sig .scVector .vmem s e}
    {hsrc : src.view.WordExact} {hdst : dst.view.WordExact} {hsem : DmaTarget.Typed (nD := nD) (τ := τ) (p := (VT d L).2) .hbm (.dma sem) (.here dst)}
    {α : Type} {Q : α → sProp (MM F)} {k : PUnit → Prog (TpuEff nD τ sig (Elt F) Λ₀ (VT d L).2) α}
    {q : PosShare TreeShare} (fs : Buf (Elt F) (src.view.loc (VT d L))) (fd : Buf (Elt F) (dst.view.loc (VT d L)))
    (hN0 : 0 < dst.view.dmaCredit) :
    iprop((src.view.loc (VT d L) ↦{q} fs) ∗ (dst.view.loc (VT d L) ↦{fullShare} fd) ∗ idle d L sem)
      ⊢ iprop((Pending d L sem dst.view.dmaCredit iprop((src.view.loc (VT d L) ↦{q} fs) ∗
              ∃ f' : Buf (Elt F) (dst.view.loc (VT d L)), ⌜dst.view.read (Elt F) f' = src.view.read (Elt F) fs⌝ ∗ (dst.view.loc (VT d L) ↦{fullShare} f'))
            -∗ tileWp d L (k ⟨⟩) Q)
        -∗ tileWp d L (.op (.enqueueDma src (.here dst) (.dma sem) hsrc hdst hsem) k) Q) := by
  iintro ⟨Hs, Hd, Hv⟩ Hk
  ihave Hss := (pointsTo_split_subset (q := q) (f := fs) (S := Finset.univ) (Finset.subset_univ src.view.set)).1 $$ Hs
  icases Hss with ⟨Hs, Hr⟩
  iapply (Transfers.wp_dmaLocal countersEmb 𝒱₀ (VT d L) none (default : HIx 1) dst.view.dmaCredit rfl hN0 (Finset.subset_univ _)) $$ [Hs Hd Hv]
  · isplitl [Hs]; · iexact Hs
    isplitl [Hd]; · iexact Hd
    iexact Hv
  iintro Hf
  iapply Hk
  unfold Pending
  iexists _, _
  isplitr
  swap
  · isplitl [Hf]; · iexact Hf
    iexact Hr
  ipureintro
  iintro ⟨⟨Hd, Hs⟩, Hr⟩
  isplitl [Hs Hr]
  · iapply (pointsTo_split_subset (q := q) (f := fs) (S := Finset.univ) (Finset.subset_univ src.view.set)).2
    isplitl [Hs]; · iexact Hs
    iexact Hr
  · iexists _
    isplitr
    swap; · iexact Hd
    ipureintro
    exact View.read_write_univ _ _

/-- A copy of a buffer of the tile into a window of an array it holds in part. -/
theorem flush_step {s : Shape} {e : EltTy} {sem : DmaSem sig} {src : Memref sig .scVector .vmem s e}
    {dst : Memref sig .scVector .hbm s e}
    {hsrc : src.view.WordExact} {hdst : dst.view.WordExact} {hsem : DmaTarget.Typed (nD := nD) (τ := τ) (p := (VT d L).2) .vmem (.dma sem) (.here dst)}
    {α : Type} {Q : α → sProp (MM F)} {k : PUnit → Prog (TpuEff nD τ sig (Elt F) Λ₀ (VT d L).2) α}
    (S : Finset (Idx (dst.view.loc (VT d L)))) (hS : dst.view.set ⊆ S)
    (fs : Buf (Elt F) (src.view.loc (VT d L))) (fd g : Buf (Elt F) (dst.view.loc (VT d L)))
    (hg : ∀ i ∈ S, dst.view.write (Elt F) fd (src.view.read (Elt F) fs) Finset.univ i = g i)
    (hN0 : 0 < dst.view.dmaCredit) :
    iprop((src.view.loc (VT d L) ↦{fullShare} fs) ∗ (dst.view.loc (VT d L) ↦[S]{fullShare} fd) ∗ idle d L sem)
      ⊢ iprop((Pending d L sem dst.view.dmaCredit iprop((src.view.loc (VT d L) ↦{fullShare} fs) ∗ (dst.view.loc (VT d L) ↦[S]{fullShare} g))
            -∗ tileWp d L (k ⟨⟩) Q)
        -∗ tileWp d L (.op (.enqueueDma src (.here dst) (.dma sem) hsrc hdst hsem) k) Q) := by
  iintro ⟨Hs, Hd, Hv⟩ Hk
  ihave Hss := (pointsTo_split_subset (q := fullShare) (f := fs) (S := Finset.univ) (Finset.subset_univ src.view.set)).1 $$ Hs
  icases Hss with ⟨Hs, Hr⟩
  iapply (Transfers.wp_dmaLocal countersEmb 𝒱₀ (VT d L) none (default : HIx 1) dst.view.dmaCredit rfl hN0 hS) $$ [Hs Hd Hv]
  · isplitl [Hs]; · iexact Hs
    isplitl [Hd]; · iexact Hd
    iexact Hv
  iintro Hf
  iapply Hk
  unfold Pending
  iexists _, _
  isplitr
  swap
  · isplitl [Hf]; · iexact Hf
    iexact Hr
  ipureintro
  iintro ⟨⟨Hd, Hs⟩, Hr⟩
  isplitl [Hs Hr]
  · iapply (pointsTo_split_subset (q := fullShare) (f := fs) (S := Finset.univ) (Finset.subset_univ src.view.set)).2
    isplitl [Hs]; · iexact Hs
    iexact Hr
  · iapply (Entails.of_eq (pointsTo_congr (q := fullShare) hg))
    iexact Hd

/-- A gather of rows started: the list and the rows are read at a share each. -/
theorem gather_step {s₀ s si : Shape} {a : Nat} {e : EltTy} {src : Memref sig .scVector .hbm s₀ e} {dst : Memref sig .scVector .vmem s e} {hg : s₀.Gathers a s}
    {offs : Memref sig .scVector .vmem si .i32} {hn : si.numel = s.size hg.axis'} {sem : DmaSem sig}
    {hp : (VT d L).2.kind = .scVector} {hsrc : src.view.WordExact} {he : e.bits = 32} {hsp : Space.hbm = .hbm ∨ Space.hbm = .shared} {hr : s₀.StreamRows a}
    {α : Type} {Q : α → sProp (MM F)} {k : PUnit → Prog (TpuEff nD τ sig (Elt F) Λ₀ (VT d L).2) α}
    {q qo : PosShare TreeShare} (fs : Buf (Elt F) (src.view.loc (VT d L))) (fd : Buf (Elt F) (dst.view.loc (VT d L))) (fo : Buf (Elt F) (offs.view.loc (VT d L)))
    (hN : ∑ j, (dst.slice (s.rowRect hg.axis' j) (s.stride_rowRect hg.axis' j)).view.dmaCredit = dst.view.dmaCredit)
    (hset : dst.view.set = Finset.univ) (hs : 0 < s.numel) (hin : ∀ x, (offs.view.read (Elt F) fo x).toNat < s₀.size hg.axis) :
    iprop((src.view.loc (VT d L) ↦{q} fs) ∗ (dst.view.loc (VT d L) ↦{fullShare} fd) ∗ (offs.view.loc (VT d L) ↦{qo} fo) ∗ idle d L sem)
      ⊢ iprop((Pending d L sem dst.view.dmaCredit iprop((src.view.loc (VT d L) ↦{q} fs)
              ∗ (∃ f' : Buf (Elt F) (dst.view.loc (VT d L)),
                  ⌜dst.view.read (Elt F) f' = SparseCore.gatherPayload hg (src.view.read (Elt F) fs) (SparseCore.rows (offs.view.read (Elt F) fo) hn hin)⌝
                  ∗ (dst.view.loc (VT d L) ↦{fullShare} f'))
              ∗ (offs.view.loc (VT d L) ↦{qo} fo))
            -∗ tileWp d L (k ⟨⟩) Q)
        -∗ tileWp d L (SparseCore.enqueueIndirectGather hp src dst hg offs hn sem hsrc he hsp hr >>= k) Q) := by
  iintro ⟨Hs, Hd, Ho, Hv⟩ Hk
  ihave Hss := (pointsTo_split_subset (q := q) (f := fs) (S := Finset.univ) (Finset.subset_univ src.view.set)).1 $$ Hs
  icases Hss with ⟨Hs, Hr⟩
  ihave Hoo := (pointsTo_split_subset (q := qo) (f := fo) (S := Finset.univ) (Finset.subset_univ offs.view.set)).1 $$ Ho
  icases Hoo with ⟨Ho, Hor⟩
  ihave Hd := (Entails.of_eq (show (dst.view.loc (VT d L) ↦{fullShare} fd : sProp (MM F)) = (dst.view.loc (VT d L) ↦[dst.view.set]{fullShare} fd) by rw [hset])) $$ Hd
  iapply (SparseCore.wp_indirectGatherLocal countersEmb 𝒱₀ (VT d L) none (hg := hg) (default : HIx 1) dst.view.dmaCredit hN hs hin) $$ [Hs Hd Ho Hv]
  · isplitl [Hs]; · iexact Hs
    isplitl [Hd]; · iexact Hd
    isplitl [Ho]; · iexact Ho
    iexact Hv
  iintro Hf
  iapply Hk
  unfold Pending
  iexists _, iprop((src.view.loc (VT d L) ↦[Finset.univ \ src.view.set]{q} fs) ∗ (offs.view.loc (VT d L) ↦[Finset.univ \ offs.view.set]{qo} fo))
  isplitr
  swap
  · isplitl [Hf]; · iexact Hf
    isplitl [Hr]; · iexact Hr
    iexact Hor
  ipureintro
  iintro ⟨⟨Hd, Hs, Ho⟩, Hr, Hor⟩
  isplitl [Hs Hr]
  · iapply (pointsTo_split_subset (q := q) (f := fs) (S := Finset.univ) (Finset.subset_univ src.view.set)).2
    isplitl [Hs]; · iexact Hs
    iexact Hr
  isplitl [Hd]
  · iexists _
    isplitr
    swap; · rw [hset]; iexact Hd
    ipureintro
    exact View.read_write_univ _ _
  · iapply (pointsTo_split_subset (q := qo) (f := fo) (S := Finset.univ) (Finset.subset_univ offs.view.set)).2
    isplitl [Ho]; · iexact Ho
    iexact Hor

/-- The wait for a gather under way. -/
theorem landed_step {sp' : Space} {s s' : Shape} {e e' : EltTy} {sem : DmaSem sig} {srcw : Memref sig .scVector sp' s' e'} {dstw : Memref sig .scVector .vmem s e}
    {hsrc : srcw.view.WordExact} {hdst : dstw.view.WordExact} {α : Type} {Q : α → sProp (MM F)} {k : PUnit → Prog (TpuEff nD τ sig (Elt F) Λ₀ (VT d L).2) α}
    {N : ℕ} (hN : dstw.view.dmaCredit = N) {B : sProp (MM F)} {O : CellTallies nD τ sig (HIx 1)} {W : Waits sig (HIx 1)} :
    iprop(Pending d L sem N B ∗ owed d L O W)
      ⊢ iprop((B -∗ idle d L sem -∗ owed d L O W -∗ tileWp d L (k ⟨⟩) Q)
        -∗ tileWp d L (SparseCore.waitIndirectGather sem srcw dstw hsrc hdst >>= k) Q) :=
  wait_step d L (srcw := srcw) (dstw := dstw) hN

end Cert.Tile

end
-- ==== Proof.Walk.lean ====
/-
  The walk of the support points: one trip of the tile's first loop takes the invariant at point `n` to point `n + 1`.
-/
module

public import proofs.«01_k».proof.Proof.Setup

@[expose] public section

noncomputable section

namespace Cert.Tile

open Cert.KernelIdeal Cert.KernelIdeal.Gen Cert.BallQuery
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (L : grid0.Coords)

/-- The lanes' comparison of a support point's distances with the radius. -/
def laneMask (px py pz vx vy vz : Vec F S16 .f32) : IVec S16 1 :=
  cmpf .olt (addf (addf (mulf (subf px vx) (subf px vx)) (mulf (subf py vy) (subf py vy))) (mulf (subf pz vz) (subf pz vz)))
    (broadcast S16 radius2)

/-- The 16 queries of group `g` are the lanes of `vx`, `vy`, `vz`: being near them is what `near` says. -/
def Group (near : Nat → Nat → Prop) (sx sy sz : S8192.Idx → F .f32) (g : Nat) (vx vy vz : Vec F S16 .f32) : Prop :=
  ∀ (x : S16.Idx) (n : Nat) (hn : n < 8192),
    within (sx (ix n hn)) (sy (ix n hn)) (sz (ix n hn)) (vx x) (vy x) (vz x) ↔ near (16 * g + (x 0).val) n

theorem laneMask_iff {near : Nat → Nat → Prop} {sx sy sz : S8192.Idx → F .f32} {g : Nat} {vx vy vz : Vec F S16 .f32}
    (hG : Group near sx sy sz g vx vy vz) {n : Nat} (hn : n < 8192) {px py pz : Vec F S16 .f32}
    (hx : ∀ x, px x = sx (ix n hn)) (hy : ∀ x, py x = sy (ix n hn)) (hz : ∀ x, pz x = sz (ix n hn)) :
    ∀ x, laneMask px py pz vx vy vz x = 1#1 ↔ near (16 * g + (x 0).val) n := by
  intro x
  rw [← hG x n hn, ← hx x, ← hy x, ← hz x]
  rfl

/-- A load of one support point into every lane. -/
theorem load_point {n : Nat} (hn : n < 8192) {nv : IVec S16 32} (hnv : ∀ x, (nv x).toNat = n) (f : Vec F S8192 .f32)
    (h : ∀ a x, ((![nv] : Fin 1 → IVec S16 32) a x).toNat < S8192.size a) (x : S16.Idx) : loadIdx f ![nv] h x = f (ix n hn) := by
  show f _ = f _
  congr 1
  exact ext1 (hnv x)

/-- The buffers the walk holds: the table of selected points as far as point `n` and the three coordinate tables. -/
def walkInv (near : Nat → Nat → Prop) (sx sy sz : S8192.Idx → F .f32) (n : Nat)
    (acc : IVec S16 32 × IVec S16 32 × IVec S16 32 × IVec S16 32 × IVec S16 32 × IVec S16 32 × IVec S16 32 × IVec S16 32 × IVec S16 32) :
    sProp (MM F) :=
  iprop(⌜(∀ x, (acc.1 x).toNat = n) ∧ Cnt near n 0 acc.2.1 ∧ Cnt near n 1 acc.2.2.1 ∧ Cnt near n 2 acc.2.2.2.1 ∧ Cnt near n 3 acc.2.2.2.2.1
        ∧ Cnt near n 4 acc.2.2.2.2.2.1 ∧ Cnt near n 5 acc.2.2.2.2.2.2.1 ∧ Cnt near n 6 acc.2.2.2.2.2.2.2.1 ∧ Cnt near n 7 acc.2.2.2.2.2.2.2.2⌝
    ∗ (sxM.view.loc (VT d L) ↦{fullShare} sx) ∗ (syM.view.loc (VT d L) ↦{fullShare} sy) ∗ (szM.view.loc (VT d L) ↦{fullShare} sz)
    ∗ ∃ f : Buf (Elt F) (tabM.view.loc (VT d L)), ⌜Sel near n 0 ((tabM.access (.whole S4096)).read (Elt F) f)⌝ ∗ (tabM.view.loc (VT d L) ↦{fullShare} f))

attribute [local irreducible] storeIdx loadIdx

/-- A check at the head of a program, at a proof of it. -/
theorem check_step {C : Prop} {dC : Decidable C} {α : Type} {Q : α → sProp (MM F)} {k : PLift C → Prog (TpuEff nD τ sig (Elt F) Λ₀ (VT d L).2) α} (h : C) :
    (tileWp d L (k ⟨h⟩) Q : sProp (MM F)) ⊢ tileWp d L (.op (.assume C dC) k) Q := wp_assume 𝒱₀ (VT d L) none Set.univ h

/-- One group's step at the head of a program: the slots are in the table, the scatter takes the table one group on. -/
theorem group_step {near : Nat → Nat → Prop} {n g : Nat} {v c nv slot : IVec S16 32} {m mask : IVec S16 1} {α : Type} {Q : α → sProp (MM F)}
    (hg : g < 8) (hv : Base g v) (hc : Cnt near n g c) (hm : ∀ x, m x = 1#1 ↔ near (16 * g + (x 0).val) n) (hn : ∀ x, (nv x).toNat = n)
    (hslot : slot = stepSlot v c) (hmask : mask = stepMask m c)
    {C : Prop} {dC : Decidable C} (hC : (∀ a x, ((![slot] : Fin 1 → IVec S16 32) a x).toNat < S4096.size a) → C)
    {h : C → ∀ a x, ((![slot] : Fin 1 → IVec S16 32) a x).toNat < S4096.size a} {hs : (tabM.access (.whole S4096)).Stores Finset.univ}
    {k : PLift C → PUnit → Prog (TpuEff nD τ sig (Elt F) Λ₀ (VT d L).2) α}
    (f : Buf (Elt F) (tabM.view.loc (VT d L))) (hf : Sel near n g ((tabM.access (.whole S4096)).read (Elt F) f)) :
    (tabM.view.loc (VT d L) ↦{fullShare} f : sProp (MM F))
      ⊢ iprop((∀ p, ∀ f' : Buf (Elt F) (tabM.view.loc (VT d L)), ⌜Sel near n (g + 1) ((tabM.access (.whole S4096)).read (Elt F) f')⌝ -∗ (tabM.view.loc (VT d L) ↦{fullShare} f') -∗ tileWp d L (k p ⟨⟩) Q)
        -∗ tileWp d L (.op (.assume C dC) fun p => SparseCore.vectorStoreIdx tabM ![slot] nv mask false (h p.down) hs >>= k p) Q) := by
  subst hslot hmask
  have hin := stepSlot_lt hg hv hc
  iintro H Hk
  iapply (check_step d L (hC hin))
  iapply (store_step d L f) $$ H
  iintro H
  ispecialize Hk $$ %(⟨hC hin⟩) %(storeIdx (e := .i32) ((tabM.access (.whole S4096)).read (Elt F) f) ![stepSlot v c] nv (stepMask m c) false hin)
  iapply Hk $$ [] [H]
  · ipureintro
    exact (congrArg (Sel near n (g + 1)) (Memref.read_access_whole (Elt F) cc0_scratch6 _)).mpr (scatter_step hg hv hc hm hf hn hin)
  · iexact H

/-- One trip of the walk: point `n`'s coordinates are loaded into every lane, and the eight groups of queries step one
    after the other. -/
theorem walk_step {near : Nat → Nat → Prop} {sx sy sz : S8192.Idx → F .f32}
    {v51 v52 v53 : IVec S16 32} {v58 v61 v64 v74 v77 v80 v90 v93 v96 v106 v109 v112 v122 v125 v128 v138 v141 v144 v154 v157 v160 v170 v173 v176 : Vec F S16 .f32}
    {v69 v85 v101 v117 v133 v149 v165 v181 : IVec S16 32} {v166 c7 : BitVec 32} {w10 : k0_chk10 v69} {w12 : k0_chk12 v85} {w14 : k0_chk14 v101}
    (h52 : v52 = broadcast S16 0#32) (h53 : v53 = broadcast S16 1#32)
    (hb0 : Base 0 v69) (hb1 : Base 1 v85) (hb2 : Base 2 v101) (hb3 : Base 3 v117) (hb4 : Base 4 v133) (hb5 : Base 5 v149) (hb6 : Base 6 v165) (hb7 : Base 7 v181)
    (hg0 : Group near sx sy sz 0 v58 v61 v64) (hg1 : Group near sx sy sz 1 v74 v77 v80) (hg2 : Group near sx sy sz 2 v90 v93 v96)
    (hg3 : Group near sx sy sz 3 v106 v109 v112) (hg4 : Group near sx sy sz 4 v122 v125 v128) (hg5 : Group near sx sy sz 5 v138 v141 v144)
    (hg6 : Group near sx sy sz 6 v154 v157 v160) (hg7 : Group near sx sy sz 7 v170 v173 v176)
    (k : Fin k0_t1_loop.trips)
    (acc : IVec S16 32 × IVec S16 32 × IVec S16 32 × IVec S16 32 × IVec S16 32 × IVec S16 32 × IVec S16 32 × IVec S16 32 × IVec S16 32) :
    walkInv d L near sx sy sz k.val acc
      ⊢ tileWp d L (k0_t1_body L qtM (Memref.isWhole_whole _) stM (Memref.isWhole_whole _) ffM (Memref.isWhole_whole _) oxM (Memref.isWhole_whole _) orM (Memref.isWhole_whole _) sxM (Memref.isWhole_whole _) syM (Memref.isWhole_whole _) szM (Memref.isWhole_whole _) qxM (Memref.isWhole_whole _) qyM (Memref.isWhole_whole _) qzM (Memref.isWhole_whole _) tabM (Memref.isWhole_whole _) rowM (Memref.isWhole_whole _) oaM (Memref.isWhole_whole _) obM (Memref.isWhole_whole _) ocM (Memref.isWhole_whole _) g0M (Memref.isWhole_whole _) g1M (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10
          v51 v52 v53 v58 v61 v64 v69 w10 v74 v77 v80 v85 w12 v90 v93 v96 v101 w14 v106 v109 v112 v117 v122 v125 v128 v133 v138 v141 v144 v149
          v154 v157 v160 v165 v166 c7 v170 v173 v176 v181 k acc)
        (walkInv d L near sx sy sz (k.val + 1)) := by
  obtain ⟨nv, c0, c1, c2, c3, c4, c5, c6, c7'⟩ := acc
  have hn : k.val < 8192 := lt_of_lt_of_le k.isLt k0_t1_abs.2.1
  subst h52 h53
  unfold walkInv k0_t1_body
  rw [k0_part1_eq_skeleton, k0_part2_eq_skeleton, k0_part3_eq_skeleton]
  unfold k0_part1_skel k0_part2_skel k0_part3_skel
  dsimp only
  iintro ⟨%hp, Hx, Hy, Hz, %f, %hf, Hf⟩
  obtain ⟨hnv, h0, h1, h2, h3, h4, h5, h6, h7⟩ := hp
  have hlt : ∀ a x, ((![nv] : Fin 1 → IVec S16 32) a x).toNat < S8192.size a := fun a x => by
    obtain rfl : a = 0 := Fin.eq_zero a
    show (nv x).toNat < 8192
    rw [hnv x]; exact hn
  have hchk : k0_chk1 nv := ⟨hlt, hlt, hlt⟩
  simp only [Prog.lift, Prog.bind_op, Prog.bind_ret, Prog.pure_eq_ret, bind_assoc]
  iapply (check_step d L hchk)
  iapply (load_step d L sxM sx) $$ Hx
  iintro Hx
  iapply (load_step d L syM sy) $$ Hy
  iintro Hy
  iapply (load_step d L szM sz) $$ Hz
  iintro Hz
  generalize hpx : loadIdx ((sxM.access (.whole S8192)).read (Elt F) sx) ![nv] _ = px
  have ex : ∀ x, px x = sx (ix k.val hn) := fun x => by rw [← hpx]; exact (load_point hn hnv ((sxM.access (.whole S8192)).read (Elt F) sx) hlt x).trans (congrFun (Memref.read_access_whole (Elt F) cc0_scratch0 sx) _)
  generalize hpy : loadIdx ((syM.access (.whole S8192)).read (Elt F) sy) ![nv] _ = py
  have ey : ∀ x, py x = sy (ix k.val hn) := fun x => by rw [← hpy]; exact (load_point hn hnv ((syM.access (.whole S8192)).read (Elt F) sy) hlt x).trans (congrFun (Memref.read_access_whole (Elt F) cc0_scratch1 sy) _)
  generalize hpz : loadIdx ((szM.access (.whole S8192)).read (Elt F) sz) ![nv] _ = pz
  have ez : ∀ x, pz x = sz (ix k.val hn) := fun x => by rw [← hpz]; exact (load_point hn hnv ((szM.access (.whole S8192)).read (Elt F) sz) hlt x).trans (congrFun (Memref.read_access_whole (Elt F) cc0_scratch2 sz) _)
  have m0 := laneMask_iff hg0 hn ex ey ez
  have m1 := laneMask_iff hg1 hn ex ey ez
  have m2 := laneMask_iff hg2 hn ex ey ez
  have m3 := laneMask_iff hg3 hn ex ey ez
  have m4 := laneMask_iff hg4 hn ex ey ez
  have m5 := laneMask_iff hg5 hn ex ey ez
  have m6 := laneMask_iff hg6 hn ex ey ez
  have m7 := laneMask_iff hg7 hn ex ey ez
  iapply (group_step d L (by decide) hb0 h0 m0 hnv rfl rfl (fun h => h) (h := fun h => h) f hf) $$ Hf
  iintro %_ %f1 %hf1 Hf
  iapply (group_step d L (by decide) hb1 h1 m1 hnv rfl rfl (fun h => h) (h := fun h => h) f1 hf1) $$ Hf
  iintro %_ %f2 %hf2 Hf
  iapply (group_step d L (by decide) hb2 h2 m2 hnv rfl rfl (fun h => h) (h := fun h => h) f2 hf2) $$ Hf
  iintro %_ %f3 %hf3 Hf
  iapply (group_step d L (by decide) hb3 h3 m3 hnv rfl rfl (fun h => h) (h := fun h => h) f3 hf3) $$ Hf
  iintro %_ %f4 %hf4 Hf
  iapply (group_step d L (by decide) hb4 h4 m4 hnv rfl rfl (fun h => h) (h := fun h => h) f4 hf4) $$ Hf
  iintro %_ %f5 %hf5 Hf
  iapply (group_step d L (by decide) hb5 h5 m5 hnv rfl rfl (fun h => h) (h := fun h => h) f5 hf5) $$ Hf
  iintro %_ %f6 %hf6 Hf
  iapply (group_step d L (by decide) hb6 h6 m6 hnv rfl rfl (fun h => h) (h := fun h => h) f6 hf6) $$ Hf
  iintro %_ %f7 %hf7 Hf
  iapply (group_step d L (by decide) hb7 h7 m7 hnv rfl rfl (fun h => h) (h := fun h => h) f7 hf7) $$ Hf
  iintro %_ %f8 %hf8 Hf
  iapply (ret_step d L)
  isplitr
  · ipureintro
    refine ⟨fun x => ?_, cnt_step h0 m0, cnt_step h1 m1, cnt_step h2 m2, cnt_step h3 m3, cnt_step h4 m4, cnt_step h5 m5, cnt_step h6 m6, cnt_step h7 m7⟩
    have h1' : (1#32 : BitVec 32).toNat = 1 := rfl
    show (IntOp.addi (nv x) 1#32).toNat = k.val + 1
    rw [addi_toNat (by rw [hnv x, h1']; omega), hnv x, h1']
  isplitl [Hx]; · iexact Hx
  isplitl [Hy]; · iexact Hy
  isplitl [Hz]; · iexact Hz
  iexists f8
  isplitr
  · ipureintro; exact hf8.next
  · iexact Hf

end Cert.Tile

end
-- ==== Proof.Fetch.lean ====
/-
  The tile's first part: its coordinates are copied in, and its queries are loaded group by group.
-/
module

public import proofs.«01_k».proof.Proof.Blocks
public import proofs.«01_k».proof.Proof.Copies
public import proofs.«01_k».proof.Proof.Walk

@[expose] public section

noncomputable section

namespace Cert.Tile

open Cert.KernelIdeal Cert.KernelIdeal.Gen Cert.BallQuery
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (L : grid0.Coords)

/-- The group facts of the tile's loaded queries. -/
theorem group_of (QT : S12288.Idx → F .f32) (ST : S98304.Idx → F .f32) {g : Nat} (hg : g < 8) :
    Group (tileNear QT ST L) (supp ST (bN L) 0) (supp ST (bN L) 1) (supp ST (bN L) 2) g (lanes (quer QT (bN L) (qN L) 0) g)
      (lanes (quer QT (bN L) (qN L) 1) g) (lanes (quer QT (bN L) (qN L) 2) g) := by
  intro x n hn
  have hx : (x 0).val < 16 := (x 0).isLt
  have e : ∀ a, lanes (quer QT (bN L) (qN L) a) g x = rd (N := 12288) QT ((bN L * 3 + a) * 1024 + (qN L + (16 * g + (x 0).val))) := fun a => by
    unfold lanes
    rw [rd_of_lt _ (by omega : 16 * g + (x 0).val < 128)]
    show rd (N := 12288) QT ((bN L * 3 + a) * 1024 + qN L + (16 * g + (x 0).val)) = _
    rw [Nat.add_assoc]
  rw [e 0, e 1, e 2]
  exact Iff.rfl

/-- Sixteen queries are loaded. -/
theorem lane_step (base : Memref sig .scVector .vmem S128 .f32) {g : Nat} (hg : g < 8) {off : Fin 1 → Nat} (hoff : off = ![16 * g]) {hin : ∀ a, off a + S16.size a ≤ S128.size a}
    {hl : base.view.LoadsAt (Rect.unit (s := S128) off S16.size hin).toLoadRect}
    {α : Type} {Q : α → sProp (MM F)} {k : Vec F S16 .f32 → Prog (TpuEff nD τ sig (Elt F) Λ₀ (VT d L).2) α}
    (f : Buf (Elt F) (base.view.loc (VT d L))) {w : S128.Idx → F .f32} (hf : base.view.read (Elt F) f = w) :
    (base.view.loc (VT d L) ↦{fullShare} f : sProp (MM F))
      ⊢ iprop(((base.view.loc (VT d L) ↦{fullShare} f) -∗ tileWp d L (k (lanes w g)) Q)
        -∗ tileWp d L (.op (.load base (Rect.unit (s := S128) off S16.size hin).toLoadRect hl) k) Q) := by
  subst hoff hf
  have e : (base.view.readAt (Elt F) (Rect.unit (s := S128) ![16 * g] S16.size hin).toLoadRect f : Vec F S16 .f32) = lanes (base.view.read (Elt F) f) g := by
    funext x
    have hx : (x 0).val < 16 := (x 0).isLt
    unfold lanes
    rw [rd_of_lt _ (by omega : 16 * g + (x 0).val < 128)]
    show base.view.read (Elt F) f _ = base.view.read (Elt F) f _
    congr 1
    refine ext1 ?_
    show 16 * g + 1 * (x 0).val = 16 * g + (x 0).val
    omega
  iintro H Hk
  iapply (wp_load 𝒱₀ (VT d L) none Set.univ (m := base) (S := Finset.univ) (q := fullShare) (f := f) (Finset.subset_univ _)) $$ H
  iintro H
  rw [e]
  iapply Hk
  iexact H

section Parts

variable {α : Type} {Q : α → sProp (MM F)} {QT : S12288.Idx → F .f32} {ST : S98304.Idx → F .f32} {qs qt : PosShare TreeShare}
  {O : CellTallies nD τ sig (HIx 1)} {W : Waits sig (HIx 1)}

/-- What a copy in gives back at its wait: the array's share, and the buffer with contents `w`. -/
abbrev fetched {s s₀ : Shape} (big : Memref sig .scVector .hbm s₀ .f32) (q : PosShare TreeShare) (f : Buf (Elt F) (big.view.loc (VT d L)))
    (dst : Memref sig .scVector .vmem s .f32) (w : s.Idx → F .f32) : sProp (MM F) :=
  iprop((big.view.loc (VT d L) ↦{q} f) ∗ ∃ f' : Buf (Elt F) (dst.view.loc (VT d L)), ⌜dst.view.read (Elt F) f' = w⌝ ∗ (dst.view.loc (VT d L) ↦{fullShare} f'))

/-- A plane of support coordinates starts on its way in. -/
theorem supp_step {sem : DmaSem sig} (dst : Memref sig .scVector .vmem S8192 .f32) {a : Nat} {off : Fin 1 → Nat} (hoff : off = ![(bN L * 3 + a) * 8192])
    {hin : ∀ i, off i + S8192.size i ≤ S98304.size i} {hst}
    {hsrc : (stM.slice (Rect.unit (s := S98304) off S8192.size hin) hst).view.WordExact} {hdst : dst.view.WordExact}
    {hsem : DmaTarget.Typed (nD := nD) (τ := τ) (p := (VT d L).2) .hbm (.dma sem) (.here dst)}
    {k : PUnit → Prog (TpuEff nD τ sig (Elt F) Λ₀ (VT d L).2) α} (fd : Buf (Elt F) (dst.view.loc (VT d L))) (hN0 : 0 < dst.view.dmaCredit) :
    iprop((stM.view.loc (VT d L) ↦{qs} ST) ∗ (dst.view.loc (VT d L) ↦{fullShare} fd) ∗ idle d L sem)
      ⊢ iprop((Pending d L sem dst.view.dmaCredit (fetched d L stM qs ST dst (supp ST (bN L) a)) -∗ tileWp d L (k ⟨⟩) Q)
        -∗ tileWp d L (.op (.enqueueDma (stM.slice (Rect.unit (s := S98304) off S8192.size hin) hst) (.here dst) (.dma sem) hsrc hdst hsem) k) Q) := by
  have h := fetch_step d L (Q := Q) (k := k) (hsrc := hsrc) (hdst := hdst) (hsem := hsem) (q := qs) ST fd hN0
  rw [supp_read ST hoff] at h
  exact h

/-- A plane of queries starts on its way in. -/
theorem quer_step {sem : DmaSem sig} (dst : Memref sig .scVector .vmem S128 .f32) {a : Nat} {off : Fin 1 → Nat} (hoff : off = ![(bN L * 3 + a) * 1024 + qN L])
    {hin : ∀ i, off i + S128.size i ≤ S12288.size i} {hst}
    {hsrc : (qtM.slice (Rect.unit (s := S12288) off S128.size hin) hst).view.WordExact} {hdst : dst.view.WordExact}
    {hsem : DmaTarget.Typed (nD := nD) (τ := τ) (p := (VT d L).2) .hbm (.dma sem) (.here dst)}
    {k : PUnit → Prog (TpuEff nD τ sig (Elt F) Λ₀ (VT d L).2) α} (fd : Buf (Elt F) (dst.view.loc (VT d L))) (hN0 : 0 < dst.view.dmaCredit) :
    iprop((qtM.view.loc (VT d L) ↦{qt} QT) ∗ (dst.view.loc (VT d L) ↦{fullShare} fd) ∗ idle d L sem)
      ⊢ iprop((Pending d L sem dst.view.dmaCredit (fetched d L qtM qt QT dst (quer QT (bN L) (qN L) a)) -∗ tileWp d L (k ⟨⟩) Q)
        -∗ tileWp d L (.op (.enqueueDma (qtM.slice (Rect.unit (s := S12288) off S128.size hin) hst) (.here dst) (.dma sem) hsrc hdst hsem) k) Q) := by
  have h := fetch_step d L (Q := Q) (k := k) (hsrc := hsrc) (hdst := hdst) (hsem := hsem) (q := qt) QT fd hN0
  rw [quer_read QT hoff] at h
  exact h

/-- The batch's first feature row. -/
def rowBase : BitVec 32 := BitVec.ofNat 32 (bN L * 8192)

theorem pos8192 (dst : Memref sig .scVector .vmem S8192 .f32) : 0 < dst.view.dmaCredit := View.dmaCredit_pos _ (by decide)
theorem pos128 (dst : Memref sig .scVector .vmem S128 .f32) : 0 < dst.view.dmaCredit := View.dmaCredit_pos _ (by decide)

/-- The first copy starts. -/
theorem part5_step {k : (Σ' (v18 : BitVec 32) (v29 : BitVec 32) (v30 : BitVec 32), BitVec 32) → Prog (TpuEff nD τ sig (Elt F) Λ₀ (VT d L).2) α}
    (fd : Buf (Elt F) (sxM.view.loc (VT d L))) :
    iprop((stM.view.loc (VT d L) ↦{qs} ST) ∗ (sxM.view.loc (VT d L) ↦{fullShare} fd) ∗ idle d L cc0_scoped0.sem)
      ⊢ iprop((∀ v18 v29 v31, Pending d L cc0_scoped0.sem sxM.view.dmaCredit (fetched d L stM qs ST sxM (supp ST (bN L) 0)) -∗ tileWp d L (k ⟨v18, v29, rowBase L, v31⟩) Q)
        -∗ tileWp d L (k0_part5 L qtM (Memref.isWhole_whole _) stM (Memref.isWhole_whole _) ffM (Memref.isWhole_whole _) oxM (Memref.isWhole_whole _) orM (Memref.isWhole_whole _) sxM (Memref.isWhole_whole _) syM (Memref.isWhole_whole _) szM (Memref.isWhole_whole _) qxM (Memref.isWhole_whole _) qyM (Memref.isWhole_whole _) qzM (Memref.isWhole_whole _) tabM (Memref.isWhole_whole _) rowM (Memref.isWhole_whole _) oaM (Memref.isWhole_whole _) obM (Memref.isWhole_whole _) ocM (Memref.isWhole_whole _) g0M (Memref.isWhole_whole _) g1M (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 >>= k) Q) := by
  rw [k0_part5_eq_skeleton]; unfold k0_part5_skel
  have hb : ∀ L : grid0.Coords, Scalar.muli (Scalar.select (Scalar.andi (Scalar.cmpi .ne (Scalar.subi (Scalar.extui (Scalar.cmpi .sgt (Scalar.addi (Scalar.muli (BitVec.ofNat 32 (L 1).val) 2#32) (BitVec.ofNat 32 (L 0).val)) 0#32)) (Scalar.extui (Scalar.cmpi .slt (Scalar.addi (Scalar.muli (BitVec.ofNat 32 (L 1).val) 2#32) (BitVec.ofNat 32 (L 0).val)) 0#32))) (Scalar.subi (Scalar.extui (Scalar.cmpi .sgt 8#32 0#32)) (Scalar.extui (Scalar.cmpi .slt 8#32 0#32)))) (Scalar.cmpi .ne (Scalar.remsi (Scalar.addi (Scalar.muli (BitVec.ofNat 32 (L 1).val) 2#32) (BitVec.ofNat 32 (L 0).val)) 8#32) 0#32)) (Scalar.subi (Scalar.divsi (Scalar.addi (Scalar.muli (BitVec.ofNat 32 (L 1).val) 2#32) (BitVec.ofNat 32 (L 0).val)) 8#32) 1#32) (Scalar.divsi (Scalar.addi (Scalar.muli (BitVec.ofNat 32 (L 1).val) 2#32) (BitVec.ofNat 32 (L 0).val)) 8#32)) 8192#32 = rowBase L := by
    decide +kernel
  dsimp only
  simp only [Prog.lift, Prog.bind_op, Prog.bind_ret, Prog.pure_eq_ret, bind_assoc]
  rw [hb]
  iintro ⟨Hst, Hx, Hs⟩ Hk
  iapply (supp_step d L sxM (a := 0) (off1_eq L) fd (pos8192 _)) $$ [Hst Hx Hs]
  · isplitl [Hst]; · iexact Hst
    isplitl [Hx]; · iexact Hx
    iexact Hs
  iintro Hp
  iapply Hk
  iexact Hp

/-- The copies of the other planes, the last left under way. -/
theorem part6_step {v18 v29 : BitVec 32} {k : PUnit → Prog (TpuEff nD τ sig (Elt F) Λ₀ (VT d L).2) α}
    (fy : Buf (Elt F) (syM.view.loc (VT d L))) (fz : Buf (Elt F) (szM.view.loc (VT d L))) (gx : Buf (Elt F) (qxM.view.loc (VT d L)))
    (gy : Buf (Elt F) (qyM.view.loc (VT d L))) (gz : Buf (Elt F) (qzM.view.loc (VT d L))) :
    iprop(Pending d L cc0_scoped0.sem sxM.view.dmaCredit (fetched d L stM qs ST sxM (supp ST (bN L) 0)) ∗ (qtM.view.loc (VT d L) ↦{qt} QT)
        ∗ (syM.view.loc (VT d L) ↦{fullShare} fy) ∗ (szM.view.loc (VT d L) ↦{fullShare} fz)
        ∗ (qxM.view.loc (VT d L) ↦{fullShare} gx) ∗ (qyM.view.loc (VT d L) ↦{fullShare} gy) ∗ (qzM.view.loc (VT d L) ↦{fullShare} gz)
        ∗ idle d L cc0_scoped1.sem ∗ idle d L cc0_scoped2.sem ∗ idle d L cc0_scoped3.sem ∗ idle d L cc0_scoped4.sem ∗ idle d L cc0_scoped5.sem
        ∗ owed d L O W)
      ⊢ iprop((iprop((stM.view.loc (VT d L) ↦{qs} ST)
            ∗ (sxM.view.loc (VT d L) ↦{fullShare} supp ST (bN L) 0) ∗ (syM.view.loc (VT d L) ↦{fullShare} supp ST (bN L) 1) ∗ (szM.view.loc (VT d L) ↦{fullShare} supp ST (bN L) 2)
            ∗ (qxM.view.loc (VT d L) ↦{fullShare} quer QT (bN L) (qN L) 0) ∗ (qyM.view.loc (VT d L) ↦{fullShare} quer QT (bN L) (qN L) 1)
            ∗ Pending d L cc0_scoped5.sem qzM.view.dmaCredit (fetched d L qtM qt QT qzM (quer QT (bN L) (qN L) 2))
            ∗ idle d L cc0_scoped0.sem ∗ idle d L cc0_scoped1.sem ∗ idle d L cc0_scoped2.sem ∗ idle d L cc0_scoped3.sem ∗ idle d L cc0_scoped4.sem
            ∗ owed d L O W) -∗ tileWp d L (k ⟨⟩) Q)
        -∗ tileWp d L (k0_part6 L qtM (Memref.isWhole_whole _) stM (Memref.isWhole_whole _) ffM (Memref.isWhole_whole _) oxM (Memref.isWhole_whole _) orM (Memref.isWhole_whole _) sxM (Memref.isWhole_whole _) syM (Memref.isWhole_whole _) szM (Memref.isWhole_whole _) qxM (Memref.isWhole_whole _) qyM (Memref.isWhole_whole _) qzM (Memref.isWhole_whole _) tabM (Memref.isWhole_whole _) rowM (Memref.isWhole_whole _) oaM (Memref.isWhole_whole _) obM (Memref.isWhole_whole _) ocM (Memref.isWhole_whole _) g0M (Memref.isWhole_whole _) g1M (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 v18 v29 >>= k) Q) := by
  rw [k0_part6_eq_skeleton]; unfold k0_part6_skel
  dsimp only
  simp only [Prog.lift, Prog.bind_op, Prog.bind_ret, Prog.pure_eq_ret, bind_assoc]
  iintro ⟨Hp, Hqt, Hy, Hz, Hqx, Hqy, Hqz, H1, H2, H3, H4, H5, HO⟩ Hk
  iapply (wait_step d L rfl) $$ [Hp HO]
  · isplitl [Hp]; · iexact Hp
    iexact HO
  iintro ⟨Hst, %fx, %hfx, Hx⟩ H0 HO
  obtain rfl : fx = supp ST (bN L) 0 := hfx
  iapply (supp_step d L syM (a := 1) (off2_eq L 0) fy (pos8192 _)) $$ [Hst Hy H1]
  · isplitl [Hst]; · iexact Hst
    isplitl [Hy]; · iexact Hy
    iexact H1
  iintro Hp
  iapply (wait_step d L rfl) $$ [Hp HO]
  · isplitl [Hp]; · iexact Hp
    iexact HO
  iintro ⟨Hst, %fy', %hfy, Hy⟩ H1 HO
  obtain rfl : fy' = supp ST (bN L) 1 := hfy
  iapply (supp_step d L szM (a := 2) (off2_eq L 1) fz (pos8192 _)) $$ [Hst Hz H2]
  · isplitl [Hst]; · iexact Hst
    isplitl [Hz]; · iexact Hz
    iexact H2
  iintro Hp
  iapply (wait_step d L rfl) $$ [Hp HO]
  · isplitl [Hp]; · iexact Hp
    iexact HO
  iintro ⟨Hst, %fz', %hfz, Hz⟩ H2 HO
  obtain rfl : fz' = supp ST (bN L) 2 := hfz
  iapply (quer_step d L qxM (a := 0) (off3_eq L) gx (pos128 _)) $$ [Hqt Hqx H3]
  · isplitl [Hqt]; · iexact Hqt
    isplitl [Hqx]; · iexact Hqx
    iexact H3
  iintro Hp
  iapply (wait_step d L rfl) $$ [Hp HO]
  · isplitl [Hp]; · iexact Hp
    iexact HO
  iintro ⟨Hqt, %gx', %hgx, Hqx⟩ H3 HO
  obtain rfl : gx' = quer QT (bN L) (qN L) 0 := hgx
  iapply (quer_step d L qyM (a := 1) (off4_eq L 0) gy (pos128 _)) $$ [Hqt Hqy H4]
  · isplitl [Hqt]; · iexact Hqt
    isplitl [Hqy]; · iexact Hqy
    iexact H4
  iintro Hp
  iapply (wait_step d L rfl) $$ [Hp HO]
  · isplitl [Hp]; · iexact Hp
    iexact HO
  iintro ⟨Hqt, %gy', %hgy, Hqy⟩ H4 HO
  obtain rfl : gy' = quer QT (bN L) (qN L) 1 := hgy
  iapply (quer_step d L qzM (a := 2) (off4_eq L 1) gz (pos128 _)) $$ [Hqt Hqz H5]
  · isplitl [Hqt]; · iexact Hqt
    isplitl [Hqz]; · iexact Hqz
    iexact H5
  iintro Hp
  iapply Hk
  isplitl [Hst]; · iexact Hst
  isplitl [Hx]; · iexact Hx
  isplitl [Hy]; · iexact Hy
  isplitl [Hz]; · iexact Hz
  isplitl [Hqx]; · iexact Hqx
  isplitl [Hqy]; · iexact Hqy
  isplitl [Hp]; · iexact Hp
  isplitl [H0]; · iexact H0
  isplitl [H1]; · iexact H1
  isplitl [H2]; · iexact H2
  isplitl [H3]; · iexact H3
  isplitl [H4]; · iexact H4
  iexact HO

end Parts

end Cert.Tile

end
-- ==== Proof.Fills.lean ====
/-
  The fill of the table of selected points: after the walk, each group's slots past its near points take the group's
  first samples, one slot number per trip.
-/
module

public import proofs.«01_k».proof.Proof.Walk

@[expose] public section

noncomputable section

namespace Cert.Tile

open Cert.KernelIdeal Cert.KernelIdeal.Gen Cert.BallQuery
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (L : grid0.Coords)

attribute [local irreducible] storeIdx loadIdx

theorem iv_eq (k : Nat) : Scf.iv 0#32 1#32 k = BitVec.ofNat 32 k := by
  simp [Scf.iv]

/-- The table of selected points in the fill, `J` slots into group `g`. -/
def fillInv (near : Nat → Nat → Prop) (g J : Nat) (_ : BitVec 32) : sProp (MM F) :=
  iprop(∃ f : Buf (Elt F) (tabM.view.loc (VT d L)), ⌜Fill near g J ((tabM.access (.whole S4096)).read (Elt F) f)⌝ ∗ (tabM.view.loc (VT d L) ↦{fullShare} f))

/-- One trip of a group's fill: one slot more. -/
theorem fill_trip {near : Nat → Nat → Prop} {g J : Nat} (hJ : J < 32) {v c : IVec S16 32} {w : Vec F S16 .i32} {slot : IVec S16 32} {mask : IVec S16 1}
    (hg : g < 8) (hv : Base g v) (hc : Cnt near 8192 g c) (hw : Firsts near g w)
    (hslot : slot = fillSlot v (BitVec.ofNat 32 J)) (hmask : mask = fillMask c (BitVec.ofNat 32 J))
    {C : Prop} {dC : Decidable C} (hC : (∀ a x, ((![slot] : Fin 1 → IVec S16 32) a x).toNat < S4096.size a) → C)
    {h : C → ∀ a x, ((![slot] : Fin 1 → IVec S16 32) a x).toNat < S4096.size a} {hs : (tabM.access (.whole S4096)).Stores Finset.univ} (acc b : BitVec 32) :
    fillInv d L near g J acc
      ⊢ tileWp d L (.op (.assume C dC) fun p => SparseCore.vectorStoreIdx tabM ![slot] w mask false (h p.down) hs >>= fun _ => .ret b)
          (fillInv d L near g (J + 1)) := by
  subst hslot hmask
  have hin := fillSlot_lt hg hv hJ
  unfold fillInv
  iintro ⟨%f, %hf, H⟩
  iapply (check_step d L (hC hin))
  iapply (store_step d L f) $$ H
  iintro H
  iapply (ret_step d L)
  iexists (storeIdx (e := .i32) ((tabM.access (.whole S4096)).read (Elt F) f) ![fillSlot v (BitVec.ofNat 32 J)] w (fillMask c (BitVec.ofNat 32 J)) false hin)
  isplitr
  · ipureintro
    exact (congrArg (Fill near g (J + 1)) (Memref.read_access_whole (Elt F) cc0_scratch6 _)).mpr (fill_step hg hv hc hJ hf hw hin)
  · iexact H

/-- A group's fill from its trips: 32 of them settle the group. -/
theorem fill_loop {near : Nat → Nat → Prop} {g : Nat} {l : Scf.Loop 32} (hok : l.OK) (ht : l.trips = 32)
    {body : Fin l.trips → BitVec 32 → Prog (TpuEff nD τ sig (Elt F) Λ₀ (VT d L).2) (BitVec 32)}
    (hbody : ∀ (k : Fin l.trips) (acc : BitVec 32), fillInv d L near g k.val acc ⊢ tileWp d L (body k acc) (fillInv d L near g (k.val + 1)))
    {β : Type} {kk : BitVec 32 → Prog (TpuEff nD τ sig (Elt F) Λ₀ (VT d L).2) β} {Q : β → sProp (MM F)} (b : BitVec 32) :
    fillInv d L near g 0 b
      ⊢ iprop((∀ acc, fillInv d L near (g + 1) 0 acc -∗ tileWp d L (kk acc) Q) -∗ tileWp d L (Scf.Loop.for l hok b body >>= kk) Q) := by
  iintro H HK
  iapply (Scf.wp_for_bind frame (wpE (defs₀ (F := F)) 𝒱₀ (VT d L) none) Set.univ l.lb l.ub l.st hok b body (fillInv d L near g) hbody) $$ H
  iintro %acc H
  iapply HK
  have e : Scf.trips l.lb l.ub l.st = 32 := ht
  rw [e]
  unfold fillInv
  icases H with ⟨%f, %hf, H⟩
  iexists f
  isplitr
  · ipureintro; exact hf.next
  · iexact H

/-- A trip of group 0's fill. -/
theorem fill_step2 {near : Nat → Nat → Prop} {v51 : IVec S16 32} {v52 : IVec S16 32} {v53 : IVec S16 32} {v58 : Vec F S16 .f32} {v61 : Vec F S16 .f32} {v64 : Vec F S16 .f32} {v69 : IVec S16 32} {k0_hw10 : k0_chk10 v69} {v74 : Vec F S16 .f32} {v77 : Vec F S16 .f32} {v80 : Vec F S16 .f32} {v85 : IVec S16 32} {k0_hw12 : k0_chk12 v85} {v90 : Vec F S16 .f32} {v93 : Vec F S16 .f32} {v96 : Vec F S16 .f32} {v101 : IVec S16 32} {k0_hw14 : k0_chk14 v101} {v106 : Vec F S16 .f32} {v109 : Vec F S16 .f32} {v112 : Vec F S16 .f32} {v117 : IVec S16 32} {v122 : Vec F S16 .f32} {v125 : Vec F S16 .f32} {v128 : Vec F S16 .f32} {v133 : IVec S16 32} {v138 : Vec F S16 .f32} {v141 : Vec F S16 .f32} {v144 : Vec F S16 .f32} {v149 : IVec S16 32} {v154 : Vec F S16 .f32} {v157 : Vec F S16 .f32} {v160 : Vec F S16 .f32} {v165 : IVec S16 32} {v166 : BitVec 32} {c7_i32 : BitVec 32} {v183_1 : IVec S16 32} {v186 : Vec F S16 .i32}
    (hv : Base 0 v69) (hc : Cnt near 8192 0 v183_1) (hw : Firsts near 0 (k0_pay39 v52 v183_1 v186)) (k : Fin k0_t2_loop.trips) (acc : BitVec 32) :
    fillInv d L near 0 k.val acc
      ⊢ tileWp d L (k0_t2_body L qtM (Memref.isWhole_whole _) stM (Memref.isWhole_whole _) ffM (Memref.isWhole_whole _) oxM (Memref.isWhole_whole _) orM (Memref.isWhole_whole _) sxM (Memref.isWhole_whole _) syM (Memref.isWhole_whole _) szM (Memref.isWhole_whole _) qxM (Memref.isWhole_whole _) qyM (Memref.isWhole_whole _) qzM (Memref.isWhole_whole _) tabM (Memref.isWhole_whole _) rowM (Memref.isWhole_whole _) oaM (Memref.isWhole_whole _) obM (Memref.isWhole_whole _) ocM (Memref.isWhole_whole _) g0M (Memref.isWhole_whole _) g1M (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 v51 v52 v53 v58 v61 v64 v69 k0_hw10 v74 v77 v80 v85 k0_hw12 v90 v93 v96 v101 k0_hw14 v106 v109 v112 v117 v122 v125 v128 v133 v138 v141 v144 v149 v154 v157 v160 v165 v166 c7_i32 v183_1 v186 k acc) (fillInv d L near 0 (k.val + 1)) := by
  have hk : k.val < 32 := lt_of_lt_of_le k.isLt k0_t2_abs.2.1
  unfold k0_t2_body
  simp only [Prog.lift, Prog.bind_op, Prog.bind_ret, Prog.pure_eq_ret, bind_assoc]
  exact fill_trip d L hk (by decide) hv hc hw (congrArg (fillSlot v69) (iv_eq _)) (congrArg (fillMask v183_1) (iv_eq _)) (fun h => h) (h := fun h => h) acc _

/-- A trip of group 1's fill. -/
theorem fill_step3 {near : Nat → Nat → Prop} {v51 : IVec S16 32} {v52 : IVec S16 32} {v53 : IVec S16 32} {v58 : Vec F S16 .f32} {v61 : Vec F S16 .f32} {v64 : Vec F S16 .f32} {v69 : IVec S16 32} {k0_hw10 : k0_chk10 v69} {v74 : Vec F S16 .f32} {v77 : Vec F S16 .f32} {v80 : Vec F S16 .f32} {v85 : IVec S16 32} {k0_hw12 : k0_chk12 v85} {v90 : Vec F S16 .f32} {v93 : Vec F S16 .f32} {v96 : Vec F S16 .f32} {v101 : IVec S16 32} {k0_hw14 : k0_chk14 v101} {v106 : Vec F S16 .f32} {v109 : Vec F S16 .f32} {v112 : Vec F S16 .f32} {v117 : IVec S16 32} {v122 : Vec F S16 .f32} {v125 : Vec F S16 .f32} {v128 : Vec F S16 .f32} {v133 : IVec S16 32} {v138 : Vec F S16 .f32} {v141 : Vec F S16 .f32} {v144 : Vec F S16 .f32} {v149 : IVec S16 32} {v154 : Vec F S16 .f32} {v157 : Vec F S16 .f32} {v160 : Vec F S16 .f32} {v165 : IVec S16 32} {v166 : BitVec 32} {c7_i32 : BitVec 32} {v183_2 : IVec S16 32} {v192 : Vec F S16 .i32}
    (hv : Base 1 v85) (hc : Cnt near 8192 1 v183_2) (hw : Firsts near 1 (k0_pay42 v52 v183_2 v192)) (k : Fin k0_t3_loop.trips) (acc : BitVec 32) :
    fillInv d L near 1 k.val acc
      ⊢ tileWp d L (k0_t3_body L qtM (Memref.isWhole_whole _) stM (Memref.isWhole_whole _) ffM (Memref.isWhole_whole _) oxM (Memref.isWhole_whole _) orM (Memref.isWhole_whole _) sxM (Memref.isWhole_whole _) syM (Memref.isWhole_whole _) szM (Memref.isWhole_whole _) qxM (Memref.isWhole_whole _) qyM (Memref.isWhole_whole _) qzM (Memref.isWhole_whole _) tabM (Memref.isWhole_whole _) rowM (Memref.isWhole_whole _) oaM (Memref.isWhole_whole _) obM (Memref.isWhole_whole _) ocM (Memref.isWhole_whole _) g0M (Memref.isWhole_whole _) g1M (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 v51 v52 v53 v58 v61 v64 v69 k0_hw10 v74 v77 v80 v85 k0_hw12 v90 v93 v96 v101 k0_hw14 v106 v109 v112 v117 v122 v125 v128 v133 v138 v141 v144 v149 v154 v157 v160 v165 v166 c7_i32 v183_2 v192 k acc) (fillInv d L near 1 (k.val + 1)) := by
  have hk : k.val < 32 := lt_of_lt_of_le k.isLt k0_t3_abs.2.1
  unfold k0_t3_body
  simp only [Prog.lift, Prog.bind_op, Prog.bind_ret, Prog.pure_eq_ret, bind_assoc]
  exact fill_trip d L hk (by decide) hv hc hw (congrArg (fillSlot v85) (iv_eq _)) (congrArg (fillMask v183_2) (iv_eq _)) (fun h => h) (h := fun h => h) acc _

/-- A trip of group 2's fill. -/
theorem fill_step4 {near : Nat → Nat → Prop} {v52 : IVec S16 32} {v101 : IVec S16 32} {v117 : IVec S16 32} {k0_hw16 : k0_chk16 v117} {v133 : IVec S16 32} {k0_hw18 : k0_chk18 v133} {v149 : IVec S16 32} {k0_hw20 : k0_chk20 v149} {v165 : IVec S16 32} {k0_hw22 : k0_chk22 v165} {v181 : IVec S16 32} {k0_hw24 : k0_chk24 v181} {v183_3 : IVec S16 32} {v183_4 : IVec S16 32} {v183_5 : IVec S16 32} {v183_6 : IVec S16 32} {v183_7 : IVec S16 32} {v183_8 : IVec S16 32} {v199 : Vec F S16 .i32} {c0_i32_93 : BitVec 32} {c0_i32_94 : BitVec 32}
    (hv : Base 2 v101) (hc : Cnt near 8192 2 v183_3) (hw : Firsts near 2 (v199)) (hz : c0_i32_94 = 0#32) (k : Fin k0_t4_loop.trips) (acc : BitVec 32) :
    fillInv d L near 2 k.val acc
      ⊢ tileWp d L (k0_t4_body L qtM (Memref.isWhole_whole _) stM (Memref.isWhole_whole _) ffM (Memref.isWhole_whole _) oxM (Memref.isWhole_whole _) orM (Memref.isWhole_whole _) sxM (Memref.isWhole_whole _) syM (Memref.isWhole_whole _) szM (Memref.isWhole_whole _) qxM (Memref.isWhole_whole _) qyM (Memref.isWhole_whole _) qzM (Memref.isWhole_whole _) tabM (Memref.isWhole_whole _) rowM (Memref.isWhole_whole _) oaM (Memref.isWhole_whole _) obM (Memref.isWhole_whole _) ocM (Memref.isWhole_whole _) g0M (Memref.isWhole_whole _) g1M (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 v52 v101 v117 k0_hw16 v133 k0_hw18 v149 k0_hw20 v165 k0_hw22 v181 k0_hw24 v183_3 v183_4 v183_5 v183_6 v183_7 v183_8 v199 c0_i32_93 c0_i32_94 k acc) (fillInv d L near 2 (k.val + 1)) := by
  have hk : k.val < 32 := lt_of_lt_of_le k.isLt k0_t4_abs.2.1
  subst hz
  unfold k0_t4_body
  simp only [Prog.lift, Prog.bind_op, Prog.bind_ret, Prog.pure_eq_ret, bind_assoc]
  exact fill_trip d L hk (by decide) hv hc hw (congrArg (fillSlot v101) (iv_eq _)) (congrArg (fillMask v183_3) (iv_eq _)) (fun h => h) (h := fun h => h) acc _

/-- A trip of group 3's fill. -/
theorem fill_step5 {near : Nat → Nat → Prop} {v52 : IVec S16 32} {v101 : IVec S16 32} {v117 : IVec S16 32} {k0_hw16 : k0_chk16 v117} {v133 : IVec S16 32} {k0_hw18 : k0_chk18 v133} {v149 : IVec S16 32} {k0_hw20 : k0_chk20 v149} {v165 : IVec S16 32} {k0_hw22 : k0_chk22 v165} {v181 : IVec S16 32} {k0_hw24 : k0_chk24 v181} {v183_3 : IVec S16 32} {v183_4 : IVec S16 32} {v183_5 : IVec S16 32} {v183_6 : IVec S16 32} {v183_7 : IVec S16 32} {v183_8 : IVec S16 32} {v199 : Vec F S16 .i32} {c0_i32_93 : BitVec 32} {c0_i32_94 : BitVec 32} {v204 : Vec F S16 .i32}
    (hv : Base 3 v117) (hc : Cnt near 8192 3 v183_4) (hw : Firsts near 3 (k0_pay48 v52 v183_4 v204)) (hz : c0_i32_94 = 0#32) (k : Fin k0_t5_loop.trips) (acc : BitVec 32) :
    fillInv d L near 3 k.val acc
      ⊢ tileWp d L (k0_t5_body L qtM (Memref.isWhole_whole _) stM (Memref.isWhole_whole _) ffM (Memref.isWhole_whole _) oxM (Memref.isWhole_whole _) orM (Memref.isWhole_whole _) sxM (Memref.isWhole_whole _) syM (Memref.isWhole_whole _) szM (Memref.isWhole_whole _) qxM (Memref.isWhole_whole _) qyM (Memref.isWhole_whole _) qzM (Memref.isWhole_whole _) tabM (Memref.isWhole_whole _) rowM (Memref.isWhole_whole _) oaM (Memref.isWhole_whole _) obM (Memref.isWhole_whole _) ocM (Memref.isWhole_whole _) g0M (Memref.isWhole_whole _) g1M (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 v52 v101 v117 k0_hw16 v133 k0_hw18 v149 k0_hw20 v165 k0_hw22 v181 k0_hw24 v183_3 v183_4 v183_5 v183_6 v183_7 v183_8 v199 c0_i32_93 c0_i32_94 v204 k acc) (fillInv d L near 3 (k.val + 1)) := by
  have hk : k.val < 32 := lt_of_lt_of_le k.isLt k0_t5_abs.2.1
  subst hz
  unfold k0_t5_body
  simp only [Prog.lift, Prog.bind_op, Prog.bind_ret, Prog.pure_eq_ret, bind_assoc]
  exact fill_trip d L hk (by decide) hv hc hw (congrArg (fillSlot v117) (iv_eq _)) (congrArg (fillMask v183_4) (iv_eq _)) (fun h => h) (h := fun h => h) acc _

/-- A trip of group 4's fill. -/
theorem fill_step6 {near : Nat → Nat → Prop} {v52 : IVec S16 32} {v101 : IVec S16 32} {v117 : IVec S16 32} {k0_hw16 : k0_chk16 v117} {v133 : IVec S16 32} {k0_hw18 : k0_chk18 v133} {v149 : IVec S16 32} {k0_hw20 : k0_chk20 v149} {v165 : IVec S16 32} {k0_hw22 : k0_chk22 v165} {v181 : IVec S16 32} {k0_hw24 : k0_chk24 v181} {v183_3 : IVec S16 32} {v183_4 : IVec S16 32} {v183_5 : IVec S16 32} {v183_6 : IVec S16 32} {v183_7 : IVec S16 32} {v183_8 : IVec S16 32} {v199 : Vec F S16 .i32} {c0_i32_93 : BitVec 32} {c0_i32_94 : BitVec 32} {v210 : Vec F S16 .i32}
    (hv : Base 4 v133) (hc : Cnt near 8192 4 v183_5) (hw : Firsts near 4 (k0_pay51 v52 v183_5 v210)) (hz : c0_i32_94 = 0#32) (k : Fin k0_t6_loop.trips) (acc : BitVec 32) :
    fillInv d L near 4 k.val acc
      ⊢ tileWp d L (k0_t6_body L qtM (Memref.isWhole_whole _) stM (Memref.isWhole_whole _) ffM (Memref.isWhole_whole _) oxM (Memref.isWhole_whole _) orM (Memref.isWhole_whole _) sxM (Memref.isWhole_whole _) syM (Memref.isWhole_whole _) szM (Memref.isWhole_whole _) qxM (Memref.isWhole_whole _) qyM (Memref.isWhole_whole _) qzM (Memref.isWhole_whole _) tabM (Memref.isWhole_whole _) rowM (Memref.isWhole_whole _) oaM (Memref.isWhole_whole _) obM (Memref.isWhole_whole _) ocM (Memref.isWhole_whole _) g0M (Memref.isWhole_whole _) g1M (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 v52 v101 v117 k0_hw16 v133 k0_hw18 v149 k0_hw20 v165 k0_hw22 v181 k0_hw24 v183_3 v183_4 v183_5 v183_6 v183_7 v183_8 v199 c0_i32_93 c0_i32_94 v210 k acc) (fillInv d L near 4 (k.val + 1)) := by
  have hk : k.val < 32 := lt_of_lt_of_le k.isLt k0_t6_abs.2.1
  subst hz
  unfold k0_t6_body
  simp only [Prog.lift, Prog.bind_op, Prog.bind_ret, Prog.pure_eq_ret, bind_assoc]
  exact fill_trip d L hk (by decide) hv hc hw (congrArg (fillSlot v133) (iv_eq _)) (congrArg (fillMask v183_5) (iv_eq _)) (fun h => h) (h := fun h => h) acc _

/-- A trip of group 5's fill. -/
theorem fill_step7 {near : Nat → Nat → Prop} {v52 : IVec S16 32} {v101 : IVec S16 32} {v117 : IVec S16 32} {k0_hw16 : k0_chk16 v117} {v133 : IVec S16 32} {k0_hw18 : k0_chk18 v133} {v149 : IVec S16 32} {k0_hw20 : k0_chk20 v149} {v165 : IVec S16 32} {k0_hw22 : k0_chk22 v165} {v181 : IVec S16 32} {k0_hw24 : k0_chk24 v181} {v183_3 : IVec S16 32} {v183_4 : IVec S16 32} {v183_5 : IVec S16 32} {v183_6 : IVec S16 32} {v183_7 : IVec S16 32} {v183_8 : IVec S16 32} {v199 : Vec F S16 .i32} {c0_i32_93 : BitVec 32} {c0_i32_94 : BitVec 32} {v216 : Vec F S16 .i32}
    (hv : Base 5 v149) (hc : Cnt near 8192 5 v183_6) (hw : Firsts near 5 (k0_pay54 v52 v183_6 v216)) (hz : c0_i32_94 = 0#32) (k : Fin k0_t7_loop.trips) (acc : BitVec 32) :
    fillInv d L near 5 k.val acc
      ⊢ tileWp d L (k0_t7_body L qtM (Memref.isWhole_whole _) stM (Memref.isWhole_whole _) ffM (Memref.isWhole_whole _) oxM (Memref.isWhole_whole _) orM (Memref.isWhole_whole _) sxM (Memref.isWhole_whole _) syM (Memref.isWhole_whole _) szM (Memref.isWhole_whole _) qxM (Memref.isWhole_whole _) qyM (Memref.isWhole_whole _) qzM (Memref.isWhole_whole _) tabM (Memref.isWhole_whole _) rowM (Memref.isWhole_whole _) oaM (Memref.isWhole_whole _) obM (Memref.isWhole_whole _) ocM (Memref.isWhole_whole _) g0M (Memref.isWhole_whole _) g1M (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 v52 v101 v117 k0_hw16 v133 k0_hw18 v149 k0_hw20 v165 k0_hw22 v181 k0_hw24 v183_3 v183_4 v183_5 v183_6 v183_7 v183_8 v199 c0_i32_93 c0_i32_94 v216 k acc) (fillInv d L near 5 (k.val + 1)) := by
  have hk : k.val < 32 := lt_of_lt_of_le k.isLt k0_t7_abs.2.1
  subst hz
  unfold k0_t7_body
  simp only [Prog.lift, Prog.bind_op, Prog.bind_ret, Prog.pure_eq_ret, bind_assoc]
  exact fill_trip d L hk (by decide) hv hc hw (congrArg (fillSlot v149) (iv_eq _)) (congrArg (fillMask v183_6) (iv_eq _)) (fun h => h) (h := fun h => h) acc _

/-- A trip of group 6's fill. -/
theorem fill_step8 {near : Nat → Nat → Prop} {v52 : IVec S16 32} {v101 : IVec S16 32} {v117 : IVec S16 32} {k0_hw16 : k0_chk16 v117} {v133 : IVec S16 32} {k0_hw18 : k0_chk18 v133} {v149 : IVec S16 32} {k0_hw20 : k0_chk20 v149} {v165 : IVec S16 32} {k0_hw22 : k0_chk22 v165} {v181 : IVec S16 32} {k0_hw24 : k0_chk24 v181} {v183_3 : IVec S16 32} {v183_4 : IVec S16 32} {v183_5 : IVec S16 32} {v183_6 : IVec S16 32} {v183_7 : IVec S16 32} {v183_8 : IVec S16 32} {v199 : Vec F S16 .i32} {c0_i32_93 : BitVec 32} {c0_i32_94 : BitVec 32} {v222 : Vec F S16 .i32}
    (hv : Base 6 v165) (hc : Cnt near 8192 6 v183_7) (hw : Firsts near 6 (k0_pay57 v52 v183_7 v222)) (hz : c0_i32_94 = 0#32) (k : Fin k0_t8_loop.trips) (acc : BitVec 32) :
    fillInv d L near 6 k.val acc
      ⊢ tileWp d L (k0_t8_body L qtM (Memref.isWhole_whole _) stM (Memref.isWhole_whole _) ffM (Memref.isWhole_whole _) oxM (Memref.isWhole_whole _) orM (Memref.isWhole_whole _) sxM (Memref.isWhole_whole _) syM (Memref.isWhole_whole _) szM (Memref.isWhole_whole _) qxM (Memref.isWhole_whole _) qyM (Memref.isWhole_whole _) qzM (Memref.isWhole_whole _) tabM (Memref.isWhole_whole _) rowM (Memref.isWhole_whole _) oaM (Memref.isWhole_whole _) obM (Memref.isWhole_whole _) ocM (Memref.isWhole_whole _) g0M (Memref.isWhole_whole _) g1M (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 v52 v101 v117 k0_hw16 v133 k0_hw18 v149 k0_hw20 v165 k0_hw22 v181 k0_hw24 v183_3 v183_4 v183_5 v183_6 v183_7 v183_8 v199 c0_i32_93 c0_i32_94 v222 k acc) (fillInv d L near 6 (k.val + 1)) := by
  have hk : k.val < 32 := lt_of_lt_of_le k.isLt k0_t8_abs.2.1
  subst hz
  unfold k0_t8_body
  simp only [Prog.lift, Prog.bind_op, Prog.bind_ret, Prog.pure_eq_ret, bind_assoc]
  exact fill_trip d L hk (by decide) hv hc hw (congrArg (fillSlot v165) (iv_eq _)) (congrArg (fillMask v183_7) (iv_eq _)) (fun h => h) (h := fun h => h) acc _

/-- A trip of group 7's fill. -/
theorem fill_step9 {near : Nat → Nat → Prop} {v18 : BitVec 32} {v29 : BitVec 32} {v30 : BitVec 32} {v181 : IVec S16 32} {v183_8 : IVec S16 32} {v229 : Vec F S16 .i32} {c0_i32_123 : BitVec 32} {c0_i32_124 : BitVec 32}
    (hv : Base 7 v181) (hc : Cnt near 8192 7 v183_8) (hw : Firsts near 7 (v229)) (hz : c0_i32_124 = 0#32) (k : Fin k0_t9_loop.trips) (acc : BitVec 32) :
    fillInv d L near 7 k.val acc
      ⊢ tileWp d L (k0_t9_body L qtM (Memref.isWhole_whole _) stM (Memref.isWhole_whole _) ffM (Memref.isWhole_whole _) oxM (Memref.isWhole_whole _) orM (Memref.isWhole_whole _) sxM (Memref.isWhole_whole _) syM (Memref.isWhole_whole _) szM (Memref.isWhole_whole _) qxM (Memref.isWhole_whole _) qyM (Memref.isWhole_whole _) qzM (Memref.isWhole_whole _) tabM (Memref.isWhole_whole _) rowM (Memref.isWhole_whole _) oaM (Memref.isWhole_whole _) obM (Memref.isWhole_whole _) ocM (Memref.isWhole_whole _) g0M (Memref.isWhole_whole _) g1M (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 v18 v29 v30 v181 v183_8 v229 c0_i32_123 c0_i32_124 k acc) (fillInv d L near 7 (k.val + 1)) := by
  have hk : k.val < 32 := lt_of_lt_of_le k.isLt k0_t9_abs.2.1
  subst hz
  unfold k0_t9_body
  simp only [Prog.lift, Prog.bind_op, Prog.bind_ret, Prog.pure_eq_ret, bind_assoc]
  exact fill_trip d L hk (by decide) hv hc hw (congrArg (fillSlot v181) (iv_eq _)) (congrArg (fillMask v183_8) (iv_eq _)) (fun h => h) (h := fun h => h) acc _

end Cert.Tile

end
-- ==== Proof.Load.lean ====
/-
  The tile's middle part: the eight groups of queries are loaded, the walk selects their points, and the fills settle
  the table.
-/
module

public import proofs.«01_k».proof.Proof.Fetch
public import proofs.«01_k».proof.Proof.Fills

@[expose] public section

noncomputable section

namespace Cert.Tile

open Cert.KernelIdeal Cert.KernelIdeal.Gen Cert.BallQuery
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (L : grid0.Coords)

/-- The lanes' numbers. -/
abbrev laneIx : IVec S16 32 := iota .scVector S16 32 [0] iota_S16_d0_w32_scVector

theorem base0 : Base 0 k0_pay27 := by unfold Base; decide +kernel
theorem base1 : Base 1 k0_pay28 := by unfold Base; decide +kernel
theorem base2 : Base 2 (k0_pay29 laneIx (Scalar.muli 0#32 8#32) 2#32) := by unfold Base; decide +kernel
theorem base3 : Base 3 (k0_pay30 laneIx 0#32) := by unfold Base; decide +kernel
theorem base4 : Base 4 (k0_pay31 laneIx (Scalar.addi (Scalar.muli 0#32 8#32) 4#32)) := by unfold Base; decide +kernel
theorem base5 : Base 5 (k0_pay32 laneIx 0#32) := by unfold Base; decide +kernel
theorem base6 : Base 6 (k0_pay33 laneIx 0#32) := by unfold Base; decide +kernel
theorem base7 : Base 7 (k0_pay34 laneIx (Scalar.muli 0#32 8#32) 7#32) := by unfold Base; decide +kernel

/-- The walk's trips. -/
theorem walk_trips : k0_t1_loop.trips = 8192 := by decide +kernel
theorem fill_trips2 : k0_t2_loop.trips = 32 := by decide +kernel
theorem fill_trips3 : k0_t3_loop.trips = 32 := by decide +kernel
theorem fill_trips4 : k0_t4_loop.trips = 32 := by decide +kernel
theorem fill_trips5 : k0_t5_loop.trips = 32 := by decide +kernel
theorem fill_trips6 : k0_t6_loop.trips = 32 := by decide +kernel
theorem fill_trips7 : k0_t7_loop.trips = 32 := by decide +kernel
theorem fill_trips8 : k0_t8_loop.trips = 32 := by decide +kernel
theorem fill_trips9 : k0_t9_loop.trips = 32 := by decide +kernel

section Parts

variable {α : Type} {Q : α → sProp (MM F)} {X Y Z : S128.Idx → F .f32} {QT : S12288.Idx → F .f32} {qt : PosShare TreeShare}
  {O : CellTallies nD τ sig (HIx 1)} {W : Waits sig (HIx 1)}

/-- The tile's queries, in its buffers. -/
abbrev queries (X Y Z : S128.Idx → F .f32) : sProp (MM F) :=
  iprop((qxM.view.loc (VT d L) ↦{fullShare} X) ∗ (qyM.view.loc (VT d L) ↦{fullShare} Y) ∗ (qzM.view.loc (VT d L) ↦{fullShare} Z))

/-- The tile's support points, in its buffers. -/
abbrev points (sx sy sz : S8192.Idx → F .f32) : sProp (MM F) :=
  iprop((sxM.view.loc (VT d L) ↦{fullShare} sx) ∗ (syM.view.loc (VT d L) ↦{fullShare} sy) ∗ (szM.view.loc (VT d L) ↦{fullShare} sz))

/-- The last plane of queries arrives; groups 0 and 1 are loaded. -/
theorem part7_step {k : _ → Prog (TpuEff nD τ sig (Elt F) Λ₀ (VT d L).2) α} :
    iprop(Pending d L cc0_scoped5.sem qzM.view.dmaCredit (fetched d L qtM qt QT qzM Z) ∗ (qxM.view.loc (VT d L) ↦{fullShare} X) ∗ (qyM.view.loc (VT d L) ↦{fullShare} Y)
        ∗ owed d L O W)
      ⊢ iprop((iprop((qtM.view.loc (VT d L) ↦{qt} QT) ∗ idle d L cc0_scoped5.sem ∗ owed d L O W ∗ queries d L X Y Z)
          -∗ tileWp d L (k ⟨laneIx, k0_pay25, k0_pay26, 0#32, lanes X 0, lanes Y 0, lanes Z 0, k0_pay27, base_lt (by decide) base0, lanes X 1, lanes Y 1, lanes Z 1, k0_pay28,
              base_lt (by decide) base1, Scalar.muli 0#32 8#32, 2#32⟩) Q)
        -∗ tileWp d L (k0_part7 L qtM (Memref.isWhole_whole _) stM (Memref.isWhole_whole _) ffM (Memref.isWhole_whole _) oxM (Memref.isWhole_whole _) orM (Memref.isWhole_whole _) sxM (Memref.isWhole_whole _) syM (Memref.isWhole_whole _) szM (Memref.isWhole_whole _) qxM (Memref.isWhole_whole _) qyM (Memref.isWhole_whole _) qzM (Memref.isWhole_whole _) tabM (Memref.isWhole_whole _) rowM (Memref.isWhole_whole _) oaM (Memref.isWhole_whole _) obM (Memref.isWhole_whole _) ocM (Memref.isWhole_whole _) g0M (Memref.isWhole_whole _) g1M (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 >>= k) Q) := by
  rw [k0_part7_eq_skeleton]; unfold k0_part7_skel
  dsimp only
  simp only [Prog.lift, Prog.bind_op, Prog.bind_ret, Prog.pure_eq_ret, bind_assoc]
  iintro ⟨Hp, Hx, Hy, HO⟩ Hk
  iapply (wait_step d L rfl) $$ [Hp HO]
  · isplitl [Hp]; · iexact Hp
    iexact HO
  iintro ⟨Hqt, %fz, %hfz, Hz⟩ Hs HO
  have hfz : fz = Z := hfz
  subst hfz
  iapply (lane_step d L qxM (g := 0) (by decide) (k0_off5_eq 0) X rfl) $$ Hx; iintro Hx
  iapply (lane_step d L qyM (g := 0) (by decide) (k0_off5_eq 0) Y rfl) $$ Hy; iintro Hy
  iapply (lane_step d L qzM (g := 0) (by decide) (k0_off5_eq 0) fz rfl) $$ Hz; iintro Hz
  iapply (check_step d L (base_lt (by decide) base0))
  iapply (lane_step d L qxM (g := 1) (by decide) (k0_off5_eq 1) X rfl) $$ Hx; iintro Hx
  iapply (lane_step d L qyM (g := 1) (by decide) (k0_off5_eq 1) Y rfl) $$ Hy; iintro Hy
  iapply (lane_step d L qzM (g := 1) (by decide) (k0_off5_eq 1) fz rfl) $$ Hz; iintro Hz
  iapply (check_step d L (base_lt (by decide) base1))
  iapply Hk
  isplitl [Hqt]; · iexact Hqt
  isplitl [Hs]; · iexact Hs
  isplitl [HO]; · iexact HO
  isplitl [Hx]; · iexact Hx
  isplitl [Hy]; · iexact Hy
  iexact Hz

/-- Groups 2 and 3 are loaded, and half of group 4. -/
theorem part8_step {k : _ → Prog (TpuEff nD τ sig (Elt F) Λ₀ (VT d L).2) α} :
    queries d L X Y Z
      ⊢ iprop((queries d L X Y Z -∗ tileWp d L (k ⟨lanes X 2, lanes Y 2, lanes Z 2, k0_pay29 laneIx (Scalar.muli 0#32 8#32) 2#32, base_lt (by decide) base2,
            lanes X 3, lanes Y 3, lanes Z 3, k0_pay30 laneIx 0#32, base_lt (by decide) base3, Scalar.addi (Scalar.muli 0#32 8#32) 4#32, lanes X 4, lanes Y 4⟩) Q)
        -∗ tileWp d L (k0_part8 L qtM (Memref.isWhole_whole _) stM (Memref.isWhole_whole _) ffM (Memref.isWhole_whole _) oxM (Memref.isWhole_whole _) orM (Memref.isWhole_whole _) sxM (Memref.isWhole_whole _) syM (Memref.isWhole_whole _) szM (Memref.isWhole_whole _) qxM (Memref.isWhole_whole _) qyM (Memref.isWhole_whole _) qzM (Memref.isWhole_whole _) tabM (Memref.isWhole_whole _) rowM (Memref.isWhole_whole _) oaM (Memref.isWhole_whole _) obM (Memref.isWhole_whole _) ocM (Memref.isWhole_whole _) g0M (Memref.isWhole_whole _) g1M (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 laneIx 0#32 (Scalar.muli 0#32 8#32) 2#32 >>= k) Q) := by
  rw [k0_part8_eq_skeleton]; unfold k0_part8_skel
  dsimp only
  simp only [Prog.lift, Prog.bind_op, Prog.bind_ret, Prog.pure_eq_ret, bind_assoc]
  iintro ⟨Hx, Hy, Hz⟩ Hk
  iapply (lane_step d L qxM (g := 2) (by decide) (k0_off5_eq 2) X rfl) $$ Hx; iintro Hx
  iapply (lane_step d L qyM (g := 2) (by decide) (k0_off5_eq 2) Y rfl) $$ Hy; iintro Hy
  iapply (lane_step d L qzM (g := 2) (by decide) (k0_off5_eq 2) Z rfl) $$ Hz; iintro Hz
  iapply (check_step d L (base_lt (by decide) base2))
  iapply (lane_step d L qxM (g := 3) (by decide) (k0_off5_eq 3) X rfl) $$ Hx; iintro Hx
  iapply (lane_step d L qyM (g := 3) (by decide) (k0_off5_eq 3) Y rfl) $$ Hy; iintro Hy
  iapply (lane_step d L qzM (g := 3) (by decide) (k0_off5_eq 3) Z rfl) $$ Hz; iintro Hz
  iapply (check_step d L (base_lt (by decide) base3))
  iapply (lane_step d L qxM (g := 4) (by decide) (k0_off5_eq 4) X rfl) $$ Hx; iintro Hx
  iapply (lane_step d L qyM (g := 4) (by decide) (k0_off5_eq 4) Y rfl) $$ Hy; iintro Hy
  iapply Hk
  isplitl [Hx]; · iexact Hx
  isplitl [Hy]; · iexact Hy
  iexact Hz

/-- The rest of group 4 and groups 5 and 6 are loaded. -/
theorem part9_step {k : _ → Prog (TpuEff nD τ sig (Elt F) Λ₀ (VT d L).2) α} :
    queries d L X Y Z
      ⊢ iprop((queries d L X Y Z -∗ tileWp d L (k ⟨lanes Z 4, k0_pay31 laneIx (Scalar.addi (Scalar.muli 0#32 8#32) 4#32), base_lt (by decide) base4,
            lanes X 5, lanes Y 5, lanes Z 5, k0_pay32 laneIx 0#32, base_lt (by decide) base5, lanes X 6, lanes Y 6, lanes Z 6, k0_pay33 laneIx 0#32, base_lt (by decide) base6,
            Scalar.muli 0#32 8#32, 7#32⟩) Q)
        -∗ tileWp d L (k0_part9 L qtM (Memref.isWhole_whole _) stM (Memref.isWhole_whole _) ffM (Memref.isWhole_whole _) oxM (Memref.isWhole_whole _) orM (Memref.isWhole_whole _) sxM (Memref.isWhole_whole _) syM (Memref.isWhole_whole _) szM (Memref.isWhole_whole _) qxM (Memref.isWhole_whole _) qyM (Memref.isWhole_whole _) qzM (Memref.isWhole_whole _) tabM (Memref.isWhole_whole _) rowM (Memref.isWhole_whole _) oaM (Memref.isWhole_whole _) obM (Memref.isWhole_whole _) ocM (Memref.isWhole_whole _) g0M (Memref.isWhole_whole _) g1M (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 laneIx 0#32 (Scalar.addi (Scalar.muli 0#32 8#32) 4#32) >>= k) Q) := by
  rw [k0_part9_eq_skeleton]; unfold k0_part9_skel
  dsimp only
  simp only [Prog.lift, Prog.bind_op, Prog.bind_ret, Prog.pure_eq_ret, bind_assoc]
  iintro ⟨Hx, Hy, Hz⟩ Hk
  iapply (lane_step d L qzM (g := 4) (by decide) (k0_off5_eq 4) Z rfl) $$ Hz; iintro Hz
  iapply (check_step d L (base_lt (by decide) base4))
  iapply (lane_step d L qxM (g := 5) (by decide) (k0_off5_eq 5) X rfl) $$ Hx; iintro Hx
  iapply (lane_step d L qyM (g := 5) (by decide) (k0_off5_eq 5) Y rfl) $$ Hy; iintro Hy
  iapply (lane_step d L qzM (g := 5) (by decide) (k0_off5_eq 5) Z rfl) $$ Hz; iintro Hz
  iapply (check_step d L (base_lt (by decide) base5))
  iapply (lane_step d L qxM (g := 6) (by decide) (k0_off5_eq 6) X rfl) $$ Hx; iintro Hx
  iapply (lane_step d L qyM (g := 6) (by decide) (k0_off5_eq 6) Y rfl) $$ Hy; iintro Hy
  iapply (lane_step d L qzM (g := 6) (by decide) (k0_off5_eq 6) Z rfl) $$ Hz; iintro Hz
  iapply (check_step d L (base_lt (by decide) base6))
  iapply Hk
  isplitl [Hx]; · iexact Hx
  isplitl [Hy]; · iexact Hy
  iexact Hz

attribute [local irreducible] storeIdx loadIdx

/-- The first words of a group's lists, loaded before its fill. -/
theorem first_step {near : Nat → Nat → Prop} {g : Nat} (hg : g < 8) {v c : IVec S16 32} (hv : Base g v) (hc : Cnt near 8192 g c)
    {h : ∀ a x, ((![v] : Fin 1 → IVec S16 32) a x).toNat < S4096.size a} {hl : tabM.view.Loads} {k : Vec F S16 .i32 → Prog (TpuEff nD τ sig (Elt F) Λ₀ (VT d L).2) α} (acc : BitVec 32) :
    fillInv d L near g 0 acc
      ⊢ iprop((∀ w : Vec F S16 .i32, ⌜Firsts near g (firsts c w)⌝ -∗ (∀ b, fillInv d L near g 0 b) -∗ tileWp d L (k w) Q)
        -∗ tileWp d L (SparseCore.vectorLoadIdx tabM ![v] h hl >>= k) Q) := by
  unfold fillInv
  iintro ⟨%f, %hf, H⟩ Hk
  iapply (load_step d L tabM f) $$ H
  iintro H
  iapply Hk $$ [] [H]
  · ipureintro
    exact fun x => firsts_toNat hg hv hc hf h x
  · iintro %b
    iexists f
    isplitr
    · ipureintro; exact hf
    · iexact H

/-- Group 7 is loaded, the walk runs, and the fills of groups 0 and 1 run. -/
theorem part10_step {near : Nat → Nat → Prop} {sx sy sz : S8192.Idx → F .f32} (hgr : ∀ g < 8, Group near sx sy sz g (lanes X g) (lanes Y g) (lanes Z g))
    {k : _ → Prog (TpuEff nD τ sig (Elt F) Λ₀ (VT d L).2) α} (f : Buf (Elt F) (tabM.view.loc (VT d L))) :
    iprop(queries d L X Y Z ∗ points d L sx sy sz ∗ (tabM.view.loc (VT d L) ↦{fullShare} f))
      ⊢ iprop((∀ c2 c3 c4 c5 c6 c7 w, ⌜(Cnt near 8192 2 c2 ∧ Cnt near 8192 3 c3 ∧ Cnt near 8192 4 c4 ∧ Cnt near 8192 5 c5 ∧ Cnt near 8192 6 c6 ∧ Cnt near 8192 7 c7) ∧ Firsts near 2 w⌝
            -∗ queries d L X Y Z -∗ points d L sx sy sz -∗ (∀ b, fillInv d L near 2 0 b)
            -∗ tileWp d L (k ⟨k0_pay34 laneIx (Scalar.muli 0#32 8#32) 7#32, base_lt (by decide) base7, c2, c3, c4, c5, c6, c7, w, 0#32, 0#32⟩) Q)
        -∗ tileWp d L (k0_part10 L qtM (Memref.isWhole_whole _) stM (Memref.isWhole_whole _) ffM (Memref.isWhole_whole _) oxM (Memref.isWhole_whole _) orM (Memref.isWhole_whole _) sxM (Memref.isWhole_whole _) syM (Memref.isWhole_whole _) szM (Memref.isWhole_whole _) qxM (Memref.isWhole_whole _) qyM (Memref.isWhole_whole _) qzM (Memref.isWhole_whole _) tabM (Memref.isWhole_whole _) rowM (Memref.isWhole_whole _) oaM (Memref.isWhole_whole _) obM (Memref.isWhole_whole _) ocM (Memref.isWhole_whole _) g0M (Memref.isWhole_whole _) g1M (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 laneIx k0_pay25 k0_pay26
            (lanes X 0) (lanes Y 0) (lanes Z 0) k0_pay27 (base_lt (by decide) base0) (lanes X 1) (lanes Y 1) (lanes Z 1) k0_pay28 (base_lt (by decide) base1)
            (lanes X 2) (lanes Y 2) (lanes Z 2) (k0_pay29 laneIx (Scalar.muli 0#32 8#32) 2#32) (base_lt (by decide) base2)
            (lanes X 3) (lanes Y 3) (lanes Z 3) (k0_pay30 laneIx 0#32) (lanes X 4) (lanes Y 4) (lanes Z 4) (k0_pay31 laneIx (Scalar.addi (Scalar.muli 0#32 8#32) 4#32))
            (lanes X 5) (lanes Y 5) (lanes Z 5) (k0_pay32 laneIx 0#32) (lanes X 6) (lanes Y 6) (lanes Z 6) (k0_pay33 laneIx 0#32) (Scalar.muli 0#32 8#32) 7#32 >>= k) Q) := by
  rw [k0_part10_eq_skeleton]; unfold k0_part10_skel
  dsimp only
  simp only [Prog.lift, Prog.bind_op, Prog.bind_ret, Prog.pure_eq_ret, bind_assoc]
  iintro ⟨⟨Hx, Hy, Hz⟩, ⟨Hsx, Hsy, Hsz⟩, Ht⟩ Hk
  iapply (lane_step d L qxM (g := 7) (by decide) (k0_off5_eq 7) X rfl) $$ Hx; iintro Hx
  iapply (lane_step d L qyM (g := 7) (by decide) (k0_off5_eq 7) Y rfl) $$ Hy; iintro Hy
  iapply (lane_step d L qzM (g := 7) (by decide) (k0_off5_eq 7) Z rfl) $$ Hz; iintro Hz
  iapply (check_step d L (base_lt (by decide) base7))
  iapply (Scf.wp_for_bind frame (wpE (defs₀ (F := F)) 𝒱₀ (VT d L) none) Set.univ k0_t1_loop.lb k0_t1_loop.ub k0_t1_loop.st k0_t1_ok _ _ (walkInv d L near sx sy sz)
    (fun k acc => walk_step d L rfl rfl base0 base1 base2 base3 base4 base5 base6 base7 (hgr 0 (by decide)) (hgr 1 (by decide)) (hgr 2 (by decide)) (hgr 3 (by decide))
      (hgr 4 (by decide)) (hgr 5 (by decide)) (hgr 6 (by decide)) (hgr 7 (by decide)) k acc)) $$ [Hsx Hsy Hsz Ht]
  · unfold walkInv
    isplitr
    · ipureintro
      exact ⟨fun _ => rfl, Cnt.init near 0, Cnt.init near 1, Cnt.init near 2, Cnt.init near 3, Cnt.init near 4, Cnt.init near 5, Cnt.init near 6, Cnt.init near 7⟩
    isplitl [Hsx]; · iexact Hsx
    isplitl [Hsy]; · iexact Hsy
    isplitl [Hsz]; · iexact Hsz
    iexists f
    isplitr
    · ipureintro; exact Sel.init near _
    iexact Ht
  iintro %acc H
  have e : Scf.trips k0_t1_loop.lb k0_t1_loop.ub k0_t1_loop.st = 8192 := walk_trips
  rw [e]
  obtain ⟨cn, c0, c1, c2, c3, c4, c5, c6, c7⟩ := acc
  unfold walkInv
  icases H with ⟨%hcs, Hsx, Hsy, Hsz, %f', %hf', Ht⟩
  obtain ⟨-, h0, h1, h2, h3, h4, h5, h6, h7⟩ := hcs
  dsimp only at h0 h1 h2 h3 h4 h5 h6 h7
  ihave Hf : iprop(∀ b, fillInv d L near 0 0 b) $$ [Ht]
  · iintro %b
    unfold fillInv
    iexists f'
    isplitr
    · ipureintro; exact Fill.init hf'
    iexact Ht
  iapply (first_step d L (by decide) base0 h0 0#32) $$ Hf
  iintro %w0 %hw0 Hf
  iapply (fill_loop d L k0_t2_ok fill_trips2 (fun k acc => fill_step2 d L base0 h0 hw0 k acc) 0#32) $$ Hf
  iintro %b0 Hf
  iapply (first_step d L (by decide) base1 h1 b0) $$ Hf
  iintro %w1 %hw1 Hf
  iapply (fill_loop d L k0_t3_ok fill_trips3 (fun k acc => fill_step3 d L base1 h1 hw1 k acc) 0#32) $$ Hf
  iintro %b1 Hf
  iapply (first_step d L (by decide) base2 h2 b1) $$ Hf
  iintro %w2 %hw2 Hf
  iapply Hk $$ %c2 %c3 %c4 %c5 %c6 %c7 %(k0_pay45 k0_pay25 c2 w2) [] [Hx Hy Hz] [Hsx Hsy Hsz] Hf
  · ipureintro
    exact ⟨⟨h2, h3, h4, h5, h6, h7⟩, hw2⟩
  · isplitl [Hx]; · iexact Hx
    isplitl [Hy]; · iexact Hy
    iexact Hz
  · isplitl [Hsx]; · iexact Hsx
    isplitl [Hsy]; · iexact Hsy
    iexact Hsz

/-- The fills of groups 2 to 6 run. -/
theorem part11_step {near : Nat → Nat → Prop} {c2 c3 c4 c5 c6 c7 : IVec S16 32} {w : Vec F S16 .i32}
    (h2 : Cnt near 8192 2 c2) (h3 : Cnt near 8192 3 c3) (h4 : Cnt near 8192 4 c4) (h5 : Cnt near 8192 5 c5) (h6 : Cnt near 8192 6 c6) (h7 : Cnt near 8192 7 c7) (hw : Firsts near 2 w)
    {k : _ → Prog (TpuEff nD τ sig (Elt F) Λ₀ (VT d L).2) α} :
    iprop(∀ b, fillInv d L near 2 0 b)
      ⊢ iprop((∀ w', ⌜Firsts near 7 w'⌝ -∗ (∀ b, fillInv d L near 7 0 b) -∗ tileWp d L (k ⟨w', 0#32, 0#32⟩) Q)
        -∗ tileWp d L (k0_part11 L qtM (Memref.isWhole_whole _) stM (Memref.isWhole_whole _) ffM (Memref.isWhole_whole _) oxM (Memref.isWhole_whole _) orM (Memref.isWhole_whole _) sxM (Memref.isWhole_whole _) syM (Memref.isWhole_whole _) szM (Memref.isWhole_whole _) qxM (Memref.isWhole_whole _) qyM (Memref.isWhole_whole _) qzM (Memref.isWhole_whole _) tabM (Memref.isWhole_whole _) rowM (Memref.isWhole_whole _) oaM (Memref.isWhole_whole _) obM (Memref.isWhole_whole _) ocM (Memref.isWhole_whole _) g0M (Memref.isWhole_whole _) g1M (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 k0_pay25 (k0_pay29 laneIx (Scalar.muli 0#32 8#32) 2#32) (k0_pay30 laneIx 0#32) (base_lt (by decide) base3)
            (k0_pay31 laneIx (Scalar.addi (Scalar.muli 0#32 8#32) 4#32)) (base_lt (by decide) base4) (k0_pay32 laneIx 0#32) (base_lt (by decide) base5)
            (k0_pay33 laneIx 0#32) (base_lt (by decide) base6) (k0_pay34 laneIx (Scalar.muli 0#32 8#32) 7#32) (base_lt (by decide) base7)
            c2 c3 c4 c5 c6 c7 w 0#32 0#32 >>= k) Q) := by
  rw [k0_part11_eq_skeleton]; unfold k0_part11_skel
  dsimp only
  simp only [Prog.lift, Prog.bind_op, Prog.bind_ret, Prog.pure_eq_ret, bind_assoc]
  iintro Hf Hk
  iapply (fill_loop d L k0_t4_ok fill_trips4 (fun k acc => fill_step4 d L base2 h2 hw rfl k acc) 0#32) $$ Hf
  iintro %b2 Hf
  iapply (first_step d L (by decide) base3 h3 b2) $$ Hf
  iintro %w3 %hw3 Hf
  iapply (fill_loop d L k0_t5_ok fill_trips5 (fun k acc => fill_step5 d L base3 h3 hw3 rfl k acc) 0#32) $$ Hf
  iintro %b3 Hf
  iapply (first_step d L (by decide) base4 h4 b3) $$ Hf
  iintro %w4 %hw4 Hf
  iapply (fill_loop d L k0_t6_ok fill_trips6 (fun k acc => fill_step6 d L base4 h4 hw4 rfl k acc) 0#32) $$ Hf
  iintro %b4 Hf
  iapply (first_step d L (by decide) base5 h5 b4) $$ Hf
  iintro %w5 %hw5 Hf
  iapply (fill_loop d L k0_t7_ok fill_trips7 (fun k acc => fill_step7 d L base5 h5 hw5 rfl k acc) 0#32) $$ Hf
  iintro %b5 Hf
  iapply (first_step d L (by decide) base6 h6 b5) $$ Hf
  iintro %w6 %hw6 Hf
  iapply (fill_loop d L k0_t8_ok fill_trips8 (fun k acc => fill_step8 d L base6 h6 hw6 rfl k acc) 0#32) $$ Hf
  iintro %b6 Hf
  iapply (first_step d L (by decide) base7 h7 b6) $$ Hf
  iintro %w7 %hw7 Hf
  iapply Hk $$ %(k0_pay60 k0_pay25 c7 w7) [] Hf
  ipureintro
  exact hw7

end Parts

end Cert.Tile

end
-- ==== Proof.Post.lean ====
/-
  The loop over the queries: with the table of selected points complete, every trip writes one query's 32 relative
  coordinates and 32 row numbers, in two halves of 16.
-/
module

public import proofs.«01_k».proof.Proof.Fills
public import Idealize.ShloMosaic.Lib.Writes

@[expose] public section

noncomputable section

namespace Cert.Tile

open Cert.KernelIdeal Cert.KernelIdeal.Gen Cert.BallQuery
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (L : grid0.Coords)

/-- The first `N` words of `f` are those of `G`. -/
def Upto {α : Type} (N : Nat) (G f : S4096.Idx → α) : Prop := ∀ j : S4096.Idx, (j 0).val < N → f j = G j

/-- What relative coordinate a table of points gives: word `j` is the point's coordinate less query `j / 32`'s. -/
def diff (s : S8192.Idx → F .f32) (q : S128.Idx → F .f32) (T : S4096.Idx → BitVec 32) : S4096.Idx → F .f32 := fun j =>
  FloatOps.subf (rd (N := 8192) s (T j).toNat) (rd (N := 128) q ((j 0).val / 32))

/-- What row numbers a table of points gives. -/
def rows (T : S4096.Idx → BitVec 32) (v : BitVec 32) : S4096.Idx → BitVec 32 := fun j => IntOp.addi (T j) v

/-- A store into one of the tile's buffers, held whole. -/
theorem whole_store {s : Shape} {e : EltTy} (base : Memref sig .scVector .vmem s e) {r : Rect s} {w : r.shape.Idx → Elt F e} {hx : (base.access r).Stores Finset.univ}
    {hm : (Finset.univ : Finset r.shape.Idx) = Finset.univ ∨ ∀ a, r.stride a = 1} {α : Type} {Q : α → sProp (MM F)}
    {k : PUnit → Prog (TpuEff nD τ sig (Elt F) Λ₀ (VT d L).2) α} (f : Buf (Elt F) (base.view.loc (VT d L))) :
    (base.view.loc (VT d L) ↦{fullShare} f : sProp (MM F))
      ⊢ iprop(((base.view.loc (VT d L) ↦{fullShare} ((base.access r).write (Elt F) f w Finset.univ)) -∗ tileWp d L (k ⟨⟩) Q)
        -∗ tileWp d L (.op (.store base r w Finset.univ hx hm) k) Q) := by
  have e := wp_store (Γ := ∅) (defs := defs₀ (F := F)) (Q := Q) 𝒱₀ (VT d L) none Set.univ (m := base) (r := r) (w := w) (Mk := Finset.univ) (hx := hx) (hm := hm)
    (k := k) (S := Finset.univ) (f := f) (Finset.subset_univ _)
  exact e

/-- Sixteen words from `N` on are written, and no other changes. -/
theorem put_step {e : EltTy} (base : Memref sig .scVector .vmem S4096 e) {N : Nat} {off : Fin 1 → Nat} (hoff : off = ![N]) {hin hin' : ∀ a, off a + S16.size a ≤ S4096.size a}
    {w : S16.Idx → Elt F e} {G : S4096.Idx → Elt F e} (hw : ∀ (x : S16.Idx) (j : S4096.Idx), (j 0).val = N + (x 0).val → w x = G j)
    {hl : base.view.LoadsAt (Rect.unit (s := S4096) off S16.size hin).toLoadRect} {hx : (base.access (Rect.unit (s := S4096) off S16.size hin')).Stores Finset.univ}
    {hm : (Finset.univ : Finset (Rect.unit (s := S4096) off S16.size hin').shape.Idx) = Finset.univ ∨ ∀ a, (Rect.unit (s := S4096) off S16.size hin').stride a = 1}
    {α : Type} {Q : α → sProp (MM F)} {k : PUnit → Prog (TpuEff nD τ sig (Elt F) Λ₀ (VT d L).2) α}
    (f : Buf (Elt F) (base.view.loc (VT d L))) (hf : Upto N G (base.view.read (Elt F) f)) :
    (base.view.loc (VT d L) ↦{fullShare} f : sProp (MM F))
      ⊢ iprop((∀ f' : Buf (Elt F) (base.view.loc (VT d L)), ⌜Upto (N + 16) G (base.view.read (Elt F) f')⌝ -∗ (base.view.loc (VT d L) ↦{fullShare} f') -∗ tileWp d L (k ⟨⟩) Q)
        -∗ tileWp d L (.op (.load base (Rect.unit (s := S4096) off S16.size hin).toLoadRect hl) fun _ =>
            .op (.store base (Rect.unit (s := S4096) off S16.size hin') w Finset.univ hx hm) k) Q) := by
  subst hoff
  iintro H Hk
  iapply (wp_load 𝒱₀ (VT d L) none Set.univ (m := base) (S := Finset.univ) (q := fullShare) (Finset.subset_univ _)) $$ H
  iintro H
  iapply (whole_store d L base f) $$ H
  iintro H
  ispecialize Hk $$ %((base.access (Rect.unit (s := S4096) ![N] S16.size hin')).write (Elt F) f w Finset.univ)
  iapply Hk $$ [] [H]
  · ipureintro
    intro j hj
    show base.view.read (Elt F) (base.view.writes (Elt F) f [⟨Rect.unit (s := S4096) ![N] S16.size hin', w⟩]) j = G j
    by_cases hjN : (j 0).val < N
    · rw [View.read_writes_cons_miss_of_axis _ _ _ _ _ 0 N 16 rfl rfl rfl (.inl hjN)]
      exact hf j hjN
    · have hx : (j 0).val - N < 16 := by omega
      have hjx : (j 0).val = N + (ix (n := 16) ((j 0).val - N) hx 0).val := by rw [ix_val]; omega
      rw [View.read_writes_cons_hit_of_coords _ _ _ _ _ (ix (n := 16) ((j 0).val - N) hx) j fun a => by
        obtain rfl : a = 0 := Fin.eq_zero a
        show (j 0).val = N + 1 * (ix (n := 16) ((j 0).val - N) hx 0).val
        omega]
      exact hw _ j hjx
  · iexact H

/-- Sixteen words of the table of points are loaded. -/
theorem get_step {N : Nat} {off : Fin 1 → Nat} (hoff : off = ![N]) {hin : ∀ a, off a + S16.size a ≤ S4096.size a}
    {hl : tabM.view.LoadsAt (Rect.unit (s := S4096) off S16.size hin).toLoadRect}
    {α : Type} {Q : α → sProp (MM F)} {k : ((Rect.unit (s := S4096) off S16.size hin).toLoadRect.shape.Idx → Elt F .i32) → Prog (TpuEff nD τ sig (Elt F) Λ₀ (VT d L).2) α}
    (T : S4096.Idx → BitVec 32) :
    (tabM.view.loc (VT d L) ↦{fullShare} T : sProp (MM F))
      ⊢ iprop((∀ v : S16.Idx → BitVec 32, ⌜∀ (x : S16.Idx) (j : S4096.Idx), (j 0).val = N + (x 0).val → v x = T j⌝ -∗ (tabM.view.loc (VT d L) ↦{fullShare} T) -∗ tileWp d L (k v) Q)
        -∗ tileWp d L (.op (.load tabM (Rect.unit (s := S4096) off S16.size hin).toLoadRect hl) k) Q) := by
  subst hoff
  iintro H Hk
  iapply (wp_load 𝒱₀ (VT d L) none Set.univ (m := tabM) (S := Finset.univ) (q := fullShare) (f := T) (Finset.subset_univ _)) $$ H
  iintro H
  ispecialize Hk $$ %(tabM.view.readAt (Elt F) (Rect.unit (s := S4096) ![N] S16.size hin).toLoadRect T)
  iapply Hk $$ [] [H]
  · ipureintro
    intro x j hj
    show T _ = T j
    congr 1
    refine ext1 ?_
    show N + 1 * (x 0).val = (j 0).val
    omega
  · iexact H

/-- A load of sixteen points of a coordinate table. -/
theorem load_points (s : S8192.Idx → F .f32) (v : S16.Idx → BitVec 32)
    (h : ∀ a x, ((![v] : Fin 1 → IVec S16 32) a x).toNat < S8192.size a) (x : S16.Idx) : loadIdx (e := .f32) s ![v] h x = rd (N := 8192) s (v x).toNat := by
  have hx : (v x).toNat < 8192 := h 0 x
  rw [rd_of_lt s hx]
  show s _ = s _
  congr 1
  exact ext1 rfl

/-- A load of one query into every lane. -/
theorem load_query {q : Nat} (hq : q < 128) (s : S128.Idx → F .f32) {v : IVec S16 32} (hv : ∀ x, (v x).toNat = q)
    (h : ∀ a x, ((![v] : Fin 1 → IVec S16 32) a x).toNat < S128.size a) (x : S16.Idx) : loadIdx (e := .f32) s ![v] h x = rd (N := 128) s q := by
  rw [rd_of_lt s hq]
  show s _ = s _
  congr 1
  exact ext1 (hv x)

attribute [local irreducible] storeIdx loadIdx

/-- The difference two loads give is the one the table asks for. -/
theorem diff_eq {s : S8192.Idx → F .f32} {q : S128.Idx → F .f32} {T : S4096.Idx → BitVec 32} {N k : Nat} (hN : N = 32 * k ∨ N = 32 * k + 16)
    {px py : Vec F S16 .f32} {v : S16.Idx → BitVec 32} (hp : ∀ x, px x = rd (N := 8192) s (v x).toNat) (hq : ∀ x, py x = rd (N := 128) q k)
    (hv : ∀ (x : S16.Idx) (j : S4096.Idx), (j 0).val = N + (x 0).val → v x = T j) :
    ∀ (x : S16.Idx) (j : S4096.Idx), (j 0).val = N + (x 0).val → subf px py x = diff s q T j := by
  intro x j hj
  have hx : (x 0).val < 16 := (x 0).isLt
  show FloatOps.subf (px x) (py x) = FloatOps.subf _ _
  rw [hp, hq, hv x j hj]
  congr 2
  rcases hN with rfl | rfl <;> omega

/-- The buffers the loop over the queries holds, `k` queries written. -/
def postInv (sx sy sz : S8192.Idx → F .f32) (qx qy qz : S128.Idx → F .f32) (T : S4096.Idx → BitVec 32) (v30 : BitVec 32) (k : Nat) (_ : BitVec 32) :
    sProp (MM F) :=
  iprop((sxM.view.loc (VT d L) ↦{fullShare} sx) ∗ (syM.view.loc (VT d L) ↦{fullShare} sy) ∗ (szM.view.loc (VT d L) ↦{fullShare} sz)
    ∗ (qxM.view.loc (VT d L) ↦{fullShare} qx) ∗ (qyM.view.loc (VT d L) ↦{fullShare} qy) ∗ (qzM.view.loc (VT d L) ↦{fullShare} qz)
    ∗ (tabM.view.loc (VT d L) ↦{fullShare} T)
    ∗ (∃ f : Buf (Elt F) (oaM.view.loc (VT d L)), ⌜Upto (32 * k) (diff sx qx T) (oaM.view.read (Elt F) f)⌝ ∗ (oaM.view.loc (VT d L) ↦{fullShare} f))
    ∗ (∃ f : Buf (Elt F) (obM.view.loc (VT d L)), ⌜Upto (32 * k) (diff sy qy T) (obM.view.read (Elt F) f)⌝ ∗ (obM.view.loc (VT d L) ↦{fullShare} f))
    ∗ (∃ f : Buf (Elt F) (ocM.view.loc (VT d L)), ⌜Upto (32 * k) (diff sz qz T) (ocM.view.read (Elt F) f)⌝ ∗ (ocM.view.loc (VT d L) ↦{fullShare} f))
    ∗ (∃ f : Buf (Elt F) (rowM.view.loc (VT d L)), ⌜Upto (32 * k) (rows T v30) (rowM.view.read (Elt F) f)⌝ ∗ (rowM.view.loc (VT d L) ↦{fullShare} f)))

/-- One trip of the loop over the queries. -/
theorem post_step {sx sy sz : S8192.Idx → F .f32} {qx qy qz : S128.Idx → F .f32} {T : S4096.Idx → BitVec 32} (hT : ∀ j, (T j).toNat < 8192)
    {v18 : BitVec 32} {v29 : BitVec 32} {v30 : BitVec 32} {v181 : IVec S16 32} {v183_8 : IVec S16 32} {v229 : Vec F S16 .i32} {c0_i32_123 : BitVec 32} {c0_i32_124 : BitVec 32}
    (k : Fin k0_t10_loop.trips) (acc : BitVec 32) :
    postInv d L sx sy sz qx qy qz T v30 k.val acc
      ⊢ tileWp d L (k0_t10_body L qtM (Memref.isWhole_whole _) stM (Memref.isWhole_whole _) ffM (Memref.isWhole_whole _) oxM (Memref.isWhole_whole _) orM (Memref.isWhole_whole _) sxM (Memref.isWhole_whole _) syM (Memref.isWhole_whole _) szM (Memref.isWhole_whole _) qxM (Memref.isWhole_whole _) qyM (Memref.isWhole_whole _) qzM (Memref.isWhole_whole _) tabM (Memref.isWhole_whole _) rowM (Memref.isWhole_whole _) oaM (Memref.isWhole_whole _) obM (Memref.isWhole_whole _) ocM (Memref.isWhole_whole _) g0M (Memref.isWhole_whole _) g1M (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 v18 v29 v30 v181 v183_8 v229 c0_i32_123 c0_i32_124 k acc) (postInv d L sx sy sz qx qy qz T v30 (k.val + 1)) := by
  have hk : k.val < 128 := lt_of_lt_of_le k.isLt k0_t10_abs.2.1
  unfold postInv k0_t10_body
  iintro ⟨Hsx, Hsy, Hsz, Hqx, Hqy, Hqz, Ht, ⟨%fa, %ha, Ha⟩, ⟨%fb, %hb, Hb⟩, ⟨%fc, %hc, Hc⟩, ⟨%fr, %hr, Hr⟩⟩
  simp only [Prog.lift, Prog.bind_op, Prog.bind_ret, Prog.pure_eq_ret, bind_assoc]
  generalize hqv : broadcast S16 (Scf.iv 0#32 1#32 k.val) = v259
  have hqn : ∀ x, (v259 x).toNat = k.val := fun x => by
    rw [← hqv, iv_eq]
    show (BitVec.ofNat 32 k.val).toNat = _
    rw [BitVec.toNat_ofNat, Nat.mod_eq_of_lt (by omega)]
  have hql : ∀ a x, ((![v259] : Fin 1 → IVec S16 32) a x).toNat < S128.size a := fun a x => by
    obtain rfl : a = 0 := Fin.eq_zero a
    show (v259 x).toNat < 128
    rw [hqn x]; exact hk
  iapply (check_step d L (⟨hql, hql, hql⟩ : k0_chk26 v259))
  iapply (load_step d L qxM qx) $$ Hqx
  iintro Hqx
  iapply (load_step d L qyM qy) $$ Hqy
  iintro Hqy
  iapply (load_step d L qzM qz) $$ Hqz
  iintro Hqz
  generalize hv260 : loadIdx ((qxM.access (.whole S128)).read (Elt F) qx) ![v259] _ = v260
  have e0 : ∀ x, v260 x = rd (N := 128) qx k.val := fun x => by rw [← hv260]; exact (load_query hk ((qxM.access (.whole S128)).read (Elt F) qx) hqn hql x).trans (congrArg (fun s => rd (N := 128) s k.val) (Memref.read_access_whole (Elt F) cc0_scratch3 qx))
  generalize hv261 : loadIdx ((qyM.access (.whole S128)).read (Elt F) qy) ![v259] _ = v261
  have e1 : ∀ x, v261 x = rd (N := 128) qy k.val := fun x => by rw [← hv261]; exact (load_query hk ((qyM.access (.whole S128)).read (Elt F) qy) hqn hql x).trans (congrArg (fun s => rd (N := 128) s k.val) (Memref.read_access_whole (Elt F) cc0_scratch4 qy))
  generalize hv262 : loadIdx ((qzM.access (.whole S128)).read (Elt F) qz) ![v259] _ = v262
  have e2 : ∀ x, v262 x = rd (N := 128) qz k.val := fun x => by rw [← hv262]; exact (load_query hk ((qzM.access (.whole S128)).read (Elt F) qz) hqn hql x).trans (congrArg (fun s => rd (N := 128) s k.val) (Memref.read_access_whole (Elt F) cc0_scratch5 qz))
  iapply (get_step d L (N := (32 * k.val)) (k0_off6_eq k) T) $$ Ht
  iintro %v0 %hv0 Ht
  have hl0 : ∀ a x, ((![v0] : Fin 1 → IVec S16 32) a x).toNat < S8192.size a := fun a x => by
    obtain rfl : a = 0 := Fin.eq_zero a
    have hx : (x 0).val < 16 := (x 0).isLt
    show (v0 x).toNat < 8192
    rw [hv0 x (ix ((32 * k.val) + (x 0).val) (by omega)) rfl]; exact hT _
  iapply (check_step d L (⟨hl0, hl0, hl0⟩ : k0_chk27 v0))
  iapply (load_step d L sxM sx) $$ Hsx
  iintro Hsx
  iapply (load_step d L syM sy) $$ Hsy
  iintro Hsy
  iapply (load_step d L szM sz) $$ Hsz
  iintro Hsz
  generalize hpx : loadIdx ((sxM.access (.whole S8192)).read (Elt F) sx) ![v0] _ = px
  have ex : ∀ x, px x = rd (N := 8192) sx (v0 x).toNat := fun x => by rw [← hpx]; exact (load_points ((sxM.access (.whole S8192)).read (Elt F) sx) v0 hl0 x).trans (congrArg (fun s => rd (N := 8192) s (v0 x).toNat) (Memref.read_access_whole (Elt F) cc0_scratch0 sx))
  generalize hpy : loadIdx ((syM.access (.whole S8192)).read (Elt F) sy) ![v0] _ = py
  have ey : ∀ x, py x = rd (N := 8192) sy (v0 x).toNat := fun x => by rw [← hpy]; exact (load_points ((syM.access (.whole S8192)).read (Elt F) sy) v0 hl0 x).trans (congrArg (fun s => rd (N := 8192) s (v0 x).toNat) (Memref.read_access_whole (Elt F) cc0_scratch1 sy))
  generalize hpz : loadIdx ((szM.access (.whole S8192)).read (Elt F) sz) ![v0] _ = pz
  have ez : ∀ x, pz x = rd (N := 8192) sz (v0 x).toNat := fun x => by rw [← hpz]; exact (load_points ((szM.access (.whole S8192)).read (Elt F) sz) v0 hl0 x).trans (congrArg (fun s => rd (N := 8192) s (v0 x).toNat) (Memref.read_access_whole (Elt F) cc0_scratch2 sz))
  iapply (put_step d L oaM (N := (32 * k.val)) (k0_off7_eq k 0) (diff_eq (s := sx) (q := qx) (T := T) (.inl rfl) ex e0 hv0) fa ha) $$ Ha
  clear ha
  iintro %fa' %ha Ha
  iapply (put_step d L obM (N := (32 * k.val)) (k0_off7_eq k 0) (diff_eq (s := sy) (q := qy) (T := T) (.inl rfl) ey e1 hv0) fb hb) $$ Hb
  clear hb
  iintro %fb' %hb Hb
  iapply (put_step d L ocM (N := (32 * k.val)) (k0_off7_eq k 0) (diff_eq (s := sz) (q := qz) (T := T) (.inl rfl) ez e2 hv0) fc hc) $$ Hc
  clear hc
  iintro %fc' %hc Hc
  iapply (put_step d L rowM (N := (32 * k.val)) (k0_off7_eq k 0) (G := rows T v30) (fun x j hj => congrArg (fun t => IntOp.addi t v30) (hv0 x j hj)) fr hr) $$ Hr
  clear hr
  iintro %fr' %hr Hr
  clear hpx hpy hpz ex ey ez px py pz
  rename' fa' => fa1, fb' => fb1, fc' => fc1, fr' => fr1
  clear fa fb fc fr
  rename' fa1 => fa, fb1 => fb, fc1 => fc, fr1 => fr
  iapply (get_step d L (N := (32 * k.val + 16)) (k0_off7_eq k 1) T) $$ Ht
  iintro %v1 %hv1 Ht
  have hl1 : ∀ a x, ((![v1] : Fin 1 → IVec S16 32) a x).toNat < S8192.size a := fun a x => by
    obtain rfl : a = 0 := Fin.eq_zero a
    have hx : (x 0).val < 16 := (x 0).isLt
    show (v1 x).toNat < 8192
    rw [hv1 x (ix ((32 * k.val + 16) + (x 0).val) (by omega)) rfl]; exact hT _
  iapply (check_step d L (⟨hl1, hl1, hl1⟩ : k0_chk28 v1))
  iapply (load_step d L sxM sx) $$ Hsx
  iintro Hsx
  iapply (load_step d L syM sy) $$ Hsy
  iintro Hsy
  iapply (load_step d L szM sz) $$ Hsz
  iintro Hsz
  generalize hpx : loadIdx ((sxM.access (.whole S8192)).read (Elt F) sx) ![v1] _ = px
  have ex : ∀ x, px x = rd (N := 8192) sx (v1 x).toNat := fun x => by rw [← hpx]; exact (load_points ((sxM.access (.whole S8192)).read (Elt F) sx) v1 hl1 x).trans (congrArg (fun s => rd (N := 8192) s (v1 x).toNat) (Memref.read_access_whole (Elt F) cc0_scratch0 sx))
  generalize hpy : loadIdx ((syM.access (.whole S8192)).read (Elt F) sy) ![v1] _ = py
  have ey : ∀ x, py x = rd (N := 8192) sy (v1 x).toNat := fun x => by rw [← hpy]; exact (load_points ((syM.access (.whole S8192)).read (Elt F) sy) v1 hl1 x).trans (congrArg (fun s => rd (N := 8192) s (v1 x).toNat) (Memref.read_access_whole (Elt F) cc0_scratch1 sy))
  generalize hpz : loadIdx ((szM.access (.whole S8192)).read (Elt F) sz) ![v1] _ = pz
  have ez : ∀ x, pz x = rd (N := 8192) sz (v1 x).toNat := fun x => by rw [← hpz]; exact (load_points ((szM.access (.whole S8192)).read (Elt F) sz) v1 hl1 x).trans (congrArg (fun s => rd (N := 8192) s (v1 x).toNat) (Memref.read_access_whole (Elt F) cc0_scratch2 sz))
  iapply (put_step d L oaM (N := (32 * k.val + 16)) (k0_off8_eq k) (diff_eq (s := sx) (q := qx) (T := T) (.inr rfl) ex e0 hv1) fa ha) $$ Ha
  clear ha
  iintro %fa' %ha Ha
  iapply (put_step d L obM (N := (32 * k.val + 16)) (k0_off8_eq k) (diff_eq (s := sy) (q := qy) (T := T) (.inr rfl) ey e1 hv1) fb hb) $$ Hb
  clear hb
  iintro %fb' %hb Hb
  iapply (put_step d L ocM (N := (32 * k.val + 16)) (k0_off8_eq k) (diff_eq (s := sz) (q := qz) (T := T) (.inr rfl) ez e2 hv1) fc hc) $$ Hc
  clear hc
  iintro %fc' %hc Hc
  iapply (put_step d L rowM (N := (32 * k.val + 16)) (k0_off8_eq k) (G := rows T v30) (fun x j hj => congrArg (fun t => IntOp.addi t v30) (hv1 x j hj)) fr hr) $$ Hr
  clear hr
  iintro %fr' %hr Hr
  clear hpx hpy hpz ex ey ez px py pz
  iapply (ret_step d L)
  isplitl [Hsx]; · iexact Hsx
  isplitl [Hsy]; · iexact Hsy
  isplitl [Hsz]; · iexact Hsz
  isplitl [Hqx]; · iexact Hqx
  isplitl [Hqy]; · iexact Hqy
  isplitl [Hqz]; · iexact Hqz
  isplitl [Ht]; · iexact Ht
  isplitl [Ha]
  · iexists fa'
    isplitr; · ipureintro; exact ha
    iexact Ha
  isplitl [Hb]
  · iexists fb'
    isplitr; · ipureintro; exact hb
    iexact Hb
  isplitl [Hc]
  · iexists fc'
    isplitr; · ipureintro; exact hc
    iexact Hc
  iexists fr'
  isplitr; · ipureintro; exact hr
  iexact Hr

end Cert.Tile

end
-- ==== Proof.Out.lean ====
/-
  The tile's relative coordinates: the post loop's three planes, copied to the tile's three windows of the result.
-/
module

public import proofs.«01_k».proof.Proof.Load
public import proofs.«01_k».proof.Proof.Post

@[expose] public section

noncomputable section

namespace Cert.Tile

open Cert.KernelIdeal Cert.KernelIdeal.Gen Cert.BallQuery
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (L : grid0.Coords)

/-- The words of coordinate `a` that the tile writes. -/
def oxWin (a : Nat) : Finset S393216.Idx := Finset.univ.filter fun j => (j 0).val / 4096 = (bN L * 3 + a) * 8 + wid L % 8

theorem mem_oxWin {a : Nat} {i : S393216.Idx} : i ∈ oxWin L a ↔ (i 0).val / 4096 = (bN L * 3 + a) * 8 + wid L % 8 := by
  unfold oxWin; rw [Finset.mem_filter]; exact and_iff_right (Finset.mem_univ _)

/-- The table holds the samples of the tile's queries. -/
def Samples (QT : S12288.Idx → F .f32) (ST : S98304.Idx → F .f32) (T : S4096.Idx → BitVec 32) : Prop :=
  ∀ j : S4096.Idx, (T j).toNat = sel QT ST (bN L) (qN L + (j 0).val / 32) ((j 0).val % 32)

variable {L} in
theorem Samples.lt {QT : S12288.Idx → F .f32} {ST : S98304.Idx → F .f32} {T : S4096.Idx → BitVec 32} (h : Samples L QT ST T) (j : S4096.Idx) :
    (T j).toNat < 8192 := by rw [h j]; exact sel_lt _ _ _ _ _

variable {L} in
/-- The table's differences are the result's words. -/
theorem Samples.diff_eq {QT : S12288.Idx → F .f32} {ST : S98304.Idx → F .f32} {T : S4096.Idx → BitVec 32} (h : Samples L QT ST T) {a : Nat} (ha : a < 3)
    {i : S393216.Idx} {j : S4096.Idx} (hij : (i 0).val = (bN L * 3 + a) * 32768 + wid L % 8 * 4096 + (j 0).val) :
    diff (supp ST (bN L) a) (quer QT (bN L) (qN L) a) T j = outXyz QT ST i := by
  have hj : (j 0).val < 4096 := (j 0).isLt
  have hb := bN_lt L
  have hq := qN_lt L
  have hqe : qN L = wid L % 8 * 128 := rfl
  have e1 : (i 0).val / 98304 = bN L := by omega
  have e2 : (i 0).val / 32768 % 3 = a := by omega
  have e3 : (i 0).val / 32 % 1024 = qN L + (j 0).val / 32 := by omega
  have e4 : (i 0).val % 32 = (j 0).val % 32 := by omega
  unfold diff outXyz offXyz
  rw [e1, e2, e3, e4, rd_of_lt (supp ST (bN L) a) (h.lt j), rd_of_lt (quer QT (bN L) (qN L) a) (by omega : (j 0).val / 32 < 128)]
  have hT := h j
  unfold supp quer
  show FloatOps.subf (rd (N := 98304) ST ((bN L * 3 + a) * 8192 + (T j).toNat)) (rd (N := 12288) QT ((bN L * 3 + a) * 1024 + qN L + (j 0).val / 32)) = _
  rw [hT, Nat.add_assoc ((bN L * 3 + a) * 1024)]

section Parts

variable {α : Type} {Q : α → sProp (MM F)} {QT : S12288.Idx → F .f32} {ST : S98304.Idx → F .f32}
  {O : CellTallies nD τ sig (HIx 1)} {W : Waits sig (HIx 1)}

/-- One plane of relative coordinates is copied to its window. -/
theorem plane_step {sem : DmaSem sig} (src : Memref sig .scVector .vmem S4096 .f32) {a : Nat} (ha : a < 3) {T : S4096.Idx → BitVec 32} (hT : Samples L QT ST T)
    {off : Fin 1 → Nat} (hoff : off = ![(bN L * 3 + a) * 32768 + wid L % 8 * 4096]) {hin hin' : ∀ i, off i + S4096.size i ≤ S393216.size i} {hst hst'}
    {hsrc : src.view.WordExact} {hdst : (oxM.slice (Rect.unit (s := S393216) off S4096.size hin) hst).view.WordExact}
    {hsem : DmaTarget.Typed (nD := nD) (τ := τ) (p := (VT d L).2) .vmem (.dma sem) (.here (oxM.slice (Rect.unit (s := S393216) off S4096.size hin) hst))}
    {hsrc' : src.view.WordExact} {hdst' : (oxM.slice (Rect.unit (s := S393216) off S4096.size hin') hst').view.WordExact}
    {k : PUnit → Prog (TpuEff nD τ sig (Elt F) Λ₀ (VT d L).2) α} (fs : Buf (Elt F) (src.view.loc (VT d L)))
    (hfs : src.view.read (Elt F) fs = diff (supp ST (bN L) a) (quer QT (bN L) (qN L) a) T) (fd : Buf (Elt F) (oxM.view.loc (VT d L))) :
    iprop((src.view.loc (VT d L) ↦{fullShare} fs) ∗ (oxM.view.loc (VT d L) ↦[oxWin L a]{fullShare} fd) ∗ idle d L sem ∗ owed d L O W)
      ⊢ iprop(((src.view.loc (VT d L) ↦{fullShare} fs) -∗ (oxM.view.loc (VT d L) ↦[oxWin L a]{fullShare} outXyz QT ST) -∗ idle d L sem -∗ owed d L O W
            -∗ tileWp d L (k ⟨⟩) Q)
        -∗ tileWp d L (.op (.enqueueDma src (.here (oxM.slice (Rect.unit (s := S393216) off S4096.size hin) hst)) (.dma sem) hsrc hdst hsem) fun _ =>
            .op (.waitDma2 sem src (oxM.slice (Rect.unit (s := S393216) off S4096.size hin') hst') hsrc' hdst') k) Q) := by
  subst hoff
  have hw := wid_lt L
  have hb := bN_lt L
  have hset : (oxM.slice (Rect.unit (s := S393216) ![(bN L * 3 + a) * 32768 + wid L % 8 * 4096] S4096.size hin) hst).view.set ⊆ oxWin L a := by
    intro i hi
    obtain ⟨x, -, rfl⟩ := Finset.mem_map.mp hi
    have hx : (x 0).val < 4096 := (x 0).isLt
    refine (mem_oxWin L).mpr ?_
    show ((bN L * 3 + a) * 32768 + wid L % 8 * 4096 + 1 * (x 0).val) / 4096 = _
    omega
  have hval : ∀ i ∈ oxWin L a, (oxM.slice (Rect.unit (s := S393216) ![(bN L * 3 + a) * 32768 + wid L % 8 * 4096] S4096.size hin) hst).view.write (Elt F) fd
      (src.view.read (Elt F) fs) Finset.univ i = outXyz QT ST i := by
    intro i hi
    have hi' := (mem_oxWin L).mp hi
    obtain ⟨j, hj⟩ : ∃ j : S4096.Idx, (i 0).val = (bN L * 3 + a) * 32768 + wid L % 8 * 4096 + (j 0).val :=
      ⟨ix ((i 0).val - ((bN L * 3 + a) * 32768 + wid L % 8 * 4096)) (by omega), by
        show (i 0).val = _ + ((i 0).val - _)
        omega⟩
    have e : (oxM.slice (Rect.unit (s := S393216) ![(bN L * 3 + a) * 32768 + wid L % 8 * 4096] S4096.size hin) hst).view.emb j = i := by
      refine ext1 ?_
      show (bN L * 3 + a) * 32768 + wid L % 8 * 4096 + 1 * (j 0).val = (i 0).val
      omega
    rw [← hT.diff_eq ha hj, ← hfs, ← e, View.write_emb_of_mem (M := Finset.univ) _ _ (Finset.mem_univ j)]
    rfl
  iintro ⟨Hs, Hd, Hi, HO⟩ Hk
  iapply (flush_step d L (src := src) (dst := oxM.slice (Rect.unit (s := S393216) ![(bN L * 3 + a) * 32768 + wid L % 8 * 4096] S4096.size hin) hst) (oxWin L a) hset fs fd (outXyz QT ST) hval (View.dmaCredit_pos _ (by decide))) $$ [Hs Hd Hi]
  · isplitl [Hs]; · iexact Hs
    isplitl [Hd]; · iexact Hd
    iexact Hi
  iintro Hp
  iapply (wait_step d L rfl) $$ [Hp HO]
  · isplitl [Hp]; · iexact Hp
    iexact HO
  iintro ⟨Hs, Hd⟩ Hi HO
  iapply Hk $$ Hs Hd Hi HO

/-- The post loop's trips. -/
theorem post_trips : k0_t10_loop.trips = 128 := by decide +kernel

/-- All the words of a buffer. -/
theorem Upto.all {β : Type} {G f : S4096.Idx → β} {n : Nat} (hn : 4096 ≤ n) (h : Upto n G f) : f = G := by
  funext j
  exact h j (lt_of_lt_of_le (j 0).isLt hn)

/-- The last fill, the post loop, and the copies of the first two planes. -/
theorem part12_step {v18 v29 : BitVec 32} {c7 : IVec S16 32} {w : Vec F S16 .i32} (h7 : Cnt (tileNear QT ST L) 8192 7 c7) (hw : Firsts (tileNear QT ST L) 7 w)
    {k : _ → Prog (TpuEff nD τ sig (Elt F) Λ₀ (VT d L).2) α} (fr : Buf (Elt F) (rowM.view.loc (VT d L))) (fa : Buf (Elt F) (oaM.view.loc (VT d L)))
    (fb : Buf (Elt F) (obM.view.loc (VT d L))) (fc : Buf (Elt F) (ocM.view.loc (VT d L))) (fx fy : Buf (Elt F) (oxM.view.loc (VT d L))) :
    iprop(queries d L (quer QT (bN L) (qN L) 0) (quer QT (bN L) (qN L) 1) (quer QT (bN L) (qN L) 2) ∗ points d L (supp ST (bN L) 0) (supp ST (bN L) 1) (supp ST (bN L) 2)
        ∗ (∀ b, fillInv d L (tileNear QT ST L) 7 0 b)
        ∗ (oaM.view.loc (VT d L) ↦{fullShare} fa) ∗ (obM.view.loc (VT d L) ↦{fullShare} fb) ∗ (ocM.view.loc (VT d L) ↦{fullShare} fc) ∗ (rowM.view.loc (VT d L) ↦{fullShare} fr)
        ∗ (oxM.view.loc (VT d L) ↦[oxWin L 0]{fullShare} fx) ∗ (oxM.view.loc (VT d L) ↦[oxWin L 1]{fullShare} fy)
        ∗ idle d L cc0_scoped6.sem ∗ idle d L cc0_scoped7.sem ∗ owed d L O W)
      ⊢ iprop((∀ T, ⌜Samples L QT ST T⌝ -∗ iprop(queries d L (quer QT (bN L) (qN L) 0) (quer QT (bN L) (qN L) 1) (quer QT (bN L) (qN L) 2)
            ∗ points d L (supp ST (bN L) 0) (supp ST (bN L) 1) (supp ST (bN L) 2)
            ∗ (tabM.view.loc (VT d L) ↦{fullShare} T) ∗ (∃ f, oaM.view.loc (VT d L) ↦{fullShare} f) ∗ (∃ f, obM.view.loc (VT d L) ↦{fullShare} f)
            ∗ (∃ f : Buf (Elt F) (ocM.view.loc (VT d L)), ⌜ocM.view.read (Elt F) f = diff (supp ST (bN L) 2) (quer QT (bN L) (qN L) 2) T⌝ ∗ (ocM.view.loc (VT d L) ↦{fullShare} f))
            ∗ (rowM.view.loc (VT d L) ↦{fullShare} rows T (rowBase L))
            ∗ (oxM.view.loc (VT d L) ↦[oxWin L 0]{fullShare} outXyz QT ST) ∗ (oxM.view.loc (VT d L) ↦[oxWin L 1]{fullShare} outXyz QT ST)
            ∗ idle d L cc0_scoped6.sem ∗ idle d L cc0_scoped7.sem ∗ owed d L O W) -∗ tileWp d L (k ⟨⟩) Q)
        -∗ tileWp d L (k0_part12 L qtM (Memref.isWhole_whole _) stM (Memref.isWhole_whole _) ffM (Memref.isWhole_whole _) oxM (Memref.isWhole_whole _) orM (Memref.isWhole_whole _) sxM (Memref.isWhole_whole _) syM (Memref.isWhole_whole _) szM (Memref.isWhole_whole _) qxM (Memref.isWhole_whole _) qyM (Memref.isWhole_whole _) qzM (Memref.isWhole_whole _) tabM (Memref.isWhole_whole _) rowM (Memref.isWhole_whole _) oaM (Memref.isWhole_whole _) obM (Memref.isWhole_whole _) ocM (Memref.isWhole_whole _) g0M (Memref.isWhole_whole _) g1M (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 v18 v29 (rowBase L) (k0_pay34 laneIx (Scalar.muli 0#32 8#32) 7#32) c7 w 0#32 0#32 >>= k) Q) := by
  rw [k0_part12_eq_skeleton]; unfold k0_part12_skel
  dsimp only
  simp only [Prog.lift, Prog.bind_op, Prog.bind_ret, Prog.pure_eq_ret, bind_assoc]
  iintro ⟨⟨Hqx, Hqy, Hqz⟩, ⟨Hsx, Hsy, Hsz⟩, Hf, Ha, Hb, Hc, Hr, Hox, Hoy, H6, H7, HO⟩ Hk
  iapply (fill_loop d L k0_t9_ok fill_trips9 (fun k acc => fill_step9 d L base7 h7 hw rfl k acc) 0#32) $$ Hf
  iintro %b7 Hf
  unfold fillInv
  icases Hf with ⟨%T, %hT, Ht⟩
  have hT' : Fill (tileNear QT ST L) 8 0 T := (congrArg (Fill (tileNear QT ST L) 8 0) (Memref.read_access_whole (Elt F) cc0_scratch6 T)).mp hT
  have hS : Samples L QT ST T := fun j => hT'.done j
  iapply (Scf.wp_for_bind frame (wpE (defs₀ (F := F)) 𝒱₀ (VT d L) none) Set.univ k0_t10_loop.lb k0_t10_loop.ub k0_t10_loop.st k0_t10_ok _ _
    (postInv d L (supp ST (bN L) 0) (supp ST (bN L) 1) (supp ST (bN L) 2) (quer QT (bN L) (qN L) 0) (quer QT (bN L) (qN L) 1) (quer QT (bN L) (qN L) 2) T (rowBase L))
    (fun k acc => post_step d L hS.lt k acc)) $$ [Hqx Hqy Hqz Hsx Hsy Hsz Ht Ha Hb Hc Hr]
  · unfold postInv
    isplitl [Hsx]; · iexact Hsx
    isplitl [Hsy]; · iexact Hsy
    isplitl [Hsz]; · iexact Hsz
    isplitl [Hqx]; · iexact Hqx
    isplitl [Hqy]; · iexact Hqy
    isplitl [Hqz]; · iexact Hqz
    isplitl [Ht]; · iexact Ht
    isplitl [Ha]
    · iexists fa
      isplitr
      · ipureintro; exact fun j hj => absurd hj (Nat.not_lt_zero _)
      iexact Ha
    isplitl [Hb]
    · iexists fb
      isplitr
      · ipureintro; exact fun j hj => absurd hj (Nat.not_lt_zero _)
      iexact Hb
    isplitl [Hc]
    · iexists fc
      isplitr
      · ipureintro; exact fun j hj => absurd hj (Nat.not_lt_zero _)
      iexact Hc
    · iexists fr
      isplitr
      · ipureintro; exact fun j hj => absurd hj (Nat.not_lt_zero _)
      iexact Hr
  iintro %acc H
  have e : Scf.trips k0_t10_loop.lb k0_t10_loop.ub k0_t10_loop.st = 128 := post_trips
  rw [e]
  unfold postInv
  icases H with ⟨Hsx, Hsy, Hsz, Hqx, Hqy, Hqz, Ht, ⟨%ga, %ha, Ha⟩, ⟨%gb, %hb, Hb⟩, ⟨%gc, %hc, Hc⟩, ⟨%gr, %hr, Hr⟩⟩
  have ha' := Upto.all (by decide) ha
  have hb' := Upto.all (by decide) hb
  have hc' := Upto.all (by decide) hc
  have hr' : gr = rows T (rowBase L) := Upto.all (by decide) hr
  subst hr'
  iapply (plane_step d L oaM (by decide) hS (off9_eq L 0) ga ha' fx) $$ [Ha Hox H6 HO]
  · isplitl [Ha]; · iexact Ha
    isplitl [Hox]; · iexact Hox
    isplitl [H6]; · iexact H6
    iexact HO
  iintro Ha Hox H6 HO
  iapply (plane_step d L obM (by decide) hS (off9_eq L 1) gb hb' fy) $$ [Hb Hoy H7 HO]
  · isplitl [Hb]; · iexact Hb
    isplitl [Hoy]; · iexact Hoy
    isplitl [H7]; · iexact H7
    iexact HO
  iintro Hb Hoy H7 HO
  iapply Hk $$ %T [] [Hqx Hqy Hqz Hsx Hsy Hsz Ht Ha Hb Hc Hr Hox Hoy H6 H7 HO]
  · ipureintro; exact hS
  isplitl [Hqx Hqy Hqz]
  · isplitl [Hqx]; · iexact Hqx
    isplitl [Hqy]; · iexact Hqy
    iexact Hqz
  isplitl [Hsx Hsy Hsz]
  · isplitl [Hsx]; · iexact Hsx
    isplitl [Hsy]; · iexact Hsy
    iexact Hsz
  isplitl [Ht]; · iexact Ht
  isplitl [Ha]; · iexists ga; iexact Ha
  isplitl [Hb]; · iexists gb; iexact Hb
  isplitl [Hc]
  · iexists gc
    isplitr
    · ipureintro; exact hc'
    iexact Hc
  isplitl [Hr]; · iexact Hr
  isplitl [Hox]; · iexact Hox
  isplitl [Hoy]; · iexact Hoy
  isplitl [H6]; · iexact H6
  isplitl [H7]; · iexact H7
  iexact HO

end Parts

end Cert.Tile

end
-- ==== Proof.Gather.lean ====
/-
  The tile's feature rows: 32 chunks of 128 rows, gathered into two buffers in turn and copied to the result, a chunk
  under way while the other is copied.
-/
module

public import proofs.«01_k».proof.Proof.Out

@[expose] public section

noncomputable section

namespace Cert.Tile

open Cert.KernelIdeal Cert.KernelIdeal.Gen Cert.BallQuery
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (L : grid0.Coords)

/-- The rows of the result that the tile writes. -/
def orWin : Finset S131072x128.Idx := Finset.univ.filter fun j => (j 0).val / 4096 = wid L

theorem mem_orWin {i : S131072x128.Idx} : i ∈ orWin L ↔ (i 0).val / 4096 = wid L := by
  unfold orWin; rw [Finset.mem_filter]; exact and_iff_right (Finset.mem_univ _)

/-- Two indices of a table with the same coordinates. -/
theorem ext2 {N M : Nat} {i j : (⟨2, ![N, M]⟩ : Shape).Idx} (h0 : (i 0).val = (j 0).val) (h1 : (i 1).val = (j 1).val) : i = j := by
  funext a
  match a with
  | 0 => exact Fin.ext h0
  | 1 => exact Fin.ext h1

variable (QT : S12288.Idx → F .f32) (ST : S98304.Idx → F .f32) (FF : S32768x128.Idx → F .f32)

/-- A buffer holds chunk `c` of the tile's rows. -/
def Chunk (c : Nat) (f : S128x128.Idx → F .f32) : Prop :=
  ∀ (x : S128x128.Idx) (i : S131072x128.Idx), (i 0).val = wid L * 4096 + 128 * c + (x 0).val → (i 1).val = (x 1).val → f x = outRows QT ST FF i

/-- The tile's first `n` rows are written. -/
def Done (n : Nat) (f : S131072x128.Idx → F .f32) : Prop :=
  ∀ i : S131072x128.Idx, wid L * 4096 ≤ (i 0).val → (i 0).val < wid L * 4096 + n → f i = outRows QT ST FF i

variable {L QT ST FF}

/-- The list's words are the rows' numbers. -/
theorem Samples.rows_eq {T : S4096.Idx → BitVec 32} (h : Samples L QT ST T) (j : S4096.Idx) :
    (rows T (rowBase L) j).toNat = rowOf QT ST (wid L * 4096 + (j 0).val) := by
  have hj : (j 0).val < 4096 := (j 0).isLt
  have hw := wid_lt L
  have hb := bN_lt L
  have hbe : bN L = wid L / 8 := rfl
  have hqe : qN L = wid L % 8 * 128 := rfl
  have hT := h j
  have hlt := h.lt j
  have e1 : (wid L * 4096 + (j 0).val) / 32768 = bN L := by omega
  have e2 : (wid L * 4096 + (j 0).val) / 32 % 1024 = qN L + (j 0).val / 32 := by omega
  have e3 : (wid L * 4096 + (j 0).val) % 32 = (j 0).val % 32 := by omega
  unfold rowOf
  rw [e1, e2, e3, ← hT]
  show (T j + BitVec.ofNat 32 (bN L * 8192)).toNat = _
  rw [BitVec.toNat_add, BitVec.toNat_ofNat]
  omega

variable (L QT ST FF)

section Parts

variable {QT ST FF} {α : Type} {Q : α → sProp (MM F)} {O : CellTallies nD τ sig (HIx 1)} {W : Waits sig (HIx 1)} {q qo : PosShare TreeShare}

/-- A buffer with a chunk landed, the rows' share, and the list's. -/
def got (q qo : PosShare TreeShare) (R : S4096.Idx → BitVec 32) (M : Memref sig .scVector .vmem S128x128 .f32) (C : (S128x128.Idx → F .f32) → Prop) : sProp (MM F) :=
  iprop((ffM.view.loc (VT d L) ↦{q} FF) ∗ (∃ f : Buf (Elt F) (M.view.loc (VT d L)), ⌜C (M.view.read (Elt F) f)⌝ ∗ (M.view.loc (VT d L) ↦{fullShare} f))
    ∗ (rowM.view.loc (VT d L) ↦{qo} R))

/-- A chunk's gather starts. -/
theorem start_step {sem : DmaSem sig} (M : Memref sig .scVector .vmem S128x128 .f32) (hset : M.view.set = Finset.univ)
    (hN : ∑ j, (M.slice (S128x128.rowRect (gathers_S32768x128_S128x128).axis' j) (S128x128.stride_rowRect (gathers_S32768x128_S128x128).axis' j)).view.dmaCredit = M.view.dmaCredit)
    {T : S4096.Idx → BitVec 32} (hT : Samples L QT ST T) {c : Nat} {C : (S128x128.Idx → F .f32) → Prop}
    {off : Fin 1 → Nat} (hoff : off = ![128 * c]) {hin : ∀ a, off a + S128.size a ≤ S4096.size a} {hst}
    {hin2 : ∀ a, (![0, 0] : Fin 2 → Nat) a + S32768x128.size a ≤ S32768x128.size a} {hst2} {hg : S32768x128.Gathers 0 S128x128} {hn : S128.numel = S128x128.size hg.axis'}
    {hp : (VT d L).2.kind = .scVector} {hsrc : (ffM.slice (Rect.unit (s := S32768x128) ![0, 0] S32768x128.size hin2) hst2).view.WordExact} {he : EltTy.f32.bits = 32}
    {hsp : Space.hbm = .hbm ∨ Space.hbm = .shared} {hr : S32768x128.StreamRows 0}
    {k : PUnit → Prog (TpuEff nD τ sig (Elt F) Λ₀ (VT d L).2) α} :
    iprop(got (FF := FF) d L q qo (rows T (rowBase L)) M C ∗ idle d L sem)
      ⊢ iprop((Pending d L sem M.view.dmaCredit (got (FF := FF) d L q qo (rows T (rowBase L)) M (Chunk L QT ST FF c)) -∗ tileWp d L (k ⟨⟩) Q)
        -∗ tileWp d L (SparseCore.enqueueIndirectGather hp (ffM.slice (Rect.unit (s := S32768x128) ![0, 0] S32768x128.size hin2) hst2) M hg
              (rowM.slice (Rect.unit (s := S4096) off S128.size hin) hst) hn sem hsrc he hsp hr >>= k) Q) := by
  subst hoff
  have hw := wid_lt L
  have hc : 128 * c + 128 ≤ 4096 := hin 0
  have hR : ∀ j : S4096.Idx, (rows T (rowBase L) j).toNat < 32768 := fun j => by
    rw [hT.rows_eq]
    have hj : (j 0).val < 4096 := (j 0).isLt
    exact rowOf_lt QT ST (by omega)
  have hback : ∀ f' : Buf (Elt F) (M.view.loc (VT d L)), M.view.read (Elt F) f' = SparseCore.gatherPayload hg
        ((ffM.slice (Rect.unit (s := S32768x128) ![0, 0] S32768x128.size hin2) hst2).view.read (Elt F) FF)
        (SparseCore.rows ((rowM.slice (Rect.unit (s := S4096) ![128 * c] S128.size hin) hst).view.read (Elt F) (rows T (rowBase L))) hn (fun x => hR _))
      → Chunk L QT ST FF c (M.view.read (Elt F) f') := by
    intro f' hf'
    rw [hf']
    intro x i h0 h1
    have hx0 : (x 0).val < 128 := (x 0).isLt
    have hmaj : ∀ kk : Fin S128.numel, ((S128.rowMajor.symm kk) 0).val = kk.val := fun kk => by
      rw [← Shape.rowMajor_val_one]; exact congrArg Fin.val (S128.rowMajor.apply_symm_apply kk)
    have hff : ∀ y : S32768x128.Idx, (ffM.slice (Rect.unit (s := S32768x128) ![0, 0] S32768x128.size hin2) hst2).view.read (Elt F) FF y = FF y := fun y => by
      refine congrArg FF (ext2 ?_ ?_)
      · show 0 + 1 * (y 0).val = (y 0).val
        omega
      · show 0 + 1 * (y 1).val = (y 1).val
        omega
    have hrow : ∀ y : S128.Idx, ((rowM.slice (Rect.unit (s := S4096) ![128 * c] S128.size hin) hst).view.read (Elt F) (rows T (rowBase L)) y).toNat
        = rowOf QT ST (wid L * 4096 + 128 * c + (y 0).val) := fun y => by
      refine (hT.rows_eq _).trans ?_
      show rowOf QT ST (wid L * 4096 + (128 * c + 1 * (y 0).val)) = _
      rw [Nat.one_mul, Nat.add_assoc]
    unfold SparseCore.gatherPayload outRows
    rw [hff]
    refine congrArg FF (ext2 ?_ ?_)
    · have e := congrArg Fin.val (Shape.Gathers.idx_axis hg (SparseCore.rows ((rowM.slice (Rect.unit (s := S4096) ![128 * c] S128.size hin) hst).view.read (Elt F) (rows T (rowBase L))) hn (fun x => hR _)) x)
      refine e.trans ((hrow _).trans ((congrArg (fun n => rowOf QT ST (wid L * 4096 + 128 * c + n)) (hmaj _)).trans ?_))
      exact congrArg (rowOf QT ST) h0.symm
    · rw [Shape.Gathers.idx_of_ne hg _ x 1 (by decide)]
      exact h1.symm
  unfold got
  iintro ⟨⟨Hff, ⟨%f, %hf, Hm⟩, Hr⟩, Hi⟩ Hk
  iapply (gather_step d L (src := ffM.slice (Rect.unit (s := S32768x128) ![0, 0] S32768x128.size hin2) hst2) (offs := rowM.slice (Rect.unit (s := S4096) ![128 * c] S128.size hin) hst)
    FF f (rows T (rowBase L)) hN hset (by decide) (fun x => hR _)) $$ [Hff Hm Hr Hi]
  · isplitl [Hff]; · iexact Hff
    isplitl [Hm]; · iexact Hm
    isplitl [Hr]; · iexact Hr
    iexact Hi
  iintro Hp
  iapply Hk
  iapply (Pending.mono_entails (show _ ⊢ got (FF := FF) d L q qo (rows T (rowBase L)) M (Chunk L QT ST FF c) from ?_)) $$ Hp
  unfold got
  iintro ⟨Hff, ⟨%f', %hf', Hm⟩, Hr⟩
  isplitl [Hff]; · iexact Hff
  isplitl [Hm]
  swap; · iexact Hr
  iexists f'
  isplitr
  swap; · iexact Hm
  ipureintro
  exact hback f' hf'

/-- A chunk lands, and is copied to its rows of the result. -/
theorem chunk_step {sem sem' : DmaSem sig} (M : Memref sig .scVector .vmem S128x128 .f32) {R : S4096.Idx → BitVec 32} {c : Nat}
    {off : Fin 2 → Nat} (hoff : off = ![wid L * 4096 + 128 * c, 0]) {hin hin' : ∀ i, off i + S128x128.size i ≤ S131072x128.size i} {hst hst'}
    {srcw : Memref sig .scVector .hbm S32768x128 .f32} {hw1 : srcw.view.WordExact} {hw2 : M.view.WordExact}
    {hsrc : M.view.WordExact} {hdst : (orM.slice (Rect.unit (s := S131072x128) off S128x128.size hin) hst).view.WordExact}
    {hsem : DmaTarget.Typed (nD := nD) (τ := τ) (p := (VT d L).2) .vmem (.dma sem') (.here (orM.slice (Rect.unit (s := S131072x128) off S128x128.size hin) hst))}
    {hsrc' : M.view.WordExact} {hdst' : (orM.slice (Rect.unit (s := S131072x128) off S128x128.size hin') hst').view.WordExact}
    {k : PUnit → Prog (TpuEff nD τ sig (Elt F) Λ₀ (VT d L).2) α} (hc : c < 32) :
    iprop(Pending d L sem M.view.dmaCredit (got (FF := FF) d L q qo R M (Chunk L QT ST FF c))
        ∗ (∃ f : Buf (Elt F) (orM.view.loc (VT d L)), ⌜Done L QT ST FF (128 * c) f⌝ ∗ (orM.view.loc (VT d L) ↦[orWin L]{fullShare} f)) ∗ idle d L sem' ∗ owed d L O W)
      ⊢ iprop((got (FF := FF) d L q qo R M (fun _ => True) -∗ idle d L sem
            -∗ (∃ f : Buf (Elt F) (orM.view.loc (VT d L)), ⌜Done L QT ST FF (128 * (c + 1)) f⌝ ∗ (orM.view.loc (VT d L) ↦[orWin L]{fullShare} f)) -∗ idle d L sem' -∗ owed d L O W
            -∗ tileWp d L (k ⟨⟩) Q)
        -∗ tileWp d L (SparseCore.waitIndirectGather sem srcw M hw1 hw2 >>= fun _ =>
            .op (.enqueueDma M (.here (orM.slice (Rect.unit (s := S131072x128) off S128x128.size hin) hst)) (.dma sem') hsrc hdst hsem) fun _ =>
            .op (.waitDma2 sem' M (orM.slice (Rect.unit (s := S131072x128) off S128x128.size hin') hst') hsrc' hdst') k) Q) := by
  subst hoff
  have hw := wid_lt L
  have hset : (orM.slice (Rect.unit (s := S131072x128) ![wid L * 4096 + 128 * c, 0] S128x128.size hin) hst).view.set ⊆ orWin L := by
    intro i hi
    obtain ⟨x, -, rfl⟩ := Finset.mem_map.mp hi
    have hx : (x 0).val < 128 := (x 0).isLt
    refine (mem_orWin L).mpr ?_
    show (wid L * 4096 + 128 * c + 1 * (x 0).val) / 4096 = _
    omega
  unfold got
  iintro ⟨Hp, ⟨%g, %hg, Ho⟩, Hi', HO⟩ Hk
  iapply (landed_step d L rfl) $$ [Hp HO]
  · isplitl [Hp]; · iexact Hp
    iexact HO
  iintro ⟨Hff, ⟨%f, %hf, Hm⟩, Hr⟩ Hi HO
  iapply (flush_step d L (src := M) (dst := orM.slice (Rect.unit (s := S131072x128) ![wid L * 4096 + 128 * c, 0] S128x128.size hin) hst) (orWin L) hset f g
    ((orM.slice (Rect.unit (s := S131072x128) ![wid L * 4096 + 128 * c, 0] S128x128.size hin) hst).view.write (Elt F) g (M.view.read (Elt F) f) Finset.univ) (fun _ _ => rfl)
    (View.dmaCredit_pos _ (by decide))) $$ [Hm Ho Hi']
  · isplitl [Hm]; · iexact Hm
    isplitl [Ho]; · iexact Ho
    iexact Hi'
  iintro Hp
  iapply (wait_step d L rfl) $$ [Hp HO]
  · isplitl [Hp]; · iexact Hp
    iexact HO
  iintro ⟨Hm, Ho⟩ Hi' HO
  iapply Hk $$ [Hff Hm Hr] Hi [Ho] Hi' HO
  · isplitl [Hff]; · iexact Hff
    isplitl [Hm]
    swap; · iexact Hr
    iexists f
    isplitr
    · ipureintro; trivial
    iexact Hm
  · iexists _
    isplitr
    swap; · iexact Ho
    ipureintro
    intro i h0 h1
    have h0' : wid L * 4096 ≤ (i 0).val := h0
    have h1' : (i 0).val < wid L * 4096 + 128 * (c + 1) := h1
    by_cases hlt : (i 0).val < wid L * 4096 + 128 * c
    · rw [View.write_of_not_mem _ _ _ ?_]
      · exact hg i h0 hlt
      · intro hmem
        obtain ⟨x, -, hx⟩ := Finset.mem_map.mp hmem
        have e : wid L * 4096 + 128 * c + 1 * (x 0).val = (i 0).val := congrArg (fun j : S131072x128.Idx => (j 0).val) hx
        omega
    · have hi1 : (i 1).val < 128 := (i 1).isLt
      have hlo : (i 0).val - (wid L * 4096 + 128 * c) < 128 := by omega
      have e : (orM.slice (Rect.unit (s := S131072x128) ![wid L * 4096 + 128 * c, 0] S128x128.size hin) hst).view.emb (ix2 ((i 0).val - (wid L * 4096 + 128 * c)) (i 1).val hlo hi1) = i := by
        refine ext2 ?_ ?_
        · show wid L * 4096 + 128 * c + 1 * ((i 0).val - (wid L * 4096 + 128 * c)) = (i 0).val
          omega
        · show 0 + 1 * (i 1).val = (i 1).val
          omega
      rw [← e, View.write_emb_of_mem (M := Finset.univ) _ _ (Finset.mem_univ _), e]
      refine hf _ i ?_ rfl
      show (i 0).val = wid L * 4096 + 128 * c + ((i 0).val - (wid L * 4096 + 128 * c))
      omega

/-- A buffer's turn: chunk `c` under way, or, past the last, the buffer at rest. -/
def Stage (q qo : PosShare TreeShare) (QT : S12288.Idx → F .f32) (ST : S98304.Idx → F .f32) (FF : S32768x128.Idx → F .f32) (R : S4096.Idx → BitVec 32) (sem : DmaSem sig)
    (M : Memref sig .scVector .vmem S128x128 .f32) (c : Nat) : sProp (MM F) :=
  if c < 32 then Pending d L sem M.view.dmaCredit (got (FF := FF) d L q qo R M (Chunk L QT ST FF c))
  else iprop(got (FF := FF) d L q qo R M (fun _ => True) ∗ idle d L sem)

theorem Stage.pos {R : S4096.Idx → BitVec 32} {sem : DmaSem sig} {M : Memref sig .scVector .vmem S128x128 .f32} {c : Nat} (h : c < 32) :
    Stage d L q qo QT ST FF R sem M c = Pending d L sem M.view.dmaCredit (got (FF := FF) d L q qo R M (Chunk L QT ST FF c)) := if_pos h

theorem Stage.neg {R : S4096.Idx → BitVec 32} {sem : DmaSem sig} {M : Memref sig .scVector .vmem S128x128 .f32} {c : Nat} (h : ¬ c < 32) :
    Stage d L q qo QT ST FF R sem M c = iprop(got (FF := FF) d L q qo R M (fun _ => True) ∗ idle d L sem) := if_neg h

/-- Before trip `k`: chunks `2 k` and `2 k + 1` under way, those before them written. -/
def gatherInv (q qo q' qo' : PosShare TreeShare) (QT : S12288.Idx → F .f32) (ST : S98304.Idx → F .f32) (FF : S32768x128.Idx → F .f32) (R : S4096.Idx → BitVec 32)
    (O : CellTallies nD τ sig (HIx 1)) (W : Waits sig (HIx 1)) (k : Nat) (_ : BitVec 32) : sProp (MM F) :=
  iprop(Stage d L q qo QT ST FF R cc0_scratch13.sem g0M (2 * k) ∗ Stage d L q' qo' QT ST FF R cc0_scratch14.sem g1M (2 * k + 1)
    ∗ (∃ f : Buf (Elt F) (orM.view.loc (VT d L)), ⌜Done L QT ST FF (128 * (2 * k)) f⌝ ∗ (orM.view.loc (VT d L) ↦[orWin L]{fullShare} f))
    ∗ idle d L cc0_scoped9.sem ∗ idle d L cc0_scoped10.sem ∗ owed d L O W)

theorem cond1_iff : ∀ k : Fin k0_t11_loop.trips, k0_cond1 k = 1#1 ↔ k.val < 15 := by decide +kernel
theorem cond2_iff : ∀ k : Fin k0_t11_loop.trips, k0_cond2 k = 1#1 ↔ k.val < 15 := by decide +kernel
theorem gather_trips : k0_t11_loop.trips = 16 := by decide +kernel

theorem rowOff (k : Fin k0_t11_loop.trips) : k0_off11 L k = ![wid L * 4096 + 128 * (2 * k.val), 0] := by
  rw [k0_off11_eq]
  congr 1
  unfold wid; omega

theorem rowOff' (k : Fin k0_t11_loop.trips) : k0_off14 L k = ![wid L * 4096 + 128 * (2 * k.val + 1), 0] := by
  rw [k0_off14_eq]
  congr 1
  unfold wid; omega

theorem listOff (k : Fin k0_t11_loop.trips) : k0_off12 k = ![128 * (2 * (k.val + 1))] := by
  rw [k0_off12_eq]
  congr 1
  omega

theorem listOff' (k : Fin k0_t11_loop.trips) : k0_off15 k = ![128 * (2 * (k.val + 1) + 1)] := by
  rw [k0_off15_eq]
  congr 1
  omega

theorem setG0 : g0M.view.set = Finset.univ := View.set_whole _
theorem setG1 : g1M.view.set = Finset.univ := View.set_whole _

theorem creditG0 : ∑ j, (g0M.slice (S128x128.rowRect (gathers_S32768x128_S128x128).axis' j) (S128x128.stride_rowRect (gathers_S32768x128_S128x128).axis' j)).view.dmaCredit = g0M.view.dmaCredit := by
  decide +kernel
theorem creditG1 : ∑ j, (g1M.slice (S128x128.rowRect (gathers_S32768x128_S128x128).axis' j) (S128x128.stride_rowRect (gathers_S32768x128_S128x128).axis' j)).view.dmaCredit = g1M.view.dmaCredit := by
  decide +kernel

/-- One trip of the gather loop. -/
theorem gather_trip {q' qo' : PosShare TreeShare} {T : S4096.Idx → BitVec 32} (hT : Samples L QT ST T) {v31 : BitVec 32} (k : Fin k0_t11_loop.trips) (acc : BitVec 32) :
    gatherInv d L q qo q' qo' QT ST FF (rows T (rowBase L)) O W k.val acc
      ⊢ tileWp d L (k0_t11_body L qtM (Memref.isWhole_whole _) stM (Memref.isWhole_whole _) ffM (Memref.isWhole_whole _) oxM (Memref.isWhole_whole _) orM (Memref.isWhole_whole _) sxM (Memref.isWhole_whole _) syM (Memref.isWhole_whole _) szM (Memref.isWhole_whole _) qxM (Memref.isWhole_whole _) qyM (Memref.isWhole_whole _) qzM (Memref.isWhole_whole _) tabM (Memref.isWhole_whole _) rowM (Memref.isWhole_whole _) oaM (Memref.isWhole_whole _) obM (Memref.isWhole_whole _) ocM (Memref.isWhole_whole _) g0M (Memref.isWhole_whole _) g1M (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 v31 k acc) (gatherInv d L q qo q' qo' QT ST FF (rows T (rowBase L)) O W (k.val + 1)) := by
  have hk : k.val < 16 := lt_of_lt_of_eq k.isLt gather_trips
  unfold k0_t11_body
  rw [k0_part4_eq_skeleton]; unfold k0_part4_skel
  dsimp only
  unfold gatherInv
  rw [Stage.pos d L (by omega : 2 * k.val < 32), Stage.pos d L (by omega : 2 * k.val + 1 < 32)]
  by_cases h15 : k.val < 15
  · rw [Stage.pos d L (by omega : 2 * (k.val + 1) < 32), Stage.pos d L (by omega : 2 * (k.val + 1) + 1 < 32)]
    simp only [dif_pos ((cond1_iff k).mpr h15), dif_pos ((cond2_iff k).mpr h15), Prog.lift, Prog.bind_op, Prog.bind_ret, Prog.pure_eq_ret, bind_assoc]
    iintro ⟨HA, HB, Ho, H9, H10, HO⟩
    iapply (chunk_step d L g0M (rowOff L k) (by omega)) $$ [HA Ho H9 HO]
    · isplitl [HA]; · iexact HA
      isplitl [Ho]; · iexact Ho
      isplitl [H9]; · iexact H9
      iexact HO
    iintro HA Hi Ho H9 HO
    iapply (start_step d L g0M setG0 creditG0 hT (listOff k)) $$ [HA Hi]
    · isplitl [HA]; · iexact HA
      iexact Hi
    iintro HA
    iapply (chunk_step d L g1M (rowOff' L k) (by omega)) $$ [HB Ho H10 HO]
    · isplitl [HB]; · iexact HB
      isplitl [Ho]; · iexact Ho
      isplitl [H10]; · iexact H10
      iexact HO
    iintro HB Hi Ho H10 HO
    iapply (start_step d L g1M setG1 creditG1 hT (listOff' k)) $$ [HB Hi]
    · isplitl [HB]; · iexact HB
      iexact Hi
    iintro HB
    iapply (ret_step d L)
    isplitl [HA]; · iexact HA
    isplitl [HB]; · iexact HB
    isplitl [Ho]; · rw [(by omega : 128 * (2 * (k.val + 1)) = 128 * (2 * k.val + 1 + 1))]; iexact Ho
    isplitl [H9]; · iexact H9
    isplitl [H10]; · iexact H10
    iexact HO
  · rw [Stage.neg d L (by omega : ¬ 2 * (k.val + 1) < 32), Stage.neg d L (by omega : ¬ 2 * (k.val + 1) + 1 < 32)]
    simp only [dif_neg (fun h => h15 ((cond1_iff k).mp h)), dif_neg (fun h => h15 ((cond2_iff k).mp h)), Prog.lift, Prog.bind_op, Prog.bind_ret, Prog.pure_eq_ret, bind_assoc]
    iintro ⟨HA, HB, Ho, H9, H10, HO⟩
    iapply (chunk_step d L g0M (rowOff L k) (by omega)) $$ [HA Ho H9 HO]
    · isplitl [HA]; · iexact HA
      isplitl [Ho]; · iexact Ho
      isplitl [H9]; · iexact H9
      iexact HO
    iintro HA Hi Ho H9 HO
    iapply (chunk_step d L g1M (rowOff' L k) (by omega)) $$ [HB Ho H10 HO]
    · isplitl [HB]; · iexact HB
      isplitl [Ho]; · iexact Ho
      isplitl [H10]; · iexact H10
      iexact HO
    iintro HB Hi' Ho H10 HO
    iapply (ret_step d L)
    isplitl [HA Hi]
    · isplitl [HA]; · iexact HA
      iexact Hi
    isplitl [HB Hi']
    · isplitl [HB]; · iexact HB
      iexact Hi'
    isplitl [Ho]; · rw [(by omega : 128 * (2 * (k.val + 1)) = 128 * (2 * k.val + 1 + 1))]; iexact Ho
    isplitl [H9]; · iexact H9
    isplitl [H10]; · iexact H10
    iexact HO

end Parts

end Cert.Tile

end
-- ==== Proof.Body.lean ====
/-
  One tile's whole run: from its shares of the operands, its windows of the results and its own buffers and semaphores,
  to the windows written as specified.
-/
module

public import proofs.«01_k».proof.Proof.Gather

@[expose] public section

noncomputable section

namespace Cert.Tile

open Cert.KernelIdeal Cert.KernelIdeal.Gen Cert.BallQuery
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (L : grid0.Coords)

/-- The tile's buffers, holding anything. -/
abbrev scratch : sProp (MM F) :=
  iprop((∃ f : Buf (Elt F) (sxM.view.loc (VT d L)), sxM.view.loc (VT d L) ↦{fullShare} f) ∗ (∃ f : Buf (Elt F) (syM.view.loc (VT d L)), syM.view.loc (VT d L) ↦{fullShare} f) ∗ (∃ f : Buf (Elt F) (szM.view.loc (VT d L)), szM.view.loc (VT d L) ↦{fullShare} f) ∗ (∃ f : Buf (Elt F) (qxM.view.loc (VT d L)), qxM.view.loc (VT d L) ↦{fullShare} f) ∗ (∃ f : Buf (Elt F) (qyM.view.loc (VT d L)), qyM.view.loc (VT d L) ↦{fullShare} f) ∗ (∃ f : Buf (Elt F) (qzM.view.loc (VT d L)), qzM.view.loc (VT d L) ↦{fullShare} f) ∗ (∃ f : Buf (Elt F) (tabM.view.loc (VT d L)), tabM.view.loc (VT d L) ↦{fullShare} f) ∗ (∃ f : Buf (Elt F) (rowM.view.loc (VT d L)), rowM.view.loc (VT d L) ↦{fullShare} f) ∗ (∃ f : Buf (Elt F) (oaM.view.loc (VT d L)), oaM.view.loc (VT d L) ↦{fullShare} f) ∗ (∃ f : Buf (Elt F) (obM.view.loc (VT d L)), obM.view.loc (VT d L) ↦{fullShare} f) ∗ (∃ f : Buf (Elt F) (ocM.view.loc (VT d L)), ocM.view.loc (VT d L) ↦{fullShare} f) ∗ (∃ f : Buf (Elt F) (g0M.view.loc (VT d L)), g0M.view.loc (VT d L) ↦{fullShare} f) ∗ (∃ f : Buf (Elt F) (g1M.view.loc (VT d L)), g1M.view.loc (VT d L) ↦{fullShare} f))

/-- The tile's semaphores at zero. -/
abbrev sems0 : sProp (MM F) :=
  iprop(idle d L cc0_scoped0.sem ∗ idle d L cc0_scoped1.sem ∗ idle d L cc0_scoped2.sem ∗ idle d L cc0_scoped3.sem ∗ idle d L cc0_scoped4.sem ∗ idle d L cc0_scoped5.sem ∗ idle d L cc0_scoped6.sem ∗ idle d L cc0_scoped7.sem ∗ idle d L cc0_scoped8.sem ∗ idle d L cc0_scoped9.sem ∗ idle d L cc0_scoped10.sem ∗ idle d L cc0_scratch13.sem ∗ idle d L cc0_scratch14.sem)

variable (QT : S12288.Idx → F .f32) (ST : S98304.Idx → F .f32) (FF : S32768x128.Idx → F .f32)

/-- The operands, at the tile's shares. -/
abbrev operands (qt qs qf : PosShare TreeShare) : sProp (MM F) :=
  iprop((qtM.view.loc (VT d L) ↦{qt} QT) ∗ (stM.view.loc (VT d L) ↦{qs} ST) ∗ (ffM.view.loc (VT d L) ↦{qf} FF))

/-- The windows of the results the tile writes. -/
abbrev windows (f : Buf (Elt F) (oxM.view.loc (VT d L))) (g : Buf (Elt F) (orM.view.loc (VT d L))) : sProp (MM F) :=
  iprop((oxM.view.loc (VT d L) ↦[oxWin L 0]{fullShare} f) ∗ (oxM.view.loc (VT d L) ↦[oxWin L 1]{fullShare} f) ∗ (oxM.view.loc (VT d L) ↦[oxWin L 2]{fullShare} f)
    ∗ (orM.view.loc (VT d L) ↦[orWin L]{fullShare} g))

variable {QT ST FF} {O : CellTallies nD τ sig (HIx 1)} {W : Waits sig (HIx 1)} {qt qs qf : PosShare TreeShare}

/-- A full points-to is its two halves. -/
theorem halves {ℓ : Loc nD τ sig} (q : PosShare TreeShare) (f : Buf (Elt F) ℓ) : (ℓ ↦{q} f : sProp (MM F)) ⊣⊢ iprop((ℓ ↦{q.left} f) ∗ (ℓ ↦{q.right} f)) :=
  pointsTo_share (PosShare.mem_left_op_right q)

/-- The last plane out, then the rows. -/
theorem tail_step {T : S4096.Idx → BitVec 32} (hT : Samples L QT ST T) {v31 : BitVec 32} {Q : PUnit → sProp (MM F)} (fx : Buf (Elt F) (oxM.view.loc (VT d L)))
    (g : Buf (Elt F) (orM.view.loc (VT d L))) (f0 : Buf (Elt F) (g0M.view.loc (VT d L))) (f1 : Buf (Elt F) (g1M.view.loc (VT d L))) (fc : Buf (Elt F) (ocM.view.loc (VT d L)))
    (hfc : ocM.view.read (Elt F) fc = diff (supp ST (bN L) 2) (quer QT (bN L) (qN L) 2) T) :
    iprop((ocM.view.loc (VT d L) ↦{fullShare} fc) ∗ (rowM.view.loc (VT d L) ↦{fullShare} rows T (rowBase L)) ∗ (ffM.view.loc (VT d L) ↦{qf} FF)
        ∗ (g0M.view.loc (VT d L) ↦{fullShare} f0) ∗ (g1M.view.loc (VT d L) ↦{fullShare} f1)
        ∗ (oxM.view.loc (VT d L) ↦[oxWin L 2]{fullShare} fx) ∗ (orM.view.loc (VT d L) ↦[orWin L]{fullShare} g)
        ∗ idle d L cc0_scoped8.sem ∗ idle d L cc0_scoped9.sem ∗ idle d L cc0_scoped10.sem ∗ idle d L cc0_scratch13.sem ∗ idle d L cc0_scratch14.sem ∗ owed d L O W)
      ⊢ iprop((iprop((∃ f, ocM.view.loc (VT d L) ↦{fullShare} f) ∗ (∃ f, rowM.view.loc (VT d L) ↦{fullShare} f) ∗ (ffM.view.loc (VT d L) ↦{qf} FF)
            ∗ (∃ f, g0M.view.loc (VT d L) ↦{fullShare} f) ∗ (∃ f, g1M.view.loc (VT d L) ↦{fullShare} f)
            ∗ (oxM.view.loc (VT d L) ↦[oxWin L 2]{fullShare} outXyz QT ST) ∗ (orM.view.loc (VT d L) ↦[orWin L]{fullShare} outRows QT ST FF)
            ∗ idle d L cc0_scoped8.sem ∗ idle d L cc0_scoped9.sem ∗ idle d L cc0_scoped10.sem ∗ idle d L cc0_scratch13.sem ∗ idle d L cc0_scratch14.sem ∗ owed d L O W)
          -∗ Q ⟨⟩)
        -∗ tileWp d L (.op (.enqueueDma ocM (.here (oxM.slice (Rect.unit (s := S393216) (k0_off9 L 2#32) S4096.size (k0_off9_inb L 2)) (fun _ => rfl))) (.dma cc0_scoped8.sem)
              (Memref.isWhole_whole _).wordExact (View.wordExact_bits rfl) ⟨Or.inl rfl, trivial⟩) fun _ =>
            .op (.waitDma2 cc0_scoped8.sem ocM (oxM.slice (Rect.unit (s := S393216) (k0_off9 L 2#32) S4096.size (k0_off9_inb L 2)) (fun _ => rfl))
              (Memref.isWhole_whole _).wordExact (View.wordExact_bits rfl)) fun _ =>
            SparseCore.enqueueIndirectGather rfl (ffM.slice (Rect.unit (s := S32768x128) ![0, 0] S32768x128.size inb_S32768x128_S32768x128_0_0) (fun _ => rfl)) g0M
              gathers_S32768x128_S128x128 (rowM.slice (Rect.unit (s := S4096) ![0] S128.size inb_S4096_S128_0) (fun _ => rfl)) rfl cc0_scratch13.sem (View.wordExact_bits rfl) rfl (Or.inl rfl)
              >>= fun _ =>
            SparseCore.enqueueIndirectGather rfl (ffM.slice (Rect.unit (s := S32768x128) ![0, 0] S32768x128.size inb_S32768x128_S32768x128_0_0) (fun _ => rfl)) g1M
              gathers_S32768x128_S128x128 (rowM.slice (Rect.unit (s := S4096) ![128] S128.size inb_S4096_S128_128) (fun _ => rfl)) rfl cc0_scratch14.sem (View.wordExact_bits rfl) rfl (Or.inl rfl)
              >>= fun _ =>
            Scf.Loop.for k0_t11_loop k0_t11_ok 0#32 (k0_t11_body L qtM (Memref.isWhole_whole _) stM (Memref.isWhole_whole _) ffM (Memref.isWhole_whole _) oxM (Memref.isWhole_whole _) orM (Memref.isWhole_whole _) sxM (Memref.isWhole_whole _) syM (Memref.isWhole_whole _) szM (Memref.isWhole_whole _) qxM (Memref.isWhole_whole _) qyM (Memref.isWhole_whole _) qzM (Memref.isWhole_whole _) tabM (Memref.isWhole_whole _) rowM (Memref.isWhole_whole _) oaM (Memref.isWhole_whole _) obM (Memref.isWhole_whole _) ocM (Memref.isWhole_whole _) g0M (Memref.isWhole_whole _) g1M (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10 v31) >>= fun _ => .ret ⟨⟩) Q) := by
  iintro ⟨Hoc, Hr, Hff, H0, H1, Hox, Hor, I8, I9, I10, I13, I14, HO⟩ Hk
  iapply (plane_step d L ocM (a := 2) (by decide) hT (off9_eq L 2) fc hfc fx) $$ [Hoc Hox I8 HO]
  · isplitl [Hoc]; · iexact Hoc
    isplitl [Hox]; · iexact Hox
    isplitl [I8]; · iexact I8
    iexact HO
  iintro Hoc Hox I8 HO
  ihave Hff' := (halves (F := F) qf FF).1 $$ Hff
  icases Hff' with ⟨Hfa, Hfb⟩
  ihave Hr' := (halves (F := F) fullShare (rows T (rowBase L))).1 $$ Hr
  icases Hr' with ⟨Hra, Hrb⟩
  iapply (start_step d L (q := qf.left) (qo := fullShare.left) (C := fun _ => True) g0M setG0 creditG0 hT (c := 0) rfl) $$ [Hfa Hra H0 I13]
  · unfold got
    isplitl [Hfa Hra H0]
    · isplitl [Hfa]; · iexact Hfa
      isplitl [H0]
      · iexists f0
        isplitr
        · ipureintro; trivial
        iexact H0
      iexact Hra
    iexact I13
  iintro HA
  iapply (start_step d L (q := qf.right) (qo := fullShare.right) (C := fun _ => True) g1M setG1 creditG1 hT (c := 1) rfl) $$ [Hfb Hrb H1 I14]
  · unfold got
    isplitl [Hfb Hrb H1]
    · isplitl [Hfb]; · iexact Hfb
      isplitl [H1]
      · iexists f1
        isplitr
        · ipureintro; trivial
        iexact H1
      iexact Hrb
    iexact I14
  iintro HB
  iapply (Scf.wp_for_bind frame (wpE (defs₀ (F := F)) 𝒱₀ (VT d L) none) Set.univ k0_t11_loop.lb k0_t11_loop.ub k0_t11_loop.st k0_t11_ok _ _
    (gatherInv d L qf.left fullShare.left qf.right fullShare.right QT ST FF (rows T (rowBase L)) O W) (fun k acc => gather_trip d L hT k acc)) $$ [HA HB Hor I9 I10 HO]
  · unfold gatherInv
    rw [Stage.pos d L (by decide), Stage.pos d L (by decide)]
    isplitl [HA]; · iexact HA
    isplitl [HB]; · iexact HB
    isplitl [Hor]
    · iexists g
      isplitr
      swap; · iexact Hor
      ipureintro
      intro i h0 h1
      have h1' : (i 0).val < wid L * 4096 + 0 := h1
      have h0' : wid L * 4096 ≤ (i 0).val := h0
      omega
    isplitl [I9]; · iexact I9
    isplitl [I10]; · iexact I10
    iexact HO
  iintro %acc H
  iapply (ret_step d L)
  have hinv : gatherInv (F := F) d L qf.left fullShare.left qf.right fullShare.right QT ST FF (rows T (rowBase L)) O W k0_t11_loop.trips acc
      = gatherInv d L qf.left fullShare.left qf.right fullShare.right QT ST FF (rows T (rowBase L)) O W 16 acc := by rw [gather_trips]
  ihave H' := (Entails.of_eq hinv) $$ H
  unfold gatherInv
  rw [Stage.neg d L (by decide), Stage.neg d L (by decide)]
  unfold got
  icases H' with ⟨⟨⟨Hfa, ⟨%g0, -, H0⟩, Hra⟩, I13⟩, ⟨⟨Hfb, ⟨%g1, -, H1⟩, Hrb⟩, I14⟩, ⟨%g', %hg', Hor⟩, I9, I10, HO⟩
  iapply Hk
  isplitl [Hoc]; · iexists fc; iexact Hoc
  isplitl [Hra Hrb]
  · iexists (rows T (rowBase L))
    iapply (halves (F := F) fullShare (rows T (rowBase L))).2
    isplitl [Hra]; · iexact Hra
    iexact Hrb
  isplitl [Hfa Hfb]
  · iapply (halves (F := F) qf FF).2
    isplitl [Hfa]; · iexact Hfa
    iexact Hfb
  isplitl [H0]; · iexists g0; iexact H0
  isplitl [H1]; · iexists g1; iexact H1
  isplitl [Hox]; · iexact Hox
  isplitl [Hor]
  · iapply (Entails.of_eq (pointsTo_congr (fun i hi => ?_)))
    swap; · iexact Hor
    have hi' := (mem_orWin L).mp hi
    exact hg' i (by omega) (by omega)
  isplitl [I8]; · iexact I8
  isplitl [I9]; · iexact I9
  isplitl [I10]; · iexact I10
  isplitl [I13]; · iexact I13
  isplitl [I14]; · iexact I14
  iexact HO

/-- One tile, from its shares, windows, buffers and semaphores to its windows written. -/
theorem tile_run (f : Buf (Elt F) (oxM.view.loc (VT d L))) (g : Buf (Elt F) (orM.view.loc (VT d L))) :
    iprop(operands d L QT ST FF qt qs qf ∗ windows d L f g ∗ scratch d L ∗ sems0 d L ∗ owed d L O W)
      ⊢ tileWp d L (cc0__sc_body L qtM (Memref.isWhole_whole _) stM (Memref.isWhole_whole _) ffM (Memref.isWhole_whole _) oxM (Memref.isWhole_whole _) orM (Memref.isWhole_whole _) sxM (Memref.isWhole_whole _) syM (Memref.isWhole_whole _) szM (Memref.isWhole_whole _) qxM (Memref.isWhole_whole _) qyM (Memref.isWhole_whole _) qzM (Memref.isWhole_whole _) tabM (Memref.isWhole_whole _) rowM (Memref.isWhole_whole _) oaM (Memref.isWhole_whole _) obM (Memref.isWhole_whole _) ocM (Memref.isWhole_whole _) g0M (Memref.isWhole_whole _) g1M (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10) fun _ =>
          iprop(operands d L QT ST FF qt qs qf ∗ windows d L (outXyz QT ST) (outRows QT ST FF) ∗ scratch d L ∗ sems0 d L ∗ owed d L O W) := by
  rw [cc0__sc_body_eq_skeleton]; unfold cc0__sc_body_skel
  simp only [Prog.lift, Prog.bind_op, Prog.bind_ret, Prog.pure_eq_ret, bind_assoc]
  iintro ⟨⟨Hqt, Hst, Hff⟩, ⟨Hx0, Hx1, Hx2, Hor⟩, ⟨⟨%fsxM, Bsx⟩, ⟨%fsyM, Bsy⟩, ⟨%fszM, Bsz⟩, ⟨%fqxM, Bqx⟩, ⟨%fqyM, Bqy⟩, ⟨%fqzM, Bqz⟩, ⟨%ftabM, Btab⟩, ⟨%frowM, Brow⟩, ⟨%foaM, Boa⟩, ⟨%fobM, Bob⟩, ⟨%focM, Boc⟩, ⟨%fg0M, Bg0⟩, ⟨%fg1M, Bg1⟩⟩, ⟨S0, S1, S2, S3, S4, S5, S6, S7, S8, S9, S10, S11, S12⟩, HO⟩
  iapply (part5_step d L fsxM) $$ [Hst Bsx S0]
  · isplitl [Hst]; · iexact Hst
    isplitl [Bsx]; · iexact Bsx
    iexact S0
  iintro %v18 %v29 %v31 Hp
  iapply (part6_step d L fsyM fszM fqxM fqyM fqzM) $$ [Hp Hqt Bsy Bsz Bqx Bqy Bqz S1 S2 S3 S4 S5 HO]
  · isplitl [Hp]; · iexact Hp
    isplitl [Hqt]; · iexact Hqt
    isplitl [Bsy]; · iexact Bsy
    isplitl [Bsz]; · iexact Bsz
    isplitl [Bqx]; · iexact Bqx
    isplitl [Bqy]; · iexact Bqy
    isplitl [Bqz]; · iexact Bqz
    isplitl [S1]; · iexact S1
    isplitl [S2]; · iexact S2
    isplitl [S3]; · iexact S3
    isplitl [S4]; · iexact S4
    isplitl [S5]; · iexact S5
    iexact HO
  iintro ⟨Hst, Bsx, Bsy, Bsz, Bqx, Bqy, Hp, S0, S1, S2, S3, S4, HO⟩
  iapply (part7_step d L) $$ [Hp Bqx Bqy HO]
  · isplitl [Hp]; · iexact Hp
    isplitl [Bqx]; · iexact Bqx
    isplitl [Bqy]; · iexact Bqy
    iexact HO
  iintro ⟨Hqt, S5, HO, HQ⟩
  iapply (part8_step d L) $$ HQ
  iintro HQ
  iapply (part9_step d L) $$ HQ
  iintro HQ
  iapply (part10_step d L (near := tileNear QT ST L) (fun g hg => group_of L QT ST hg) ftabM) $$ [HQ Bsx Bsy Bsz Btab]
  · isplitl [HQ]; · iexact HQ
    isplitl [Bsx Bsy Bsz]
    · isplitl [Bsx]; · iexact Bsx
      isplitl [Bsy]; · iexact Bsy
      iexact Bsz
    iexact Btab
  iintro %c2 %c3 %c4 %c5 %c6 %c7 %w %hc HQ HP HT
  obtain ⟨⟨h2, h3, h4, h5, h6, h7⟩, hw⟩ := hc
  iapply (part11_step d L h2 h3 h4 h5 h6 h7 hw) $$ HT
  iintro %w' %hw' HT
  iapply (part12_step d L h7 hw' frowM foaM fobM focM f f) $$ [HQ HP HT Boa Bob Boc Brow Hx0 Hx1 S6 S7 HO]
  · isplitl [HQ]; · iexact HQ
    isplitl [HP]; · iexact HP
    isplitl [HT]; · iexact HT
    isplitl [Boa]; · iexact Boa
    isplitl [Bob]; · iexact Bob
    isplitl [Boc]; · iexact Boc
    isplitl [Brow]; · iexact Brow
    isplitl [Hx0]; · iexact Hx0
    isplitl [Hx1]; · iexact Hx1
    isplitl [S6]; · iexact S6
    isplitl [S7]; · iexact S7
    iexact HO
  iintro %T %hT ⟨⟨Bqx, Bqy, Bqz⟩, ⟨Bsx, Bsy, Bsz⟩, Btab, Boa, Bob, ⟨%fc, %hfc, Boc⟩, Brow, Hx0, Hx1, S6, S7, HO⟩
  iapply (tail_step d L hT f g fg0M fg1M fc hfc) $$ [Boc Brow Hff Bg0 Bg1 Hx2 Hor S8 S9 S10 S11 S12 HO]
  · isplitl [Boc]; · iexact Boc
    isplitl [Brow]; · iexact Brow
    isplitl [Hff]; · iexact Hff
    isplitl [Bg0]; · iexact Bg0
    isplitl [Bg1]; · iexact Bg1
    isplitl [Hx2]; · iexact Hx2
    isplitl [Hor]; · iexact Hor
    isplitl [S8]; · iexact S8
    isplitl [S9]; · iexact S9
    isplitl [S10]; · iexact S10
    isplitl [S11]; · iexact S11
    isplitl [S12]; · iexact S12
    iexact HO
  iintro ⟨Boc, Brow, Hff, Bg0, Bg1, Hx2, Hor, S8, S9, S10, S11, S12, HO⟩
  isplitl [Hqt Hst Hff]
  · isplitl [Hqt]; · iexact Hqt
    isplitl [Hst]; · iexact Hst
    iexact Hff
  isplitl [Hx0 Hx1 Hx2 Hor]
  · isplitl [Hx0]; · iexact Hx0
    isplitl [Hx1]; · iexact Hx1
    isplitl [Hx2]; · iexact Hx2
    iexact Hor
  isplitl [Bsx Bsy Bsz Bqx Bqy Bqz Btab Brow Boa Bob Boc Bg0 Bg1]
  · isplitl [Bsx]; · iexists _; iexact Bsx
    isplitl [Bsy]; · iexists _; iexact Bsy
    isplitl [Bsz]; · iexists _; iexact Bsz
    isplitl [Bqx]; · iexists _; iexact Bqx
    isplitl [Bqy]; · iexists _; iexact Bqy
    isplitl [Bqz]; · iexists _; iexact Bqz
    isplitl [Btab]; · iexists _; iexact Btab
    isplitl [Brow]; · iexact Brow
    isplitl [Boa]; · iexact Boa
    isplitl [Bob]; · iexact Bob
    isplitl [Boc]; · iexact Boc
    isplitl [Bg0]; · iexact Bg0
    iexact Bg1
  isplitl [S0 S1 S2 S3 S4 S5 S6 S7 S8 S9 S10 S11 S12]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    iexact S12
  iexact HO

end Cert.Tile

end
-- ==== Proof.Deal.lean ====
/-
  What the launch hands a tile and takes back: its own buffers and semaphores out of all the subcore's, its windows out
  of the results, its shares out of the operands.
-/
module

public import proofs.«01_k».proof.Proof.Body

@[expose] public section

noncomputable section

namespace Cert.Tile

open Cert.KernelIdeal Cert.KernelIdeal.Gen Cert.BallQuery
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-! ## A tile's own buffers and semaphores -/

section Own

variable (d : Dev nD) (L : grid0.Coords)

/-- The semaphores the tile names. -/
def tileSem : Fin 13 → DmaSem sig := ![cc0_scoped0.sem, cc0_scoped1.sem, cc0_scoped2.sem, cc0_scoped3.sem, cc0_scoped4.sem, cc0_scoped5.sem, cc0_scoped6.sem, cc0_scoped7.sem, cc0_scoped8.sem, cc0_scoped9.sem, cc0_scoped10.sem, cc0_scratch13.sem, cc0_scratch14.sem]

/-- The buffers the tile names. -/
def tileRef : Fin 13 → Ref sig .scVector := ![cc0_scratch0, cc0_scratch1, cc0_scratch2, cc0_scratch3, cc0_scratch4, cc0_scratch5, cc0_scratch6, cc0_scratch7, cc0_scratch8, cc0_scratch9, cc0_scratch10, cc0_scratch11, cc0_scratch12]

/-- A semaphore of the tile's as a cell of the machine's. -/
abbrev tileCell (k : Fin 13) : GSem nD τ sig := (VT d L, .dma (tileSem k))

/-- A buffer of the tile's as a buffer of the device's. -/
abbrev tileBuf (k : Fin 13) : DevRef τ sig := (Proc.scVector (cV L) (jV L)).devRef (tileRef k)

theorem tileSem_injective : Function.Injective tileSem := by decide
theorem tileRef_injective : Function.Injective tileRef := by decide

theorem tileCell_mem (k : Fin 13) : tileCell d L k ∈ ownCells (VT d L) :=
  mem_ownCells.mpr ⟨rfl, (show ∀ s : DmaSem sig, (SemLoc.dma s : SemLoc sig).isScoped .scVector = true by decide) _⟩

theorem tileBuf_mem (k : Fin 13) : tileBuf L k ∈ ownRefs (τ := τ) (.scVector (cV L) (jV L)) := by
  refine SparseCore.Cfg.mem_ownRefs_of_owner (p := Proc.scVector (cV L) (jV L)) (b := tileBuf L k) ?_
  fin_cases k <;> rfl

/-- What is left of the subcore's semaphores. -/
def otherSems : sProp (MM F) := bigSep ((ownCells (VT d L)) \ Finset.univ.image (tileCell d L)) fun g => semVal g 0

/-- What is left of the subcore's buffers. -/
def otherBufs : sProp (MM F) :=
  bigSep ((ownRefs (τ := τ) (.scVector (cV L) (jV L))) \ Finset.univ.image (tileBuf L)) fun b => iprop(∃ f, ((d, b) : Loc nD τ sig) ↦{fullShare} f)

theorem thirteen (Φ : Fin 13 → sProp (MM F)) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) := by
  rw [show (Finset.univ : Finset (Fin 13)) = {0, 1, 2, 3, 4, 5, 6, 7, 8, 9, 10, 11, 12} by decide]
  repeat rw [SparseCore.bigSep_insert' (by decide)]
  rw [bigSep_singleton]

theorem ownSems_eq : (ownSems0 (VT d L) : sProp (MM F)) = iprop(sems0 d L ∗ otherSems d L) := by
  unfold SparseCore.Cfg.ownSems0
  rw [SparseCore.bigSep_sdiff_split' (t := Finset.univ.image (tileCell d L)) (Finset.image_subset_iff.mpr fun k _ => tileCell_mem d L k),
    SparseCore.bigSep_image_of_injOn (fun a _ b _ h => tileSem_injective (SemLoc.dma.inj (congrArg (fun g : GSem nD τ sig => g.2) h))), thirteen]
  rfl

theorem ownBufs_eq : (ownBufs (VT d L) : sProp (MM F)) = iprop(scratch d L ∗ otherBufs d L) := by
  unfold SparseCore.Cfg.ownBufs
  refine (SparseCore.bigSep_sdiff_split' (t := Finset.univ.image (tileBuf L)) (Finset.image_subset_iff.mpr fun k _ => tileBuf_mem L k)).trans ?_
  rw [SparseCore.bigSep_image_of_injOn (fun a _ b _ h => tileRef_injective (Proc.devRef_injective _ h)), thirteen]
  rfl

end Own

/-! ## The windows -/

/-- A tile: its core and its subcore. -/
abbrev Tiles : Type := Fin 2 × Fin 16

/-- A grid point from its two coordinates. -/
def coordsV (c : Fin (grid0.bound 0)) (s : Fin (grid0.bound 1)) : grid0.Coords :=
  fun | 0 => c | 1 => s | ⟨_ + 2, h⟩ => absurd h (Nat.not_lt.2 (Nat.le_add_left _ _))

/-- The tile's grid point. -/
abbrev pt (p : Tiles) : grid0.Coords := coordsV p.1 p.2

theorem wid_pt (p : Tiles) : wid (pt p) = p.2.val * 2 + p.1.val := rfl

theorem wid_injective {p p' : Tiles} (h : wid (pt p) = wid (pt p')) : p = p' := by
  rw [wid_pt, wid_pt] at h
  have h1 := p.1.isLt; have h2 := p'.1.isLt
  exact Prod.ext (Fin.ext (by omega)) (Fin.ext (by omega))

/-- The tile whose number is `w`. -/
theorem exists_wid {w : Nat} (h : w < 32) : ∃ p : Tiles, wid (pt p) = w :=
  ⟨(⟨w % 2, by omega⟩, ⟨w / 2, by omega⟩), by rw [wid_pt]; show w / 2 * 2 + w % 2 = w; omega⟩

theorem orWin_disjoint : ∀ p ∈ (Finset.univ : Finset Tiles), ∀ p' ∈ (Finset.univ : Finset Tiles), p ≠ p' → Disjoint (orWin (pt p)) (orWin (pt p')) :=
  fun p _ p' _ h => Finset.disjoint_left.mpr fun i hi hi' => h (wid_injective (((mem_orWin _).mp hi).symm.trans ((mem_orWin _).mp hi')))

theorem orWin_cover : (Finset.univ : Finset Tiles).biUnion (fun p => orWin (pt p)) = Finset.univ := by
  refine Finset.eq_univ_of_forall fun i => ?_
  have hi : (i 0).val < 131072 := (i 0).isLt
  obtain ⟨p, hp⟩ := exists_wid (w := (i 0).val / 4096) (by omega)
  exact Finset.mem_biUnion.mpr ⟨p, Finset.mem_univ _, (mem_orWin _).mpr hp.symm⟩

theorem oxWin_disjoint : ∀ p ∈ (Finset.univ : Finset (Tiles × Fin 3)), ∀ p' ∈ (Finset.univ : Finset (Tiles × Fin 3)), p ≠ p' →
    Disjoint (oxWin (pt p.1) p.2.val) (oxWin (pt p'.1) p'.2.val) := by
  intro p _ p' _ h
  refine Finset.disjoint_left.mpr fun i hi hi' => h ?_
  have e := ((mem_oxWin _).mp hi).symm.trans ((mem_oxWin _).mp hi')
  have h1 := p.2.isLt; have h2 := p'.2.isLt
  unfold bN at e
  exact Prod.ext (wid_injective (by omega)) (Fin.ext (by omega))

theorem oxWin_cover : (Finset.univ : Finset (Tiles × Fin 3)).biUnion (fun p => oxWin (pt p.1) p.2.val) = Finset.univ := by
  refine Finset.eq_univ_of_forall fun i => ?_
  have hi : (i 0).val < 393216 := (i 0).isLt
  obtain ⟨p, hp⟩ := exists_wid (w := (i 0).val / 4096 / 24 * 8 + (i 0).val / 4096 % 8) (by omega)
  refine Finset.mem_biUnion.mpr ⟨(p, ⟨(i 0).val / 4096 / 8 % 3, by omega⟩), Finset.mem_univ _, (mem_oxWin _).mpr ?_⟩
  unfold bN
  rw [hp]
  show (i 0).val / 4096 = (((i 0).val / 4096 / 24 * 8 + (i 0).val / 4096 % 8) / 8 * 3 + (i 0).val / 4096 / 8 % 3) * 8 + ((i 0).val / 4096 / 24 * 8 + (i 0).val / 4096 % 8) % 8
  omega

/-! ## The deal -/

section Deal

variable (d : Dev nD)

/-- The flat query coordinates, the flat support coordinates, the feature rows; the two results of the call. -/
abbrev qtLoc : Loc nD τ sig := (SparseCore.T d).loc main_v1
abbrev stLoc : Loc nD τ sig := (SparseCore.T d).loc main_v3
abbrev ffLoc : Loc nD τ sig := (SparseCore.T d).loc main_v5
abbrev oxLoc : Loc nD τ sig := (SparseCore.T d).loc main_v6_0
abbrev orLoc : Loc nD τ sig := (SparseCore.T d).loc main_v6_1

/-- The share of an operand that tile `p` reads, and the share that stays. -/
abbrev tok (p : Tiles) : PosShare TreeShare := Transfers.shareTokN fullShare (wid (pt p))
abbrev kept : PosShare TreeShare := Transfers.shareDrop fullShare 32

/-- An operand is what stays of it and the tiles' shares. -/
theorem shares_eq {ℓ : Loc nD τ sig} (f : Buf (Elt F) ℓ) :
    (ℓ ↦{fullShare} f : sProp (MM F)) = iprop((ℓ ↦{kept} f) ∗ bigSep Finset.univ fun p : Tiles => ℓ ↦{tok p} f) := by
  have h : (ℓ ↦{fullShare} f : sProp (MM F)) ⊣⊢ iprop((ℓ ↦{kept} f) ∗ bigSep (Finset.range 32) fun i => ℓ ↦{Transfers.shareTokN fullShare i} f) :=
    Transfers.pointsTo_toks_range (ℓ := ℓ) (S := Finset.univ) (f := f) fullShare 32
  rw [BI.Entails.antisymm h.1 h.2]
  have him : Finset.range 32 = (Finset.univ : Finset Tiles).image (fun p => wid (pt p)) := by
    ext i
    rw [Finset.mem_range, Finset.mem_image]
    exact ⟨fun hi => (exists_wid hi).imp fun p hp => ⟨Finset.mem_univ _, hp⟩, fun ⟨p, _, hp⟩ => hp ▸ wid_lt (pt p)⟩
  rw [him, SparseCore.bigSep_image_of_injOn (fun a _ b _ h => wid_injective h)]

/-- The first result is its windows, three a tile. -/
theorem xyz_eq (f : Buf (Elt F) (oxLoc d)) : (oxLoc d ↦{fullShare} f : sProp (MM F))
    = bigSep Finset.univ fun p : Tiles => iprop((oxLoc d ↦[oxWin (pt p) 0]{fullShare} f) ∗ (oxLoc d ↦[oxWin (pt p) 1]{fullShare} f) ∗ (oxLoc d ↦[oxWin (pt p) 2]{fullShare} f)) := by
  have h : (oxLoc d ↦{fullShare} f : sProp (MM F)) = bigSep Finset.univ fun p : Tiles × Fin 3 => oxLoc d ↦[oxWin (pt p.1) p.2.val]{fullShare} f := by
    rw [← pointsTo_biUnion Finset.univ (ℓ := oxLoc d) (fun p : Tiles × Fin 3 => oxWin (pt p.1) p.2.val) oxWin_disjoint, oxWin_cover]; try rfl
  rw [h, BI.bigSep_univ_prod]
  refine bigSep_congr fun p _ => ?_
  rw [show (Finset.univ : Finset (Fin 3)) = {0, 1, 2} by decide, SparseCore.bigSep_insert' (by decide), SparseCore.bigSep_insert' (by decide), bigSep_singleton]
  rfl

/-- The second result is its windows, one a tile. -/
theorem rows_eq (f : Buf (Elt F) (orLoc d)) : (orLoc d ↦{fullShare} f : sProp (MM F)) = bigSep Finset.univ fun p : Tiles => orLoc d ↦[orWin (pt p)]{fullShare} f := by
  rw [← pointsTo_biUnion Finset.univ (ℓ := orLoc d) (fun p : Tiles => orWin (pt p)) orWin_disjoint, orWin_cover]; try rfl

variable [FloatOps F] (QT : S12288.Idx → F .f32) (ST : S98304.Idx → F .f32) (FF : S32768x128.Idx → F .f32)

/-- What tile `p` holds of the arrays in memory: its shares of the operands, its windows of the results at `f` and `g`. -/
abbrev part (p : Tiles) (f : Buf (Elt F) (oxLoc d)) (g : Buf (Elt F) (orLoc d)) : sProp (MM F) :=
  iprop(((qtLoc d ↦{tok p} QT) ∗ (stLoc d ↦{tok p} ST) ∗ (ffLoc d ↦{tok p} FF))
    ∗ ((oxLoc d ↦[oxWin (pt p) 0]{fullShare} f) ∗ (oxLoc d ↦[oxWin (pt p) 1]{fullShare} f) ∗ (oxLoc d ↦[oxWin (pt p) 2]{fullShare} f))
    ∗ (orLoc d ↦[orWin (pt p)]{fullShare} g))

/-- The five arrays are what stays and the tiles' parts. -/
theorem deal_eq (f : Buf (Elt F) (oxLoc d)) (g : Buf (Elt F) (orLoc d)) :
    (iprop(((qtLoc d ↦{kept} QT) ∗ (stLoc d ↦{kept} ST) ∗ (ffLoc d ↦{kept} FF)) ∗ bigSep Finset.univ fun p : Tiles => part d QT ST FF p f g) : sProp (MM F))
      ⊣⊢ iprop((qtLoc d ↦{fullShare} QT) ∗ (stLoc d ↦{fullShare} ST) ∗ (ffLoc d ↦{fullShare} FF) ∗ (oxLoc d ↦{fullShare} f) ∗ (orLoc d ↦{fullShare} g)) := by
  rw [shares_eq (ℓ := qtLoc d) QT, shares_eq (ℓ := stLoc d) ST, shares_eq (ℓ := ffLoc d) FF, xyz_eq, rows_eq]
  unfold part
  rw [bigSep_sep', bigSep_sep', bigSep_sep', bigSep_sep']
  constructor
  · iintro ⟨⟨Aq, As, Af⟩, ⟨Bq, Bs, Bf⟩, C, D⟩
    isplitl [Aq Bq]; · isplitl [Aq] <;> iassumption
    isplitl [As Bs]; · isplitl [As] <;> iassumption
    isplitl [Af Bf]; · isplitl [Af] <;> iassumption
    isplitl [C] <;> iassumption
  · iintro ⟨⟨Aq, Bq⟩, ⟨As, Bs⟩, ⟨Af, Bf⟩, C, D⟩
    isplitl [Aq As Af]
    · isplitl [Aq]; · iexact Aq
      isplitl [As] <;> iassumption
    isplitl [Bq Bs Bf]
    · isplitl [Bq]; · iexact Bq
      isplitl [Bs] <;> iassumption
    isplitl [C] <;> iassumption

end Deal

end Cert.Tile

end
-- ==== Proof.Launch.lean ====
/-
  The program's run: what the launch hands each core and tile, one tile's task against what it is handed, and the
  TensorCore's program around the one call.
-/
module

public import proofs.«01_k».proof.Proof.Deal
public import Idealize.ShloMosaic.Lib.Pipeline.Frame

@[expose] public section

noncomputable section

namespace Cert.Tile

open Cert.KernelIdeal Cert.KernelIdeal.Gen Cert.BallQuery
open Idealize.ShloMosaic
open Idealize.ShloMosaic.StableHlo (seq after held wp_seq)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The host's two straight lines -/

/-- The operations before the call: each operand transposed and flattened. -/
def opsIn : List (HloOp τ sig (Elt F)) :=
  [StableHlo.unary main_arg0 main_v0 ((transpose S4x3x1024 [0, 2, 1] · transposes_S4x1024x3_S4x3x1024_0_2_1) : (⟨S4x1024x3, .f32⟩ : BufTy).Contents (Elt F) → (⟨S4x3x1024, .f32⟩ : BufTy).Contents (Elt F)),
   StableHlo.reshape main_v0 main_v1 (rfl : (.f32 : EltTy) = .f32) shapeCasts_S4x3x1024_S12288,
   StableHlo.unary main_arg1 main_v2 ((transpose S4x3x8192 [0, 2, 1] · transposes_S4x8192x3_S4x3x8192_0_2_1) : (⟨S4x8192x3, .f32⟩ : BufTy).Contents (Elt F) → (⟨S4x3x8192, .f32⟩ : BufTy).Contents (Elt F)),
   StableHlo.reshape main_v2 main_v3 (rfl : (.f32 : EltTy) = .f32) shapeCasts_S4x3x8192_S98304,
   StableHlo.unary main_arg2 main_v4 ((transpose S4x8192x128 [0, 2, 1] · transposes_S4x128x8192_S4x8192x128_0_2_1) : (⟨S4x128x8192, .f32⟩ : BufTy).Contents (Elt F) → (⟨S4x8192x128, .f32⟩ : BufTy).Contents (Elt F)),
   StableHlo.reshape main_v4 main_v5 (rfl : (.f32 : EltTy) = .f32) shapeCasts_S4x8192x128_S32768x128]

/-- The operations after it: each result given its shape. -/
def opsOut : List (HloOp τ sig (Elt F)) :=
  [StableHlo.reshape main_v6_0 main_v7 (rfl : (.f32 : EltTy) = .f32) shapeCasts_S393216_S4x3x1024x32,
   StableHlo.reshape main_v6_1 main_v8 (rfl : (.f32 : EltTy) = .f32) shapeCasts_S131072x128_S4x1024x32x128,
   StableHlo.unary main_v8 main_v9 ((transpose S4x128x1024x32 [0, 3, 1, 2] · transposes_S4x1024x32x128_S4x128x1024x32_0_3_1_2) : (⟨S4x1024x32x128, .f32⟩ : BufTy).Contents (Elt F) → (⟨S4x128x1024x32, .f32⟩ : BufTy).Contents (Elt F))]

theorem main_eq (d : Dev nD) :
    main (F := F) d = (seq opsIn >>= fun _ => (K (F := F)).run d 0 >>= fun _ => seq opsOut >>= fun _ => pure ⟨⟩) := rfl

theorem opsIn_sub : ∀ op ∈ (opsIn : List (HloOp τ sig (Elt F))), op.bufs ⊆ Pipeline.ucRefs τ sig := fun op h =>
  Pipeline.sub_ucRefs op (List.forall_iff_forall_mem.1 (show (opsIn : List (HloOp τ sig (Elt F))).Forall fun op => op.bufs ⊆ StableHlo.tcRefs τ sig from
    ⟨StableHlo.unary_bufs_sub .., StableHlo.reshape_bufs_sub .., StableHlo.unary_bufs_sub .., StableHlo.reshape_bufs_sub .., StableHlo.unary_bufs_sub .., StableHlo.reshape_bufs_sub ..⟩) op h)
theorem opsOut_sub : ∀ op ∈ (opsOut : List (HloOp τ sig (Elt F))), op.bufs ⊆ Pipeline.ucRefs τ sig := fun op h =>
  Pipeline.sub_ucRefs op (List.forall_iff_forall_mem.1 (show (opsOut : List (HloOp τ sig (Elt F))).Forall fun op => op.bufs ⊆ StableHlo.tcRefs τ sig from
    ⟨StableHlo.reshape_bufs_sub .., StableHlo.reshape_bufs_sub .., StableHlo.unary_bufs_sub ..⟩) op h)
theorem opsIn_fresh : ∀ op ∈ (opsIn : List (HloOp τ sig (Elt F))), op.fresh = ∅ := fun op h =>
  List.forall_iff_forall_mem.1 (show (opsIn : List (HloOp τ sig (Elt F))).Forall fun op => op.fresh = ∅ from ⟨rfl, rfl, rfl, rfl, rfl, rfl⟩) op h
theorem opsOut_fresh : ∀ op ∈ (opsOut : List (HloOp τ sig (Elt F))), op.fresh = ∅ := fun op h =>
  List.forall_iff_forall_mem.1 (show (opsOut : List (HloOp τ sig (Elt F))).Forall fun op => op.fresh = ∅ from ⟨rfl, rfl, rfl⟩) op h

/-! ## The contents along the run -/

/-- The arrays of the call, as buffers of a device. -/
abbrev qtR : DevRef τ sig := Proc.devRef .tc (main_v1 : Ref sig .tc)
abbrev stR : DevRef τ sig := Proc.devRef .tc (main_v3 : Ref sig .tc)
abbrev ffR : DevRef τ sig := Proc.devRef .tc (main_v5 : Ref sig .tc)
abbrev oxR : DevRef τ sig := Proc.devRef .tc (main_v6_0 : Ref sig .tc)
abbrev orR : DevRef τ sig := Proc.devRef .tc (main_v6_1 : Ref sig .tc)

/-- The call's five arrays. -/
def fiveRefs : Finset (DevRef τ sig) := {qtR, stR, ffR, oxR, orR}

theorem fiveRefs_sub : fiveRefs ⊆ Pipeline.ucRefs τ sig := by decide

variable (m : (ℓ : Loc nD τ sig) → Buf (Elt F) ℓ) (ρ : Dev nD → PrngReg) (d : Dev nD)

/-- The device's arrays when the call starts. -/
def atCall : Valuation τ sig (Elt F) := after opsIn fun b => m (d, b)

/-- The call's operands. -/
def QTof : S12288.Idx → F .f32 := atCall m d qtR
def STof : S98304.Idx → F .f32 := atCall m d stR
def FFof : S32768x128.Idx → F .f32 := atCall m d ffR
def oxIn : Buf (Elt F) (oxLoc d) := atCall m d oxR
def orIn : Buf (Elt F) (orLoc d) := atCall m d orR

/-- The call's results. -/
def oxOut : Buf (Elt F) (oxLoc d) := outXyz (QTof m d) (STof m d)
def orOut : Buf (Elt F) (orLoc d) := outRows (QTof m d) (STof m d) (FFof m d)

/-- The device's arrays when the call is done. -/
def pastCall : Valuation τ sig (Elt F) := Function.update (Function.update (atCall m d) oxR (oxOut m d)) orR (orOut m d)

/-- The device's arrays at the end. -/
def atEnd : Valuation τ sig (Elt F) := after opsOut (pastCall m d)

/-- The call's arrays held one by one. -/
theorem held_five (W : Valuation τ sig (Elt F)) :
    (held (SparseCore.T d) fiveRefs W : sProp (MM F))
      = iprop((qtLoc d ↦{fullShare} W qtR) ∗ (stLoc d ↦{fullShare} W stR) ∗ (ffLoc d ↦{fullShare} W ffR)
          ∗ (oxLoc d ↦{fullShare} W oxR) ∗ (orLoc d ↦{fullShare} W orR)) := by
  unfold held fiveRefs
  rw [SparseCore.bigSep_insert' (by decide), SparseCore.bigSep_insert' (by decide), SparseCore.bigSep_insert' (by decide),
    SparseCore.bigSep_insert' (by decide), bigSep_singleton]

theorem pastCall_ne {b : DevRef τ sig} (hx : b ≠ oxR) (hr : b ≠ orR) : pastCall m d b = atCall m d b := by
  unfold pastCall
  rw [Function.update_of_ne hr, Function.update_of_ne hx]

theorem pastCall_ox : pastCall m d oxR = oxOut m d := by
  unfold pastCall
  rw [Function.update_of_ne (by decide), Function.update_self]

theorem pastCall_or : pastCall m d orR = orOut m d := by
  unfold pastCall
  rw [Function.update_self]

/-- The rest of the arrays do not see the call. -/
theorem held_rest : (held (SparseCore.T d) (Pipeline.ucRefs τ sig \ fiveRefs) (atCall m d) : sProp (MM F))
    = held (SparseCore.T d) (Pipeline.ucRefs τ sig \ fiveRefs) (pastCall m d) :=
  StableHlo.held_congr _ fun b hb => by
    have h := (Finset.mem_sdiff.mp hb).2
    refine (pastCall_ne m d (fun e => h ?_) fun e => h ?_).symm <;> rw [e] <;> decide

/-! ## What the call hands out -/

/-- A tile's part before the call and after it. -/
abbrev partIn (p : Tiles) : sProp (MM F) := part d (QTof m d) (STof m d) (FFof m d) p (oxIn m d) (orIn m d)
abbrev partOut (p : Tiles) : sProp (MM F) := part d (QTof m d) (STof m d) (FFof m d) p (oxOut m d) (orOut m d)

/-- The tile that core `c`'s subcore `i` runs. -/
abbrev tileAt (c : Fin ((K (F := F)).nCore 0)) (i : Fin ((K (F := F)).nSub 0)) : Tiles := (Fin.cast nCore_zero c, Fin.cast nSub_zero i)

/-- A core gets its tiles' parts and hands them on; a tile gets its own. -/
def P : (K (F := F)).Pay (nD := nD) (Val := Elt F) (Name := ℕ) (U := UU) where
  st := fun q d c => match q with | 0 => bigSep Finset.univ fun i : Fin ((K (F := F)).nSub 0) => partIn m d (tileAt c i)
  dn := fun q d c => match q with | 0 => bigSep Finset.univ fun i : Fin ((K (F := F)).nSub 0) => partOut m d (tileAt c i)
  go := fun q d c i => match q with | 0 => partIn m d (tileAt c i)
  td := fun q d c i => match q with | 0 => partOut m d (tileAt c i)
  x := fun _ _ => iprop(emp)

instance P_storable : (P (F := F) m).IsStorable where
  st q d c := match q with
    | 0 => (inferInstance : BI.Storable (upEmb : UEmb _ (MM F)) (bigSep Finset.univ fun i : Fin ((K (F := F)).nSub 0) => partIn m d (tileAt c i)))
  dn q d c := match q with
    | 0 => (inferInstance : BI.Storable (upEmb : UEmb _ (MM F)) (bigSep Finset.univ fun i : Fin ((K (F := F)).nSub 0) => partOut m d (tileAt c i)))
  go q d c i := match q with | 0 => (inferInstance : BI.Storable (upEmb : UEmb _ (MM F)) (partIn m d (tileAt c i)))
  td q d c i := match q with | 0 => (inferInstance : BI.Storable (upEmb : UEmb _ (MM F)) (partOut m d (tileAt c i)))

theorem vecSplit : (K (F := F)).VecSplit' (P m) 0 := by
  intro d c
  show (bigSep Finset.univ fun i : Fin ((K (F := F)).nSub 0) => partIn m d (tileAt c i))
    ⊢ |={Set.univ}=> iprop((bigSep Finset.univ fun i : Fin ((K (F := F)).nSub 0) => partIn m d (tileAt c i))
        ∗ ((bigSep Finset.univ fun i : Fin ((K (F := F)).nSub 0) => partOut m d (tileAt c i))
            -∗ bigSep Finset.univ fun i : Fin ((K (F := F)).nSub 0) => partOut m d (tileAt c i)))
  iintro H; imodintro
  isplitl [H]; · iexact H
  iintro H; iexact H

/-- Over the cores and their tiles is over all the tiles. -/
theorem all_tiles (Φ : Tiles → sProp (MM F)) :
    (bigSep Finset.univ fun c : Fin ((K (F := F)).nCore 0) => bigSep Finset.univ fun i : Fin ((K (F := F)).nSub 0) => Φ (tileAt c i))
      = bigSep Finset.univ Φ :=
  (BI.bigSep_univ_prod (Φ := Φ)).symm

/-! ## A tile's task -/

theorem tile_body (p : Tiles) (hF : (K (F := F)).Facts) (O : CellTallies nD τ sig (HIx 1)) (W : Waits sig (HIx 1)) (hO : ∀ g, O g none = 0) :
    iprop(levAts (K (F := F)).L (K (F := F)).lev ∗ emp ∗ partIn m d p
        ∗ scopedBufs (VT d (pt p)) ∗ scopedSems0 (VT d (pt p)) ∗ owes (VT d (pt p)) O W)
      ⊢ wp frame (wpE (defs₀ (F := F)) 𝒱₀ (VT d (pt p)) none) Set.univ
          (cc0__sc_body (pt p) qtM (Memref.isWhole_whole _) stM (Memref.isWhole_whole _) ffM (Memref.isWhole_whole _) oxM (Memref.isWhole_whole _) orM (Memref.isWhole_whole _) sxM (Memref.isWhole_whole _) syM (Memref.isWhole_whole _) szM (Memref.isWhole_whole _) qxM (Memref.isWhole_whole _) qyM (Memref.isWhole_whole _) qzM (Memref.isWhole_whole _) tabM (Memref.isWhole_whole _) rowM (Memref.isWhole_whole _) oaM (Memref.isWhole_whole _) obM (Memref.isWhole_whole _) ocM (Memref.isWhole_whole _) g0M (Memref.isWhole_whole _) g1M (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10)
          fun _ => iprop(partOut m d p ∗ scopedBufs (VT d (pt p)) ∗ scopedSems0 (VT d (pt p))
            ∗ ∃ W', ⌜∀ p ∈ W', p ∈ W ∨ p.2 = none ∨ p.2 = some (0 : Fin 1)⌝ ∗ owes (VT d (pt p)) O W') := by
  have htile := tile_run (QT := QTof m d) (ST := STof m d) (FF := FFof m d) (O := O) (W := W) (qt := tok p) (qs := tok p) (qf := tok p) d (pt p) (oxIn m d) (orIn m d)
  unfold owed at htile
  rw [(K (F := F)).scopedBufs_V hF d (cV (pt p)) (jV (pt p)), SparseCore.Cfg.scopedSems0_V (Val := Elt F) d (cV (pt p)) (jV (pt p)), ownSems_eq, ownBufs_eq]
  iintro ⟨#Hlv, -, ⟨Hops, Hox, Hor⟩, ⟨HB, HB'⟩, ⟨HS, HS'⟩, HO⟩
  ihave Hmw := (show levAts (K (F := F)).L (K (F := F)).lev ⊢ Transfers.MayWaits (VT d (pt p)) (default : HIx 1) O from
    (K (F := F)).mayWaits_none (thr := VT d (pt p)) hO) $$ Hlv
  iapply (wp_wand_r Idealize.ShloMosaic.frame (wpE (defs₀ (F := F)) 𝒱₀ (VT d (pt p)) none) Set.univ)
  isplitl [Hops Hox Hor HB HS HO Hmw]
  · iapply htile
    isplitl [Hops]; · iexact Hops
    isplitl [Hox Hor]
    · icases Hox with ⟨H0, H1, H2⟩
      isplitl [H0]; · iexact H0
      isplitl [H1]; · iexact H1
      isplitl [H2]; · iexact H2
      iexact Hor
    isplitl [HB]; · iexact HB
    isplitl [HS]; · iexact HS
    isplitl [Hmw]; · iexact Hmw
    iexists W
    isplitr
    · ipureintro; exact fun p hp => Or.inl hp
    iexact HO
  iintro %_ ⟨Hops, ⟨H0, H1, H2, Hor⟩, HB, HS, ⟨-, %W', %hW, HO⟩⟩
  isplitl [Hops H0 H1 H2 Hor]
  · isplitl [Hops]; · iexact Hops
    isplitl [H0 H1 H2]
    · isplitl [H0]; · iexact H0
      isplitl [H1]; · iexact H1
      iexact H2
    iexact Hor
  isplitl [HB HB']
  · isplitl [HB]; · iexact HB
    iexact HB'
  isplitl [HS HS']
  · isplitl [HS]; · iexact HS
    iexact HS'
  iexists W'
  isplitr
  · ipureintro; exact fun p hp => (hW p hp).imp_right Or.inl
  iexact HO

theorem defs₀_vector (c : Fin τ.nSC) (s : Fin τ.nSub) :
    defs₀ (F := F) (.scVector c s) 0 ()
      = SparseCore.onTile hcore0 hsub0 (fun c s => cc0__sc_body (coordsV c s) qtM (Memref.isWhole_whole _) stM (Memref.isWhole_whole _) ffM (Memref.isWhole_whole _) oxM (Memref.isWhole_whole _) orM (Memref.isWhole_whole _) sxM (Memref.isWhole_whole _) syM (Memref.isWhole_whole _) szM (Memref.isWhole_whole _) qxM (Memref.isWhole_whole _) qyM (Memref.isWhole_whole _) qzM (Memref.isWhole_whole _) tabM (Memref.isWhole_whole _) rowM (Memref.isWhole_whole _) oaM (Memref.isWhole_whole _) obM (Memref.isWhole_whole _) ocM (Memref.isWhole_whole _) g0M (Memref.isWhole_whole _) g1M (Memref.isWhole_whole _) cc0_scratch13 cc0_scratch14 cc0_scoped0 cc0_scoped1 cc0_scoped2 cc0_scoped3 cc0_scoped4 cc0_scoped5 cc0_scoped6 cc0_scoped7 cc0_scoped8 cc0_scoped9 cc0_scoped10) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (⟨_, hci.1⟩, ⟨_, hci.2⟩) hF O W hO

/-! ## The launch's resources -/

def u₀ : UU := (initOf (K (F := F)).hsCells (K (F := F)).hsToks, 1)

theorem hu₀ : (ownU (u₀ (F := F)) : sProp (MM F))
    ⊢ |={Set.univ}=> iprop(BI.own (EH (F := F) (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hemp : ∀ {I : Type} (s : Finset I), (bigSep s fun _ => iprop(emp)) = (iprop(emp) : sProp (MM F)) := fun s => bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [hemp]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), hemp]
  iempintro

/-! ## The TensorCore's program -/

/-- What the TensorCore ends with: its arrays at their last contents. -/
abbrev FIN : sProp (MM F) := held (SparseCore.T d) (Pipeline.ucRefs τ sig) (atEnd m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  have hsplit : ∀ W, (held (SparseCore.T d) (Pipeline.ucRefs τ sig) W : sProp (MM F))
      = iprop(held (SparseCore.T d) fiveRefs W ∗ held (SparseCore.T d) (Pipeline.ucRefs τ sig \ fiveRefs) W) :=
    fun W => StableHlo.held_sub_split _ fiveRefs_sub W
  unfold SparseCore.Cfg.tcRes SparseCore.Cfg.tcEnd
  rw [show (unscopedBufs d (fun b => m ((SparseCore.T d).loc b)) : sProp (MM F)) = held (SparseCore.T d) (Pipeline.ucRefs τ sig) (fun b => m (d, b))
    from Pipeline.unscopedBufs_held d (fun b => m (d, b)), main_eq]
  iintro ⟨#Hctx, Hst, ⟨Hb, Hheld, Hts, -⟩, -⟩
  iapply (wp_seq 𝒱 none Set.univ d (Pipeline.ucRefs τ sig) _ opsIn opsIn_sub opsIn_fresh (fun b => m (d, b))) $$ [Hb Hheld]
  · isplitl [Hb]; · iexact Hb
    iexact Hheld
  iintro ⟨Hb, Hheld⟩
  ihave Hh := (Entails.of_eq (show (held (d.tc : Thread nD τ) (Pipeline.ucRefs τ sig) (after opsIn fun b => m (d, b)) : sProp (MM F))
    = iprop(held (SparseCore.T d) fiveRefs (atCall m d) ∗ held (SparseCore.T d) (Pipeline.ucRefs τ sig \ fiveRefs) (atCall m d))
    from hsplit (atCall m d))) $$ Hheld
  icases Hh with ⟨H5, Hrest⟩
  ihave H5 := (Entails.of_eq (show (held (SparseCore.T d) fiveRefs (atCall m d) : sProp (MM F))
    = iprop((qtLoc d ↦{fullShare} QTof m d) ∗ (stLoc d ↦{fullShare} STof m d) ∗ (ffLoc d ↦{fullShare} FFof m d)
      ∗ (oxLoc d ↦{fullShare} oxIn m d) ∗ (orLoc d ↦{fullShare} orIn m d)) from held_five d (atCall m d))) $$ H5
  ihave H5 := (deal_eq d (QTof m d) (STof m d) (FFof m d) (oxIn m d) (orIn m d)).2 $$ H5
  icases H5 with ⟨Hkept, Hparts⟩
  rw [wp_bind]
  iapply ((K (F := F)).wp_run (D (F := F)) 𝒱 (EH := EH) (P := P m) κ d 0) $$ [Hst Hparts Hkept Hrest Hb Hts]
  isplitr; · iexact Hctx
  isplitl [Hst]; · iexact Hst
  isplitl [Hparts]
  · iapply (Entails.of_eq (show (bigSep Finset.univ fun p : Tiles => partIn m d p)
      = (bigSep Finset.univ fun c : Fin ((K (F := F)).nCore 0) => (P m).st 0 d c) from (all_tiles (fun p => partIn m d p)).symm))
    iexact Hparts
  iintro ⟨Hst, Hdn⟩
  ihave Hparts := (Entails.of_eq (show (bigSep Finset.univ fun c : Fin ((K (F := F)).nCore 0) => (P m).dn 0 d c)
    = (bigSep Finset.univ fun p : Tiles => partOut m d p) from all_tiles (fun p => partOut m d p))) $$ Hdn
  ihave H5 := (deal_eq d (QTof m d) (STof m d) (FFof m d) (oxOut m d) (orOut m d)).1 $$ [Hkept Hparts]
  · isplitl [Hkept]; · iexact Hkept
    iexact Hparts
  have hfive : (iprop((qtLoc d ↦{fullShare} QTof m d) ∗ (stLoc d ↦{fullShare} STof m d) ∗ (ffLoc d ↦{fullShare} FFof m d)
      ∗ (oxLoc d ↦{fullShare} oxOut m d) ∗ (orLoc d ↦{fullShare} orOut m d)) : sProp (MM F)) = held (SparseCore.T d) fiveRefs (pastCall m d) := by
    rw [held_five, pastCall_ox, pastCall_or, pastCall_ne m d (b := qtR) (by decide) (by decide), pastCall_ne m d (b := stR) (by decide) (by decide),
      pastCall_ne m d (b := ffR) (by decide) (by decide)]
    rfl
  ihave H5 := (Entails.of_eq hfive) $$ H5
  ihave Hrest := (Entails.of_eq (held_rest m d)) $$ Hrest
  ihave Hheld := (Entails.of_eq (hsplit (pastCall m d)).symm) $$ [H5 Hrest]
  · isplitl [H5]; · iexact H5
    iexact Hrest
  iapply (wp_seq 𝒱 none Set.univ d (Pipeline.ucRefs τ sig) _ opsOut opsOut_sub opsOut_fresh (pastCall m d)) $$ [Hb Hheld]
  · isplitl [Hb]; · iexact Hb
    iexact Hheld
  iintro ⟨Hb, Hheld⟩
  rw [wp_pure]; imodintro
  isplitl [Hst]; · iexact Hst
  isplitl [Hheld]; · iexact Hheld
  isplitl [Hb] <;> iassumption

/-- What the final memory shows. -/
def fq (d : Dev nD) (s' : Phys nD τ sig (Elt F)) : Prop := ∀ b ∈ Pipeline.ucRefs τ sig, s'.mem.mem (d, b) = atEnd m d b

theorem hfin (d : Dev nD) (s' : Phys nD τ sig (Elt F)) : iprop(FIN m d ∗ SI s') ⊢ (⌜fq m d s'⌝ : sProp (MM F)) := by
  unfold FIN held
  iintro ⟨H, HSI⟩
  ihave %h := (SI_pointsTo_bufs_agree (qs := fun _ => fullShare) (Pipeline.ucRefs τ sig)) $$ [HSI H]
  · isplitl [HSI]; · iexact HSI
    iexact H
  ipureintro
  exact h

/-- Every run of the program ends with its arrays at their last contents and its semaphores at zero. -/
theorem run_main [∀ e, Nonempty (Elt F e)] :
    θ_run (Cert.KernelIdeal.defs (F := F)) (Cert.KernelIdeal.threads (F := F)) ⟨m, fun _ => 0, ρ⟩
      fun r => (∀ c : Dev nD, ∀ b ∈ Pipeline.ucRefs τ sig, r.2.mem (c, b) = atEnd m c b) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h hz => ⟨h, hz⟩)

end Cert.Tile

end
-- ==== Proof.Frames.lean ====
/-
  The three frames: each program ends, leaves its arguments as they were and its semaphores at zero.
-/
module

public import proofs.«01_k».proof.Proof.Launch
public import proofs.«01_k».proof.Proof.Gen.Kernel
public import proofs.«01_k».proof.Defs
public import proofs.«01_k».proof.Proof.Gen.ReferenceIdeal.Run

@[expose] public section

noncomputable section

namespace Cert.Tile

open Cert.KernelIdeal Cert.KernelIdeal.Gen Cert.BallQuery
open Idealize.ShloMosaic
open Idealize.ShloMosaic.StableHlo
open Idealize.SL.Sem

variable {F : FTy → Type} [FloatOps F] (m : (ℓ : Loc nD τ sig) → Buf (Elt F) ℓ) (d : Dev nD)

abbrev argR0 : DevRef τ sig := Proc.devRef .tc (main_arg0 : Ref sig .tc)
abbrev argR1 : DevRef τ sig := Proc.devRef .tc (main_arg1 : Ref sig .tc)
abbrev argR2 : DevRef τ sig := Proc.devRef .tc (main_arg2 : Ref sig .tc)

/-- An array that no operation and no copy writes is what it was. -/
theorem atEnd_arg0 : atEnd m d argR0 = m (d, argR0) := by
  have h1 : atEnd m d argR0 = pastCall m d argR0 := by unfold atEnd opsOut; after_results_simp
  have h2 : atCall m d argR0 = m (d, argR0) := by unfold atCall opsIn; after_results_simp
  rw [h1, pastCall_ne m d (by decide) (by decide), h2]

theorem atEnd_arg1 : atEnd m d argR1 = m (d, argR1) := by
  have h1 : atEnd m d argR1 = pastCall m d argR1 := by unfold atEnd opsOut; after_results_simp
  have h2 : atCall m d argR1 = m (d, argR1) := by unfold atCall opsIn; after_results_simp
  rw [h1, pastCall_ne m d (by decide) (by decide), h2]

theorem atEnd_arg2 : atEnd m d argR2 = m (d, argR2) := by
  have h1 : atEnd m d argR2 = pastCall m d argR2 := by unfold atEnd opsOut; after_results_simp
  have h2 : atCall m d argR2 = m (d, argR2) := by unfold atCall opsIn; after_results_simp
  rw [h1, pastCall_ne m d (by decide) (by decide), h2]

/-- The run, read at the results and the arguments. -/
theorem run_read [∀ e, Nonempty (Elt F e)] (ρ : Dev nD → PrngReg) :
    θ_run (Cert.KernelIdeal.defs (F := F)) (Cert.KernelIdeal.threads (F := F)) ⟨m, fun _ => 0, ρ⟩ fun r =>
      (∀ c : Dev nD, r.2.mem ((c.tc : Thread nD τ).loc main_v7) = atEnd m c (Proc.devRef .tc (main_v7 : Ref sig .tc))
        ∧ r.2.mem ((c.tc : Thread nD τ).loc main_v9) = atEnd m c (Proc.devRef .tc (main_v9 : Ref sig .tc))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run Cert.KernelIdeal.defs _ _).mono (fun _ h =>
    ⟨fun c => ⟨h.1 c (Proc.devRef .tc (main_v7 : Ref sig .tc)) (by decide), h.1 c (Proc.devRef .tc (main_v9 : Ref sig .tc)) (by decide), (h.1 c argR0 (by decide)).trans (atEnd_arg0 m c),
      (h.1 c argR1 (by decide)).trans (atEnd_arg1 m c), (h.1 c argR2 (by decide)).trans (atEnd_arg2 m c)⟩, h.2⟩) (run_main m ρ)

end Cert.Tile

namespace Cert.Proof

open Idealize.ShloMosaic Idealize.SL.Sem

/-- The idealized kernel's frame. -/
theorem frame_kernelIdeal [Cert.KernelIdeal.Facts] : Cert.quiescent_KernelIdeal := fun m ρ _ =>
  (θ_run Cert.KernelIdeal.defs _ _).mono (fun _ h => ⟨fun c => (h.1 c).2.2, h.2⟩) (Cert.Tile.run_read (F := Ideal) m ρ)

/-- The reference's frame: it declares no semaphore. -/
theorem frame_referenceIdeal [Cert.ReferenceIdeal.Facts] : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The kernel's frame: it is the same program text as the idealized one, at the machine's own numbers. -/
theorem frame_kernel [Cert.Kernel.Facts] : Cert.quiescent_Kernel := fun m ρ _ =>
  (θ_run Cert.KernelIdeal.defs _ _).mono (fun _ h => ⟨fun c => (h.1 c).2.2, h.2⟩) (Cert.Tile.run_read (F := Bits) m ρ)

end Cert.Proof

end
-- ==== Proof.Sorted.lean ====
/-
  What a sort of the candidate list gives.

  The reference lists, for a query, every support point's own number if the point is near and 8192 if it is not, and sorts
  the list. The near points then come first, in their order, and 8192 fills the rest (`sorted_keys`).
-/
module

public import proofs.«01_k».proof.Proof.Select
public import Mathlib.Data.Nat.Count
public import Mathlib.Data.Fintype.Card
public import Mathlib.Order.Interval.Finset.Fin
public import Idealize.ShloMosaic.Lib.SortFacts

@[expose] public section

noncomputable section

namespace Cert.BallQuery

open Idealize.ShloMosaic
open scoped Classical

/-- The candidate at place `n` of a list of `N`: the place itself if `P` holds of it, else `N`. -/
def cand (P : Nat → Prop) (N n : Nat) : Nat := if P n then n else N

/-- In an ascending list with `c` entries under `m`, those are the first `c`. -/
theorem lt_iff_of_mono {N : Nat} (f : Fin N → Nat) (hf : ∀ i j : Fin N, i < j → f i ≤ f j) (m : Nat) (k : Fin N) :
    f k < m ↔ k.val < (Finset.univ.filter fun i => f i < m).card := by
  constructor
  · intro h
    have hs : Finset.Iic k ⊆ Finset.univ.filter fun i => f i < m := by
      intro i hi
      rw [Finset.mem_Iic] at hi
      rw [Finset.mem_filter]
      refine ⟨Finset.mem_univ _, ?_⟩
      rcases lt_or_eq_of_le hi with h1 | h1
      · exact lt_of_le_of_lt (hf i k h1) h
      · rw [h1]; exact h
    have := Finset.card_le_card hs
    rw [Fin.card_Iic] at this
    omega
  · intro h
    by_contra hk
    have hs : (Finset.univ.filter fun i => f i < m) ⊆ Finset.Iio k := by
      intro i hi
      rw [Finset.mem_filter] at hi
      rw [Finset.mem_Iio]
      by_contra hik
      rcases lt_or_eq_of_le (not_lt.mp hik) with h1 | h1
      · exact hk (lt_of_le_of_lt (hf k i h1) hi.2)
      · rw [h1] at hk; exact hk hi.2
    have := Finset.card_le_card hs
    rw [Fin.card_Iio] at this
    omega

/-- As many candidates are under `m` as points before `m` satisfy `P`. -/
theorem card_cand_lt (P : Nat → Prop) {N m : Nat} (hm : m ≤ N) :
    (Finset.univ.filter fun n : Fin N => cand P N n.val < m).card = Nat.count P m := by
  rw [Nat.count_eq_card_filter_range, ← Finset.card_map Fin.valEmbedding]
  congr 1
  ext n
  simp only [Finset.mem_map, Finset.mem_filter, Finset.mem_univ, true_and, Finset.mem_range, Fin.valEmbedding_apply]
  constructor
  · rintro ⟨i, hi, rfl⟩
    unfold cand at hi
    split at hi
    · exact ⟨hi, ‹_›⟩
    · omega
  · rintro ⟨h1, h2⟩
    refine ⟨⟨n, by omega⟩, ?_, rfl⟩
    unfold cand
    rw [if_pos h2]; exact h1

theorem nth_spec {P : Nat → Prop} {k N : Nat} (h : k < Nat.count P N) : P (nth P k) ∧ Nat.count P (nth P k) = k := by
  obtain ⟨n, _, h1, h2⟩ := exists_of_lt_count h
  have hn : nth P k = n := by rw [← h2, nth_count h1]
  rw [hn]; exact ⟨h1, h2⟩

/-- The sorted candidates: the places `P` holds of, in order, then `N`. -/
theorem sorted_keys {N : Nat} (P : Nat → Prop) (R : Fin N → Fin N → Bool)
    (hR : ∀ a b, R a b = true ↔ cand P N a.val < cand P N b.val) (k : Fin N) :
    cand P N (sortedFrom R k).val = if k.val < Nat.count P N then nth P k.val else N := by
  have hR' : ∀ a b, R a b = false ↔ cand P N b.val ≤ cand P N a.val := by
    intro a b
    rw [← not_lt, ← hR, Bool.not_eq_true]
  have hmono : ∀ i j : Fin N, i < j → cand P N (sortedFrom R i).val ≤ cand P N (sortedFrom R j).val := by
    intro i j hij
    refine (hR' _ _).mp (sortedFrom_noInversion R R ?_ (fun _ _ h => h) ?_ i j hij)
    · intro a b h
      rw [hR] at h; rw [hR']; omega
    · intro a b c h1 h2
      rw [hR'] at *; omega
  have key : ∀ m, m ≤ N → (cand P N (sortedFrom R k).val < m ↔ k.val < Nat.count P m) := by
    intro m hm
    rw [lt_iff_of_mono (fun i => cand P N (sortedFrom R i).val) hmono m k, ← card_cand_lt P hm]
    rw [Finset.card_bijective (sortedFrom R) ⟨sortedFrom_injective R, sortedFrom_surjective R⟩
      (t := Finset.univ.filter fun n : Fin N => cand P N n.val < m)]
    intro i
    simp only [Finset.mem_filter, Finset.mem_univ, true_and]
  split
  · rename_i hk
    have hlt := nth_lt_of_lt_count hk
    obtain ⟨hP, hc⟩ := nth_spec hk
    have h1 := key (nth P k.val) (by omega)
    have h2 := key (nth P k.val + 1) (by omega)
    rw [hc] at h1
    rw [Nat.count_succ, if_pos hP, hc] at h2
    omega
  · rename_i hk
    have h1 := key N (le_refl _)
    have h2 : cand P N (sortedFrom R k).val ≤ N := by
      have := (sortedFrom R k).isLt
      unfold cand; split <;> omega
    omega

/-- Filled: a place past the near points takes the first entry if it is a point, else point 0. -/
theorem fill_keys (P : Nat → Prop) (f : Nat → Nat) (hf : ∀ k, k < 8192 → f k = if k < Nat.count P 8192 then nth P k else 8192)
    (k : Nat) (hk : k < 8192) :
    (if f k < 8192 then f k else if f 0 < 8192 then f 0 else 0) = pick P k := by
  have hf0 := hf 0 (by omega)
  have hfk := hf k hk
  have hlt : ∀ j, j < Nat.count P 8192 → nth P j < 8192 := fun j hj => nth_lt_of_lt_count hj
  unfold pick
  by_cases h1 : k < Nat.count P 8192
  · have := hlt k h1
    rw [if_pos h1] at hfk
    rw [if_pos h1, hfk, if_pos this]
  · rw [if_neg h1] at hfk
    rw [if_neg h1, hfk, if_neg (lt_irrefl _)]
    by_cases h0 : 0 < Nat.count P 8192
    · have := hlt 0 h0
      rw [if_pos h0] at hf0
      rw [if_pos h0, hf0, if_pos this]
    · rw [if_neg h0] at hf0
      rw [if_neg h0, hf0, if_neg (lt_irrefl _)]

/-- Counts up to `m` depend only on the points before `m`. -/
theorem count_congr {P P' : Nat → Prop} : ∀ {m : Nat}, (∀ n, n < m → (P n ↔ P' n)) → Nat.count P m = Nat.count P' m
  | 0, _ => by rw [Nat.count_zero, Nat.count_zero]
  | m + 1, h => by
    rw [Nat.count_succ, Nat.count_succ, count_congr fun n hn => h n (by omega)]
    by_cases hp : P m
    · rw [if_pos hp, if_pos ((h m (by omega)).mp hp)]
    · rw [if_neg hp, if_neg fun hp' => hp ((h m (by omega)).mpr hp')]

/-- The samples depend only on which of the 8192 points are near. -/
theorem pick_congr {P P' : Nat → Prop} (h : ∀ n, n < 8192 → (P n ↔ P' n)) (k : Nat) : pick P k = pick P' k := by
  have hc := count_congr h
  have hn : ∀ i, i < Nat.count P 8192 → nth P i = nth P' i := by
    intro i hi
    obtain ⟨n, hn, h1, h2⟩ := exists_of_lt_count hi
    have h3 : Nat.count P' n = i := by rw [← h2]; exact (count_congr fun j hj => h j (by omega)).symm
    have h4 := nth_count ((h n hn).mp h1)
    rw [h3] at h4
    rw [h4, ← h2, nth_count h1]
  unfold pick
  rw [← hc]
  by_cases h1 : k < Nat.count P 8192
  · rw [if_pos h1, if_pos h1, hn k h1]
  · rw [if_neg h1, if_neg h1]
    by_cases h0 : 0 < Nat.count P 8192
    · rw [if_pos h0, if_pos h0, hn 0 h0]
    · rw [if_neg h0, if_neg h0]

end Cert.BallQuery

end
-- ==== Proof.RefValue.lean ====
/-
  What the reference's operations give, index by index.

  The reference builds its results in steps: the differences of all pairs of points, the squared distances, the list of
  candidates, the sorted list cut at 32 and filled, and the two gathers. Each step is named here as the reference writes it
  and read at an index.
-/
module

public import proofs.«01_k».proof.Proof.Sorted
public import proofs.«01_k».proof.Proof.Spec
public import proofs.«01_k».proof.Proof.Gen.ReferenceIdeal
public import Idealize.ShloMosaic.PureOps.Ideal.Laws

@[expose] public section

noncomputable section

namespace Cert.RefValue

open Cert.ReferenceIdeal Cert.ReferenceIdeal.Gen Cert.BallQuery
open Idealize.ShloMosaic

/-- The index `(i, j, k)` of an array of rank 3. -/
def at3 {A B C : Nat} (i j k : Nat) (hi : i < A) (hj : j < B) (hk : k < C) : (⟨3, ![A, B, C]⟩ : Shape).Idx
  | 0 => ⟨i, hi⟩
  | 1 => ⟨j, hj⟩
  | 2 => ⟨k, hk⟩

/-- The index `(i, j, k, l)` of an array of rank 4. -/
def at4 {A B C D : Nat} (i j k l : Nat) (hi : i < A) (hj : j < B) (hk : k < C) (hl : l < D) :
    (⟨4, ![A, B, C, D]⟩ : Shape).Idx
  | 0 => ⟨i, hi⟩
  | 1 => ⟨j, hj⟩
  | 2 => ⟨k, hk⟩
  | 3 => ⟨l, hl⟩

theorem eq_at3 {A B C : Nat} (j : (⟨3, ![A, B, C]⟩ : Shape).Idx) :
    j = at3 (j 0).val (j 1).val (j 2).val (j 0).isLt (j 1).isLt (j 2).isLt := by
  funext a
  match a with
  | 0 => rfl
  | 1 => rfl
  | 2 => rfl

theorem eq_at4 {A B C D : Nat} (j : (⟨4, ![A, B, C, D]⟩ : Shape).Idx) :
    j = at4 (j 0).val (j 1).val (j 2).val (j 3).val (j 0).isLt (j 1).isLt (j 2).isLt (j 3).isLt := by
  funext a
  match a with
  | 0 => rfl
  | 1 => rfl
  | 2 => rfl
  | 3 => rfl

/-- Two indices of rank 3 with the same coordinates are one. -/
theorem ext3 {A B C : Nat} {i j : (⟨3, ![A, B, C]⟩ : Shape).Idx} (h0 : (i 0).val = (j 0).val) (h1 : (i 1).val = (j 1).val)
    (h2 : (i 2).val = (j 2).val) : i = j := by
  funext a
  match a with
  | 0 => exact Fin.ext h0
  | 1 => exact Fin.ext h1
  | 2 => exact Fin.ext h2

theorem ext4 {A B C D : Nat} {i j : (⟨4, ![A, B, C, D]⟩ : Shape).Idx} (h0 : (i 0).val = (j 0).val)
    (h1 : (i 1).val = (j 1).val) (h2 : (i 2).val = (j 2).val) (h3 : (i 3).val = (j 3).val) : i = j := by
  funext a
  match a with
  | 0 => exact Fin.ext h0
  | 1 => exact Fin.ext h1
  | 2 => exact Fin.ext h2
  | 3 => exact Fin.ext h3

theorem at3_congr {A B C : Nat} {i i' j j' k k' : Nat} {hi : i < A} {hj : j < B} {hk : k < C} {hi' : i' < A} {hj' : j' < B}
    {hk' : k' < C} (ei : i = i') (ej : j = j') (ek : k = k') :
    (at3 i j k hi hj hk : (⟨3, ![A, B, C]⟩ : Shape).Idx) = at3 i' j' k' hi' hj' hk' := by
  subst ei ej ek; rfl

/-- Two arrays of rank 4 with the same entries are one. -/
theorem funext4 {A B C D : Nat} {α : Type} {f g : (⟨4, ![A, B, C, D]⟩ : Shape).Idx → α}
    (h : ∀ i j k l (hi : i < A) (hj : j < B) (hk : k < C) (hl : l < D), f (at4 i j k l hi hj hk hl) = g (at4 i j k l hi hj hk hl)) :
    f = g := by
  funext j
  have e := eq_at4 j
  exact ((congrArg f e).trans (h _ _ _ _ _ _ _ _)).trans (congrArg g e).symm

/-! ## The squared distances -/

section Mask

variable (Q : FVec Ideal S4x1024x3 .f32) (S : FVec Ideal S4x8192x3 .f32)

/-- The differences of every query and every support point. -/
def diff : FVec Ideal S4x1024x8192x3 .f32 :=
  subf (broadcastInDim S4x1024x8192x3 ![0, 1, 2, 3] bcast_S4x1024x1x3_S4x1024x8192x3_0_1_2_3
      (broadcastInDim S4x1024x1x3 ![0, 1, 3] bcast_S4x1024x3_S4x1024x1x3_0_1_3 Q))
    (broadcastInDim S4x1024x8192x3 ![0, 1, 2, 3] bcast_S4x1x8192x3_S4x1024x8192x3_0_1_2_3
      (broadcastInDim S4x1x8192x3 ![0, 2, 3] bcast_S4x8192x3_S4x1x8192x3_0_2_3 S))

theorem diff_at (j : S4x1024x8192x3.Idx) :
    diff Q S j = (Q (at3 (j 0).val (j 1).val (j 3).val (j 0).isLt (j 1).isLt (j 3).isLt) : EReal)
      - S (at3 (j 0).val (j 2).val (j 3).val (j 0).isLt (j 2).isLt (j 3).isLt) := by
  refine congrArg₂ (fun x y : EReal => x - y) (congrArg Q ?_) (congrArg S ?_)
  · exact ext3 rfl rfl rfl
  · exact ext3 rfl rfl rfl

/-- Their squares, added up. -/
def dist : FVec Ideal S4x1024x8192 .f32 :=
  Host.reduceAdd (mulf (diff Q S) (diff Q S)) (constant S_ .f32 0x00000000#32) reducesTo_S4x1024x8192x3_S4x1024x8192_d3 h_S_

/-- Which support points are near which queries. -/
def mask : IVec S4x1024x8192 1 :=
  cmpf .olt (dist Q S) (broadcastInDim S4x1024x8192 ![] bcast_S_S4x1024x8192 (constant S_ .f32 0x3C23D70A#32))

/-- The square of a difference does not depend on which is taken from which. -/
theorem sq_sub_comm (x y : EReal) : (x - y) * (x - y) = (y - x) * (y - x) := by
  induction x using EReal.rec <;> induction y using EReal.rec <;> try rfl
  rename_i a b
  norm_cast
  ring

theorem dist_at (b q n : Nat) (hb : b < 4) (hq : q < 1024) (hn : n < 8192) :
    dist Q S (at3 b q n hb hq hn) = dist2 (F := Ideal) (S (at3 b n 0 hb hn (by omega))) (S (at3 b n 1 hb hn (by omega)))
      (S (at3 b n 2 hb hn (by omega))) (Q (at3 b q 0 hb hq (by omega))) (Q (at3 b q 1 hb hq (by omega)))
      (Q (at3 b q 2 hb hq (by omega))) := by
  have hr : Shape.Reduces S4x1024x8192x3 [3] S4x1024x8192 := by decide
  have hz : (constant (F := Ideal) S_ .f32 0x00000000#32 (Shape.Idx.first h_S_) : EReal) = 0 := Ideal.ofBits_zero_f32
  show Ideal.hostReduceAdd reducesTo_S4x1024x8192x3_S4x1024x8192_d3 (mulf (diff Q S) (diff Q S)) _ _ = _
  rw [hz]
  refine (Ideal.hostReduceAdd_single _ hr _ _ _).trans ?_
  rw [zero_add]
  refine (Fin.sum_univ_three (M := EReal) _).trans ?_
  have term : ∀ k : Fin 3, (mulf (diff Q S) (diff Q S) (hr.lift (at3 b q n hb hq hn) k) : EReal)
      = (S (at3 b n k.val hb hn k.isLt) - Q (at3 b q k.val hb hq k.isLt) : EReal)
        * (S (at3 b n k.val hb hn k.isLt) - Q (at3 b q k.val hb hq k.isLt) : EReal) := by
    intro k
    have he : hr.lift (at3 b q n hb hq hn) k = at4 b q n k.val hb hq hn k.isLt := ext4 rfl rfl rfl rfl
    show (diff Q S (hr.lift (at3 b q n hb hq hn) k) : EReal) * diff Q S (hr.lift (at3 b q n hb hq hn) k) = _
    rw [he, diff_at, sq_sub_comm]
    rfl
  exact congrArg₂ (fun x y : EReal => x + y) (congrArg₂ (fun x y : EReal => x + y) (term 0) (term 1)) (term 2)

theorem mask_at (b q n : Nat) (hb : b < 4) (hq : q < 1024) (hn : n < 8192) :
    mask Q S (at3 b q n hb hq hn) = 1#1 ↔ within (F := Ideal) (S (at3 b n 0 hb hn (by omega))) (S (at3 b n 1 hb hn (by omega)))
      (S (at3 b n 2 hb hn (by omega))) (Q (at3 b q 0 hb hq (by omega))) (Q (at3 b q 1 hb hq (by omega)))
      (Q (at3 b q 2 hb hq (by omega))) := by
  unfold within
  rw [← dist_at]
  rfl

end Mask

/-! ## The sorted candidates -/

section Sorting

variable (M : IVec S4x1024x8192 1)

/-- The candidates: a near point's own number, 8192 for the others. -/
def cands : IVec S4x1024x8192 32 :=
  select M (broadcastInDim S4x1024x8192 ![0, 1, 2] bcast_S1x1x8192_S4x1024x8192_0_1_2
      (broadcastInDim S1x1x8192 ![2] bcast_S8192_S1x1x8192_2 (iotaInDim S8192 32 0)))
    (broadcastInDim S4x1024x8192 ![] bcast_S_S4x1024x8192 (constantI S_ 32 8192#32))

/-- The points near query `q` of batch `b`, according to a mask. -/
def nearIn (M : IVec S4x1024x8192 1) (b q n : Nat) : Prop :=
  ∃ (hb : b < 4) (hq : q < 1024) (hn : n < 8192), M (at3 b q n hb hq hn) = 1#1

open scoped Classical in
theorem cands_at (b q n : Nat) (hb : b < 4) (hq : q < 1024) (hn : n < 8192) :
    (cands M (at3 b q n hb hq hn)).toNat = cand (nearIn M b q) 8192 n := by
  have h : cands M (at3 b q n hb hq hn) = if M (at3 b q n hb hq hn) = 1#1 then BitVec.ofNat 32 n else 8192#32 := rfl
  rw [h]
  unfold cand
  by_cases hm : M (at3 b q n hb hq hn) = 1#1
  · rw [if_pos hm, if_pos ⟨hb, hq, hn, hm⟩, BitVec.toNat_ofNat]; omega
  · rw [if_neg hm, if_neg (fun ⟨_, _, _, h'⟩ => hm h')]; rfl

/-- The candidates in ascending order, for each query. -/
def sorted : IVec S4x1024x8192 32 := Host.sort S4x1024x8192 2 comparator_i32_d2 (cands M)

theorem along_at3 (b q k : Nat) (hb : b < 4) (hq : q < 1024) (hk : k < 8192) (n : Fin 8192) :
    (at3 b q k hb hq hk : S4x1024x8192.Idx).along 2 n = at3 b q n.val hb hq n.isLt := by
  refine ext3 ?_ ?_ ?_
  · rfl
  · rfl
  · rfl

open scoped Classical in
theorem sorted_at (b q k : Nat) (hb : b < 4) (hq : q < 1024) (hk : k < 8192) :
    (sorted M (at3 b q k hb hq hk)).toNat
      = if k < Nat.count (nearIn M b q) 8192 then nth (nearIn M b q) k else 8192 := by
  let R : Fin 8192 → Fin 8192 → Bool := fun n n' =>
    comparator_i32_d2 (cands M (at3 b q n.val hb hq n.isLt)) (cands M (at3 b q n'.val hb hq n'.isLt)) == 1#1
  have hR : (fun n n' : Fin 8192 => comparator_i32_d2 (cands M ((at3 b q k hb hq hk : S4x1024x8192.Idx).along 2 n))
      (cands M ((at3 b q k hb hq hk : S4x1024x8192.Idx).along 2 n')) == 1#1) = R := by
    funext n n'
    rw [along_at3, along_at3]
  have hs : sorted M (at3 b q k hb hq hk)
      = cands M (at3 b q (sortedFrom R ⟨k, hk⟩).val hb hq (sortedFrom R ⟨k, hk⟩).isLt) :=
    (congrArg (fun R' : Fin 8192 → Fin 8192 → Bool => cands M ((at3 b q k hb hq hk : S4x1024x8192.Idx).along 2
      (sortedFrom R' ⟨k, hk⟩))) hR).trans (congrArg (cands M) (along_at3 b q k hb hq hk _))
  rw [hs, cands_at]
  refine sorted_keys (nearIn M b q) R ?_ ⟨k, hk⟩
  intro n n'
  rw [← cands_at M b q n.val hb hq n.isLt, ← cands_at M b q n'.val hb hq n'.isLt]
  show (_ == 1#1) = true ↔ _
  rw [beq_iff_eq]
  have hle : ∀ i : Fin 8192, (cands M (at3 b q i.val hb hq i.isLt)).toNat < 2 ^ 31 := by
    intro i
    rw [cands_at]
    have := i.isLt
    unfold cand; split <;> omega
  exact slt_iff (hle n) (hle n')

/-- The first 32 of each query. -/
def first32 : IVec S4x1024x32 32 := extractStridedSlice S4x1024x32 ![0, 0, 0] (sorted M) slices_S4x1024x8192_S4x1024x32_0_0_0

/-- The first of each query. -/
def first1 : IVec S4x1024x1 32 := extractStridedSlice S4x1024x1 ![0, 0, 0] (first32 M) slices_S4x1024x32_S4x1024x1_0_0_0

/-- What a place past the near points takes. -/
def filler : IVec S4x1024x1 32 :=
  select (cmpi .slt (first1 M) (broadcastInDim S4x1024x1 ![] bcast_S_S4x1024x1 (constantI S_ 32 8192#32))) (first1 M)
    (broadcastInDim S4x1024x1 ![] bcast_S_S4x1024x1 (constantI S_ 32 0#32))

/-- The samples. -/
def filled : IVec S4x1024x32 32 :=
  select (cmpi .slt (first32 M) (broadcastInDim S4x1024x32 ![] bcast_S_S4x1024x32 (constantI S_ 32 8192#32))) (first32 M)
    (broadcastInDim S4x1024x32 ![0, 1, 2] bcast_S4x1024x1_S4x1024x32_0_1_2 (filler M))

/-- The samples with those under 0 counted from the end, as start indices of a gather. -/
def starts : IVec S4x1024x32x1 32 :=
  broadcastInDim S4x1024x32x1 ![0, 1, 2] bcast_S4x1024x32_S4x1024x32x1_0_1_2
    (select (cmpi .slt (filled M) (broadcastInDim S4x1024x32 ![] bcast_S_S4x1024x32 (constantI S_ 32 0#32)))
      (addi (filled M) (broadcastInDim S4x1024x32 ![] bcast_S_S4x1024x32 (constantI S_ 32 8192#32))) (filled M))

theorem first32_at (b q k : Nat) (hb : b < 4) (hq : q < 1024) (hk : k < 32) :
    first32 M (at3 b q k hb hq hk) = sorted M (at3 b q k hb hq (by omega)) := by
  refine congrArg (sorted M) (ext3 ?_ ?_ ?_)
  · exact Nat.zero_add _
  · exact Nat.zero_add _
  · exact Nat.zero_add _

theorem first1_at (b q : Nat) (hb : b < 4) (hq : q < 1024) :
    first1 M (at3 b q 0 hb hq (by omega)) = sorted M (at3 b q 0 hb hq (by omega)) := by
  have he : ∀ x : IVec S4x1024x32 32, extractStridedSlice S4x1024x1 ![0, 0, 0] x slices_S4x1024x32_S4x1024x1_0_0_0
      (at3 b q 0 hb hq (by omega)) = x (at3 b q 0 hb hq (by omega)) := by
    intro x
    refine congrArg x (ext3 ?_ ?_ ?_)
    · exact Nat.zero_add _
    · exact Nat.zero_add _
    · rfl
  unfold first1
  rw [he, first32_at]

theorem sorted_le (b q k : Nat) (hb : b < 4) (hq : q < 1024) (hk : k < 8192) :
    (sorted M (at3 b q k hb hq hk)).toNat ≤ 8192 := by
  rw [sorted_at]
  split
  · rename_i h
    exact le_of_lt (nth_lt_of_lt_count (N := 8192) h)
  · exact Nat.le_refl 8192

/-- A choice by a signed comparison of words under 2³¹, read as a number. -/
theorem pickWord (x y z w : BitVec 32) (hx : x.toNat < 2 ^ 31) (hw : w.toNat < 2 ^ 31) :
    (if IntOp.cmpi .slt x w = 1#1 then y else z).toNat = if x.toNat < w.toNat then y.toNat else z.toNat := by
  by_cases h : x.toNat < w.toNat
  · rw [if_pos h, if_pos ((slt_iff hx hw).mpr h)]
  · rw [if_neg h, if_neg (fun h' => h ((slt_iff hx hw).mp h'))]

theorem filled_at (b q k : Nat) (hb : b < 4) (hq : q < 1024) (hk : k < 32) :
    (filled M (at3 b q k hb hq hk)).toNat = pick (nearIn M b q) k := by
  have h1 : filled M (at3 b q k hb hq hk)
      = if IntOp.cmpi .slt (first32 M (at3 b q k hb hq hk)) 8192#32 = 1#1 then first32 M (at3 b q k hb hq hk)
        else filler M (at3 b q 0 hb hq (by omega)) := by
    have he : broadcastInDim S4x1024x32 ![0, 1, 2] bcast_S4x1024x1_S4x1024x32_0_1_2 (filler M) (at3 b q k hb hq hk)
        = filler M (at3 b q 0 hb hq (by omega)) := congrArg (filler M) (ext3 rfl rfl rfl)
    rw [← he]; rfl
  have h2 : filler M (at3 b q 0 hb hq (by omega))
      = if IntOp.cmpi .slt (first1 M (at3 b q 0 hb hq (by omega))) 8192#32 = 1#1 then first1 M (at3 b q 0 hb hq (by omega))
        else 0#32 := rfl
  have hl := fun i (hi : i < 8192) => sorted_le M b q i hb hq hi
  rw [h1, h2, first32_at, first1_at, pickWord _ _ _ _ (by have := hl k (by omega); omega) (by decide),
    pickWord _ _ _ _ (by have := hl 0 (by omega); omega) (by decide)]
  have hf := fill_keys (nearIn M b q) (fun i => if hi : i < 8192 then (sorted M (at3 b q i hb hq hi)).toNat else 0)
    (fun i hi => by rw [dif_pos hi, sorted_at]) k (by omega)
  simp only [dif_pos (show k < 8192 by omega), dif_pos (show (0 : Nat) < 8192 by omega)] at hf
  exact hf

theorem starts_at (b q k : Nat) (hb : b < 4) (hq : q < 1024) (hk : k < 32) :
    (starts M (at4 b q k 0 hb hq hk (by omega))).toNat = pick (nearIn M b q) k := by
  have h1 : starts M (at4 b q k 0 hb hq hk (by omega))
      = if IntOp.cmpi .slt (filled M (at3 b q k hb hq hk)) 0#32 = 1#1 then filled M (at3 b q k hb hq hk) + 8192#32
        else filled M (at3 b q k hb hq hk) := by
    have he : ∀ x : IVec S4x1024x32 32, broadcastInDim S4x1024x32x1 ![0, 1, 2] bcast_S4x1024x32_S4x1024x32x1_0_1_2 x
        (at4 b q k 0 hb hq hk (by omega)) = x (at3 b q k hb hq hk) := fun x => congrArg x (ext3 rfl rfl rfl)
    exact he _
  have := pick_lt (nearIn M b q) k
  rw [h1, pickWord _ _ _ _ (by rw [filled_at]; omega) (by decide), if_neg (by exact Nat.not_lt_zero _), filled_at]

end Sorting

/-! ## The gathers -/

/-- The dimension numbers of a gather of columns: column `idx (b, q, k)` of page `b`, for each of the `A` rows. -/
abbrev colDims (A : Nat)
    (wf : GatherDims.WF ⟨3, ![4, A, 8192]⟩ ⟨4, ![4, 1024, 32, 1]⟩ ⟨4, ![4, A, 1024, 32]⟩ [1] [2] [0] [2] [0] 3 ![1, A, 1]) :
    GatherDims ⟨3, ![4, A, 8192]⟩ ⟨4, ![4, 1024, 32, 1]⟩ ⟨4, ![4, A, 1024, 32]⟩ where
  offsetDims := [1]
  collapsedSliceDims := [2]
  operandBatchingDims := [0]
  startIndicesBatchingDims := [0]
  startIndexMap := [2]
  indexVectorDim := 3
  sliceSizes := ![1, A, 1]
  wf := wf

theorem gather_at {A : Nat}
    (wf : GatherDims.WF ⟨3, ![4, A, 8192]⟩ ⟨4, ![4, 1024, 32, 1]⟩ ⟨4, ![4, A, 1024, 32]⟩ [1] [2] [0] [2] [0] 3 ![1, A, 1])
    {α : Type} (x : (⟨3, ![4, A, 8192]⟩ : Shape).Idx → α) (idx : IVec ⟨4, ![4, 1024, 32, 1]⟩ 32)
    (b a q k n : Nat) (hb : b < 4) (ha : a < A) (hq : q < 1024) (hk : k < 32) (hn : n < 8192)
    (h : (idx (at4 b q k 0 hb hq hk (by omega))).toNat = n) :
    Host.gather (colDims A wf) x idx (at4 b a q k hb ha hq hk) = x (at3 b a n hb ha hn) := by
  unfold Host.gather
  refine congrArg x (ext3 ?_ ?_ ?_)
  · show (colDims A wf).start _ idx 0 + (colDims A wf).batchCoord _ 0 + (colDims A wf).offCoord _ 0 = b
    rw [GatherDims.start_batching _ _ _ _ (List.mem_singleton.mpr rfl),
      GatherDims.offCoord_eq_zero _ _ _ (fun h => ((GatherDims.mem_sKept _ _).1 h).2 (List.mem_singleton.mpr rfl))]
    exact (Nat.zero_add _).trans rfl
  · have h10 : (1 : Fin 3) ∉ ([0] : List (Fin 3)) := by decide
    have h12 : (1 : Fin 3) ∉ ([2] : List (Fin 3)) := by decide
    show (colDims A wf).start _ idx 1 + (colDims A wf).batchCoord _ 1 + (colDims A wf).offCoord _ 1 = a
    rw [GatherDims.batchCoord_eq_zero _ _ _ h10]
    have : (colDims A wf).start (at4 b a q k hb ha hq hk) idx 1 = 0 := by
      unfold GatherDims.start; rw [dif_neg h12]
    rw [this]
    exact (Nat.zero_add _).trans rfl
  · have h20 : (2 : Fin 3) ∉ ([0] : List (Fin 3)) := by decide
    show (colDims A wf).start _ idx 2 + (colDims A wf).batchCoord _ 2 + (colDims A wf).offCoord _ 2 = n
    rw [GatherDims.batchCoord_eq_zero _ _ _ h20,
      GatherDims.offCoord_eq_zero _ _ _ (fun h => ((GatherDims.mem_sKept _ _).1 h).1 (List.mem_singleton.mpr rfl))]
    unfold GatherDims.start
    rw [dif_pos (show (2 : Fin 3) ∈ (colDims A wf).startIndexMap from List.mem_singleton.mpr rfl)]
    have hsi : (colDims A wf).siIdx (at4 b a q k hb ha hq hk) ⟨List.idxOf (2 : Fin 3) (colDims A wf).startIndexMap,
        List.idxOf_lt_length_iff.2 (List.mem_singleton.mpr rfl)⟩ = at4 b q k 0 hb hq hk (by omega) := ext4 rfl rfl rfl rfl
    rw [hsi, BitVec.toInt_eq_toNat_of_lt (by omega), h]
    show min n 8191 + 0 + 0 = n
    omega

/-! ## The two results -/

section Results

variable (Q : FVec Ideal S4x1024x3 .f32) (S : FVec Ideal S4x8192x3 .f32) (W : FVec Ideal S4x128x8192 .f32)

/-- The relative coordinates of the samples. -/
def refXyz : FVec Ideal S4x3x1024x32 .f32 :=
  subf (Host.gather gather_S4x3x8192_S4x1024x32x1_S4x3x1024x32_1_2_0_0_2_3_131
      (transpose S4x3x8192 [0, 2, 1] S transposes_S4x8192x3_S4x3x8192_0_2_1) (starts (mask Q S)))
    (broadcastInDim S4x3x1024x32 ![0, 1, 2, 3] bcast_S4x3x1024x1_S4x3x1024x32_0_1_2_3
      (broadcastInDim S4x3x1024x1 ![0, 1, 2] bcast_S4x3x1024_S4x3x1024x1_0_1_2
        (transpose S4x3x1024 [0, 2, 1] Q transposes_S4x1024x3_S4x3x1024_0_2_1)))

/-- The features of the samples. -/
def refRows : FVec Ideal S4x128x1024x32 .f32 :=
  Host.gather gather_S4x128x8192_S4x1024x32x1_S4x128x1024x32_1_2_0_0_2_3_11281 W (starts (mask Q S))

theorem refXyz_at (b a q k : Nat) (hb : b < 4) (ha : a < 3) (hq : q < 1024) (hk : k < 32) :
    refXyz Q S (at4 b a q k hb ha hq hk) = FloatOps.subf (F := Ideal) (φ := .f32)
      (S (at3 b (pick (nearIn (mask Q S) b q) k) a hb (pick_lt _ _) ha)) (Q (at3 b q a hb hq ha)) := by
  refine congrArg₂ (fun x y : EReal => x - y) ?_ (congrArg Q (ext3 rfl rfl rfl))
  refine (gather_at gather_S4x3x8192_S4x1024x32x1_S4x3x1024x32_1_2_0_0_2_3_131_wf _ _ b a q k _ hb ha hq hk
    (pick_lt (nearIn (mask Q S) b q) k) (starts_at (mask Q S) b q k hb hq hk)).trans ?_
  have ht : ∀ n (hn : n < 8192), transpose S4x3x8192 [0, 2, 1] S transposes_S4x8192x3_S4x3x8192_0_2_1 (at3 b a n hb ha hn)
      = S (at3 b n a hb hn ha) := fun n hn => congrArg S (ext3 rfl rfl rfl)
  exact ht _ _

theorem refRows_at (b f q k : Nat) (hb : b < 4) (hf : f < 128) (hq : q < 1024) (hk : k < 32) :
    refRows Q S W (at4 b f q k hb hf hq hk) = W (at3 b f (pick (nearIn (mask Q S) b q) k) hb hf (pick_lt _ _)) :=
  gather_at gather_S4x128x8192_S4x1024x32x1_S4x128x1024x32_1_2_0_0_2_3_11281_wf _ _ b f q k _ hb hf hq hk
    (pick_lt (nearIn (mask Q S) b q) k) (starts_at (mask Q S) b q k hb hq hk)

end Results

end Cert.RefValue

end
-- ==== Proof.Values.lean ====
/-
  The kernel's two results and the reference's are the same arrays.

  The kernel's operands are the arguments with their axes exchanged and flattened, its results the flat arrays the tiles
  write with their shapes given back. Read at an index, both programs give the same sample of the same support point.
-/
module

public import proofs.«01_k».proof.Proof.Frames
public import proofs.«01_k».proof.Proof.RefValue
public import Idealize.ShloMosaic.Lib.Pointwise.Reshape

@[expose] public section

noncomputable section

namespace Cert.Tile

open Cert.KernelIdeal Cert.KernelIdeal.Gen Cert.BallQuery Cert.RefValue
open Idealize.ShloMosaic
open Idealize.ShloMosaic.StableHlo
open Idealize.SL.Sem

/-! ## Reshapes at an index -/

/-- An array of rank 3 flattened, at the place of `(i, j, k)`. -/
theorem flat3 {A B C N : Nat} {α : Type} (x : (⟨3, ![A, B, C]⟩ : Shape).Idx → α)
    (h : (⟨3, ![A, B, C]⟩ : Shape).ShapeCasts (L1 N)) (i j k n : Nat) (hi : i < A) (hj : j < B) (hk : k < C) (hn : n < N)
    (e : n = (i * B + j) * C + k) : shapeCast (L1 N) x h (ix n hn) = x (at3 i j k hi hj hk) := by
  refine congrArg x (Shape.reshapeEquiv_eq_of_vals h _ _ _ _ (rowMajor_val3 _ (B * C) C rfl rfl) (rowMajor_val1 _) ?_)
  show i * (B * C) + j * C + k = n
  rw [e, Nat.add_mul, Nat.mul_assoc]

/-- An array of rank 3 with its first two axes merged, at row `(i, j)`. -/
theorem rows3 {A B C N : Nat} {α : Type} (x : (⟨3, ![A, B, C]⟩ : Shape).Idx → α)
    (h : (⟨3, ![A, B, C]⟩ : Shape).ShapeCasts ⟨2, ![N, C]⟩) (i j k n : Nat) (hi : i < A) (hj : j < B) (hk : k < C)
    (hn : n < N) (e : n = i * B + j) :
    shapeCast (⟨2, ![N, C]⟩ : Shape) x h (ix2 n k hn hk) = x (at3 i j k hi hj hk) := by
  refine congrArg x (Shape.reshapeEquiv_eq_of_vals h _ _ _ _ (rowMajor_val3 _ (B * C) C rfl rfl) (rowMajor_val2 _ C rfl) ?_)
  show i * (B * C) + j * C + k = n * C + k
  rw [e, Nat.add_mul, Nat.mul_assoc]

/-- A flat array given four axes, at `(i, j, k, l)`. -/
theorem unflat4 {A B C D N : Nat} {α : Type} (x : (L1 N).Idx → α)
    (h : (L1 N).ShapeCasts ⟨4, ![A, B, C, D]⟩) (i j k l n : Nat) (hi : i < A) (hj : j < B) (hk : k < C) (hl : l < D)
    (hn : n < N) (e : n = ((i * B + j) * C + k) * D + l) :
    shapeCast (⟨4, ![A, B, C, D]⟩ : Shape) x h (at4 i j k l hi hj hk hl) = x (ix n hn) := by
  refine congrArg x (Shape.reshapeEquiv_eq_of_vals h _ _ _ _ (rowMajor_val1 _)
    (rowMajor_val4 _ (B * (C * D)) (C * D) D rfl rfl rfl) ?_)
  show n = i * (B * (C * D)) + j * (C * D) + k * D + l
  rw [e]; ring

/-- A table with its rows given three axes, at `(i, j, k, l)`. -/
theorem unrows4 {A B C D N : Nat} {α : Type} (x : (⟨2, ![N, D]⟩ : Shape).Idx → α)
    (h : (⟨2, ![N, D]⟩ : Shape).ShapeCasts ⟨4, ![A, B, C, D]⟩) (i j k l n : Nat) (hi : i < A) (hj : j < B) (hk : k < C)
    (hl : l < D) (hn : n < N) (e : n = (i * B + j) * C + k) :
    shapeCast (⟨4, ![A, B, C, D]⟩ : Shape) x h (at4 i j k l hi hj hk hl) = x (ix2 n l hn hl) := by
  refine congrArg x (Shape.reshapeEquiv_eq_of_vals h _ _ _ _ (rowMajor_val2 _ D rfl)
    (rowMajor_val4 _ (B * (C * D)) (C * D) D rfl rfl rfl) ?_)
  show n * D + l = i * (B * (C * D)) + j * (C * D) + k * D + l
  rw [e]; ring

/-! ## The operands of the call -/

section Operands

variable {F : FTy → Type} [FloatOps F] (m : (ℓ : Loc nD τ sig) → Buf (Elt F) ℓ) (d : Dev nD)

/-- The arguments. -/
def Qa : S4x1024x3.Idx → F .f32 := m (d, argR0)
def Sa : S4x8192x3.Idx → F .f32 := m (d, argR1)
def Wa : S4x128x8192.Idx → F .f32 := m (d, argR2)

theorem QTof_eq : QTof m d = shapeCast S12288 (transpose S4x3x1024 [0, 2, 1] (Qa m d) transposes_S4x1024x3_S4x3x1024_0_2_1)
    shapeCasts_S4x3x1024_S12288 := by
  unfold QTof atCall opsIn
  after_results_simp
  rfl

theorem STof_eq : STof m d = shapeCast S98304 (transpose S4x3x8192 [0, 2, 1] (Sa m d) transposes_S4x8192x3_S4x3x8192_0_2_1)
    shapeCasts_S4x3x8192_S98304 := by
  unfold STof atCall opsIn
  after_results_simp
  rfl

theorem FFof_eq : FFof m d = shapeCast S32768x128
    (transpose S4x8192x128 [0, 2, 1] (Wa m d) transposes_S4x128x8192_S4x8192x128_0_2_1) shapeCasts_S4x8192x128_S32768x128 := by
  unfold FFof atCall opsIn
  after_results_simp
  rfl

theorem rd_QT (b a q : Nat) (hb : b < 4) (ha : a < 3) (hq : q < 1024) :
    rd (QTof m d) ((b * 3 + a) * 1024 + q) = Qa m d (at3 b q a hb hq ha) := by
  rw [rd_of_lt (QTof m d) (n := (b * 3 + a) * 1024 + q) (by omega), QTof_eq]
  exact (flat3 _ _ b a q _ hb ha hq _ rfl).trans (congrArg (Qa m d) (ext3 rfl rfl rfl))

theorem rd_ST (b a n : Nat) (hb : b < 4) (ha : a < 3) (hn : n < 8192) :
    rd (STof m d) ((b * 3 + a) * 8192 + n) = Sa m d (at3 b n a hb hn ha) := by
  rw [rd_of_lt (STof m d) (n := (b * 3 + a) * 8192 + n) (by omega), STof_eq]
  exact (flat3 _ _ b a n _ hb ha hn _ rfl).trans (congrArg (Sa m d) (ext3 rfl rfl rfl))

theorem FF_at (b n f r : Nat) (hb : b < 4) (hn : n < 8192) (hf : f < 128) (hr : r < 32768) (e : r = b * 8192 + n) :
    FFof m d (ix2 r f hr hf) = Wa m d (at3 b f n hb hf hn) := by
  rw [FFof_eq]
  exact (rows3 _ _ b n f r hb hn hf hr e).trans (congrArg (Wa m d) (ext3 rfl rfl rfl))

/-! ## The results -/

abbrev xyzR : DevRef τ sig := Proc.devRef .tc (main_v7 : Ref sig .tc)
abbrev rowsR : DevRef τ sig := Proc.devRef .tc (main_v9 : Ref sig .tc)

theorem atEnd_xyz : (atEnd m d xyzR : S4x3x1024x32.Idx → F .f32)
    = shapeCast S4x3x1024x32 (outXyz (QTof m d) (STof m d)) shapeCasts_S393216_S4x3x1024x32 := by
  have h : (atEnd m d xyzR : S4x3x1024x32.Idx → F .f32)
      = shapeCast S4x3x1024x32 (pastCall m d oxR : S393216.Idx → F .f32) shapeCasts_S393216_S4x3x1024x32 := by
    unfold atEnd opsOut
    after_results_simp
    rfl
  rw [h, pastCall_ox]; rfl

theorem atEnd_rows : (atEnd m d rowsR : S4x128x1024x32.Idx → F .f32)
    = transpose S4x128x1024x32 [0, 3, 1, 2] (shapeCast S4x1024x32x128 (outRows (QTof m d) (STof m d) (FFof m d))
        shapeCasts_S131072x128_S4x1024x32x128) transposes_S4x1024x32x128_S4x128x1024x32_0_3_1_2 := by
  have h : (atEnd m d rowsR : S4x128x1024x32.Idx → F .f32)
      = transpose S4x128x1024x32 [0, 3, 1, 2] (shapeCast S4x1024x32x128 (pastCall m d orR : S131072x128.Idx → F .f32)
        shapeCasts_S131072x128_S4x1024x32x128) transposes_S4x1024x32x128_S4x128x1024x32_0_3_1_2 := by
    unfold atEnd opsOut
    after_results_simp
    rfl
  rw [h, pastCall_or]; rfl

theorem xyz_at (b a q k : Nat) (hb : b < 4) (ha : a < 3) (hq : q < 1024) (hk : k < 32) :
    (atEnd m d xyzR : S4x3x1024x32.Idx → F .f32) (at4 b a q k hb ha hq hk)
      = FloatOps.subf (Sa m d (at3 b (sel (QTof m d) (STof m d) b q k) a hb (sel_lt _ _ _ _ _) ha)) (Qa m d (at3 b q a hb hq ha)) := by
  rw [atEnd_xyz]
  refine (unflat4 _ _ b a q k (((b * 3 + a) * 1024 + q) * 32 + k) hb ha hq hk (by omega) rfl).trans ?_
  unfold outXyz
  have h0 : (ix (n := 393216) (((b * 3 + a) * 1024 + q) * 32 + k) (by omega) 0).val = ((b * 3 + a) * 1024 + q) * 32 + k := rfl
  rw [h0, show (((b * 3 + a) * 1024 + q) * 32 + k) / 98304 = b by omega,
    show (((b * 3 + a) * 1024 + q) * 32 + k) / 32768 % 3 = a by omega,
    show (((b * 3 + a) * 1024 + q) * 32 + k) / 32 % 1024 = q by omega,
    show (((b * 3 + a) * 1024 + q) * 32 + k) % 32 = k by omega]
  unfold offXyz
  rw [rd_ST m d b a _ hb ha (sel_lt _ _ _ _ _), rd_QT m d b a q hb ha hq]

theorem rows_at (b f q k : Nat) (hb : b < 4) (hf : f < 128) (hq : q < 1024) (hk : k < 32) :
    (atEnd m d rowsR : S4x128x1024x32.Idx → F .f32) (at4 b f q k hb hf hq hk)
      = Wa m d (at3 b f (sel (QTof m d) (STof m d) b q k) hb hf (sel_lt _ _ _ _ _)) := by
  rw [atEnd_rows]
  have ht : ∀ x : S4x1024x32x128.Idx → F .f32, transpose S4x128x1024x32 [0, 3, 1, 2] x
      transposes_S4x1024x32x128_S4x128x1024x32_0_3_1_2 (at4 b f q k hb hf hq hk) = x (at4 b q k f hb hq hk hf) :=
    fun x => congrArg x (ext4 rfl rfl rfl rfl)
  rw [ht]
  refine (unrows4 _ _ b q k f ((b * 1024 + q) * 32 + k) hb hq hk hf (by omega) rfl).trans ?_
  refine FF_at m d b (sel (QTof m d) (STof m d) b q k) f _ hb (sel_lt _ _ _ _ _) hf _ ?_
  show rowOf (QTof m d) (STof m d) ((b * 1024 + q) * 32 + k) = _
  unfold rowOf
  rw [show ((b * 1024 + q) * 32 + k) / 32768 = b by omega, show ((b * 1024 + q) * 32 + k) / 32 % 1024 = q by omega,
    show ((b * 1024 + q) * 32 + k) % 32 = k by omega]

end Operands

/-! ## The same samples -/

section Same

variable (m : (ℓ : Loc nD τ sig) → Buf (Elt Ideal) ℓ) (d : Dev nD)

theorem sel_eq (b q k : Nat) (hb : b < 4) (hq : q < 1024) :
    sel (QTof m d) (STof m d) b q k = pick (nearIn (mask (Qa m d) (Sa m d)) b q) k := by
  refine pick_congr (fun n hn => ?_) k
  have h : nearIn (mask (Qa m d) (Sa m d)) b q n ↔ mask (Qa m d) (Sa m d) (at3 b q n hb hq hn) = 1#1 :=
    ⟨fun ⟨_, _, _, h⟩ => h, fun h => ⟨hb, hq, hn, h⟩⟩
  rw [h, mask_at]
  unfold near
  rw [rd_ST m d b 0 n hb (by omega) hn, rd_ST m d b 1 n hb (by omega) hn, rd_ST m d b 2 n hb (by omega) hn,
    rd_QT m d b 0 q hb (by omega) hq, rd_QT m d b 1 q hb (by omega) hq, rd_QT m d b 2 q hb (by omega) hq]

theorem xyz_same : (atEnd m d xyzR : S4x3x1024x32.Idx → Ideal .f32) = refXyz (Qa m d) (Sa m d) := by
  refine funext4 fun b a q k hb ha hq hk => ?_
  rw [xyz_at, refXyz_at]
  exact congrArg (fun x => FloatOps.subf x _) (congrArg (Sa m d) (at3_congr rfl (sel_eq m d b q k hb hq) rfl))

theorem rows_same : (atEnd m d rowsR : S4x128x1024x32.Idx → Ideal .f32) = refRows (Qa m d) (Sa m d) (Wa m d) := by
  refine funext4 fun b f q k hb hf hq hk => ?_
  rw [rows_at, refRows_at]
  exact congrArg (Wa m d) (at3_congr rfl rfl (sel_eq m d b q k hb hq))

end Same

end Cert.Tile

namespace Cert.Proof

open Cert.RefValue
open Idealize.ShloMosaic Idealize.SL.Sem

section Reference

open Cert.ReferenceIdeal

variable (m : (ℓ : Loc nD τ sig) → Buf (Elt Ideal) ℓ) (c : Dev nD)

/-- The reference's results, in the names given to its steps. -/
theorem ref_xyz : Value.res_main_v32 m c
    = refXyz (m ((c.tc : Thread nD τ).loc main_arg0)) (m ((c.tc : Thread nD τ).loc main_arg1)) := rfl

theorem ref_rows : Value.res_main_v39 m c = refRows (m ((c.tc : Thread nD τ).loc main_arg0))
    (m ((c.tc : Thread nD τ).loc main_arg1)) (m ((c.tc : Thread nD τ).loc main_arg2)) := rfl

end Reference

/-- From the same arguments the kernel and the reference end with the same results. -/
theorem algebraic [Cert.KernelIdeal.Facts] [Cert.ReferenceIdeal.Facts] : Cert.algebraic_KernelIdeal_ReferenceIdeal := by
  intro m ρ m' ρ' _ hargs
  refine ⟨fun c => Cert.Tile.atEnd m c Cert.Tile.xyzR, fun c => Cert.Tile.atEnd m c Cert.Tile.rowsR,
    (θ_run Cert.KernelIdeal.defs _ _).mono (fun _ h => h.1) (Cert.Tile.run_read (F := Ideal) m ρ), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [ref_xyz, (hargs c).1, (hargs c).2.1]
    exact (Cert.Tile.xyz_same m c).symm
  · rw [ref_rows, (hargs c).1, (hargs c).2.1, (hargs c).2.2]
    exact (Cert.Tile.rows_same m c).symm

end Cert.Proof

end
-- ==== Proof.lean ====
module

public import proofs.«01_k».proof.Defs
public import proofs.«01_k».proof.Proof.Frames
public import proofs.«01_k».proof.Proof.Values
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
